-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2560 : Shape := ⟨2, ![8192, 2560]⟩
abbrev S3x864x2560 : Shape := ⟨3, ![3, 864, 2560]⟩
abbrev S3x864x160 : Shape := ⟨3, ![3, 864, 160]⟩
abbrev S432x160 : Shape := ⟨2, ![432, 160]⟩
abbrev S2x216x8x128 : Shape := ⟨4, ![2, 216, 8, 128]⟩
abbrev S8192x6912 : Shape := ⟨2, ![8192, 6912]⟩
abbrev S1024x2560 : Shape := ⟨2, ![1024, 2560]⟩
abbrev S1024x768 : Shape := ⟨2, ![1024, 768]⟩
abbrev S768x2560 : Shape := ⟨2, ![768, 2560]⟩
abbrev S2x432x128 : Shape := ⟨3, ![2, 432, 128]⟩
abbrev S432x128 : Shape := ⟨2, ![432, 128]⟩
abbrev S1x432x128 : Shape := ⟨3, ![1, 432, 128]⟩
abbrev S432x32 : Shape := ⟨2, ![432, 32]⟩
abbrev S432x96 : Shape := ⟨2, ![432, 96]⟩
abbrev S1x32x128 : Shape := ⟨3, ![1, 32, 128]⟩
abbrev S32x128 : Shape := ⟨2, ![32, 128]⟩
abbrev S8x128 : Shape := ⟨2, ![8, 128]⟩
abbrev S1x1x128 : Shape := ⟨3, ![1, 1, 128]⟩
abbrev S1x128 : Shape := ⟨2, ![1, 128]⟩
abbrev S16x128 : Shape := ⟨2, ![16, 128]⟩
abbrev S1x32x32 : Shape := ⟨3, ![1, 32, 32]⟩
abbrev S32x32 : Shape := ⟨2, ![32, 32]⟩
abbrev S8x32 : Shape := ⟨2, ![8, 32]⟩
abbrev S8x96 : Shape := ⟨2, ![8, 96]⟩
abbrev S1x1x8x128 : Shape := ⟨4, ![1, 1, 8, 128]⟩
abbrev S16x128x1 : Shape := ⟨3, ![16, 128, 1]⟩
abbrev S8x128x1 : Shape := ⟨3, ![8, 128, 1]⟩
abbrev S256x2560 : Shape := ⟨2, ![256, 2560]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S8192x2560, .bf16⟩
  | .hbm, ⟨1, _⟩ => ⟨S3x864x2560, .i8⟩
  | .hbm, ⟨2, _⟩ => ⟨S3x864x160, .i8⟩
  | .hbm, ⟨3, _⟩ => ⟨S3x864x160, .i8⟩
  | .hbm, ⟨4, _⟩ => ⟨S432x160, .bf16⟩
  | .hbm, ⟨5, _⟩ => ⟨S432x160, .bf16⟩
  | .hbm, ⟨6, _⟩ => ⟨S432x160, .bf16⟩
  | .hbm, ⟨7, _⟩ => ⟨S432x160, .bf16⟩
  | .hbm, ⟨8, _⟩ => ⟨S2x216x8x128, .i32⟩
  | .hbm, ⟨9, _⟩ => ⟨S8192x6912, .bf16⟩
  | .local _ .vmem, ⟨0, _⟩ => ⟨S1024x2560, .bf16⟩
  | .local _ .vmem, ⟨1, _⟩ => ⟨S1024x2560, .bf16⟩
  | .local _ .vmem, ⟨2, _⟩ => ⟨S3x864x2560, .i8⟩
  | .local _ .vmem, ⟨3, _⟩ => ⟨S3x864x160, .i8⟩
  | .local _ .vmem, ⟨4, _⟩ => ⟨S3x864x160, .i8⟩
  | .local _ .vmem, ⟨5, _⟩ => ⟨S432x160, .bf16⟩
  | .local _ .vmem, ⟨6, _⟩ => ⟨S432x160, .bf16⟩
  | .local _ .vmem, ⟨7, _⟩ => ⟨S432x160, .bf16⟩
  | .local _ .vmem, ⟨8, _⟩ => ⟨S432x160, .bf16⟩
  | .local _ .vmem, ⟨9, _⟩ => ⟨S2x216x8x128, .i32⟩
  | .local _ .vmem, ⟨10, _⟩ => ⟨S1024x768, .bf16⟩
  | .local _ .vmem, ⟨11, _⟩ => ⟨S1024x768, .bf16⟩
  | .local _ .vmem, ⟨12, _⟩ => ⟨S768x2560, .bf16⟩
  | .local _ .vmem, ⟨13, _⟩ => ⟨S768x2560, .bf16⟩
  | .local _ .vmem, ⟨14, _⟩ => ⟨S2x432x128, .f32⟩
  | .local _ .vmem, ⟨15, _⟩ => ⟨S2x432x128, .f32⟩
  | .local _ .vmem, ⟨16, _⟩ => ⟨S2x432x128, .f32⟩
  | .local _ .vmem, ⟨17, _⟩ => ⟨S2x432x128, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_58 : BitVec 32 := 0#32
  let c24_i32 : BitVec 32 := 24#32
  let v82 : BitVec 32 := Scalar.addi c0_i32_58 c24_i32
  let c1_i32_59 : BitVec 32 := 1#32
  ⟨c0_i32_58, v82, c1_i32_59⟩
def k0_mult1 (k0_t1 : Fin k0_t1_loop.trips) : BitVec 32 :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  v85
def k0_mult2 (k0_t1 : Fin k0_t1_loop.trips) : BitVec 32 :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  v90
def k0_off1 (k0_t1 : Fin k0_t1_loop.trips) : Fin 3 → Nat :=
  let c0_65 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v92 : Index := Scalar.indexCast v91
  let c0_66 : Index := 0#32
  ![0, v92.toNat, 0]
def k0_off2 (k0_t1 : Fin k0_t1_loop.trips) : Fin 3 → Nat :=
  let c1_67 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v96 : Index := Scalar.indexCast v91
  let c0_68 : Index := 0#32
  ![1, v96.toNat, 0]
def k0_off3 (k0_t1 : Fin k0_t1_loop.trips) : Fin 3 → Nat :=
  let c2 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v100 : Index := Scalar.indexCast v91
  let c0_69 : Index := 0#32
  ![2, v100.toNat, 0]
def k0_off4 (k0_t1 : Fin k0_t1_loop.trips) (c0_i32_75 : BitVec 32) : Fin 3 → Nat :=
  let c0_76 : Index := 0#32
  let c2_i32_74 : BitVec 32 := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let v124 : BitVec 32 := Scalar.muli c2_i32_74 v84
  let v125 : BitVec 32 := Scalar.addi v124 c0_i32_75
  let v126 : Index := Scalar.indexCast v125
  let c0_77 : Index := 0#32
  ![0, v126.toNat, 0]
def k0_off5 (k0_t1 : Fin k0_t1_loop.trips) : Fin 3 → Nat :=
  let c0_90 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v164 : Index := Scalar.indexCast v91
  let c128_91 : Index := 128#32
  ![0, v164.toNat, 128]
def k0_off6 (k0_t1 : Fin k0_t1_loop.trips) : Fin 3 → Nat :=
  let c1_92 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v168 : Index := Scalar.indexCast v91
  let c128_93 : Index := 128#32
  ![1, v168.toNat, 128]
def k0_off7 (k0_t1 : Fin k0_t1_loop.trips) : Fin 3 → Nat :=
  let c2_94 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v172 : Index := Scalar.indexCast v91
  let c128_95 : Index := 128#32
  ![2, v172.toNat, 128]
def k0_off8 (k0_t1 : Fin k0_t1_loop.trips) (c0_i32_103 : BitVec 32) : Fin 3 → Nat :=
  let c1_104 : Index := 1#32
  let c2_i32_102 : BitVec 32 := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let v198 : BitVec 32 := Scalar.muli c2_i32_102 v84
  let v199 : BitVec 32 := Scalar.addi v198 c0_i32_103
  let v200 : Index := Scalar.indexCast v199
  let c0_105 : Index := 0#32
  ![1, v200.toNat, 0]
def k0_off9 (k0_t1 : Fin k0_t1_loop.trips) : Fin 4 → Nat :=
  let c0_173 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let v384 : Index := Scalar.indexCast v84
  let c0_174 : Index := 0#32
  let c0_175 : Index := 0#32
  ![0, v384.toNat, 0, 0]
def k0_off10 (k0_t1 : Fin k0_t1_loop.trips) : Fin 4 → Nat :=
  let c1_176 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let v387 : Index := Scalar.indexCast v84
  let c0_177 : Index := 0#32
  let c0_178 : Index := 0#32
  ![1, v387.toNat, 0, 0]
def k0_off11 (k0_t1 : Fin k0_t1_loop.trips) : Fin 3 → Nat :=
  let c0_212 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v488 : Index := Scalar.indexCast v91
  let c0_213 : Index := 0#32
  ![0, v488.toNat, 0]
def k0_off12 (k0_t1 : Fin k0_t1_loop.trips) : Fin 3 → Nat :=
  let c1_214 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v492 : Index := Scalar.indexCast v91
  let c0_215 : Index := 0#32
  ![1, v492.toNat, 0]
def k0_off13 (k0_t1 : Fin k0_t1_loop.trips) : Fin 3 → Nat :=
  let c2_216 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v496 : Index := Scalar.indexCast v91
  let c0_217 : Index := 0#32
  ![2, v496.toNat, 0]
def k0_off14 (k0_t1 : Fin k0_t1_loop.trips) (c0_i32_238 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v588 : BitVec 32 := Scalar.addi v86 c0_i32_238
  let v589 : Index := Scalar.indexCast v588
  let c0_239 : Index := 0#32
  ![v589.toNat, 0]
def k0_off15 (k0_t1 : Fin k0_t1_loop.trips) : Fin 3 → Nat :=
  let c0_258 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v662 : Index := Scalar.indexCast v91
  let c128_259 : Index := 128#32
  ![0, v662.toNat, 128]
def k0_off16 (k0_t1 : Fin k0_t1_loop.trips) : Fin 3 → Nat :=
  let c1_260 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v666 : Index := Scalar.indexCast v91
  let c128_261 : Index := 128#32
  ![1, v666.toNat, 128]
def k0_off17 (k0_t1 : Fin k0_t1_loop.trips) : Fin 3 → Nat :=
  let c2_262 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v670 : Index := Scalar.indexCast v91
  let c128_263 : Index := 128#32
  ![2, v670.toNat, 128]
def k0_off18 (k0_t1 : Fin k0_t1_loop.trips) (c0_i32_287 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v762 : BitVec 32 := Scalar.addi v86 c0_i32_287
  let v763 : Index := Scalar.indexCast v762
  let c128_288 : Index := 128#32
  ![v763.toNat, 128]
def k0_off19 (k0_t1 : Fin k0_t1_loop.trips) : Fin 3 → Nat :=
  let c0_307 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v836 : Index := Scalar.indexCast v91
  let c256 : Index := 256#32
  ![0, v836.toNat, 256]
def k0_off20 (k0_t1 : Fin k0_t1_loop.trips) : Fin 3 → Nat :=
  let c1_308 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v840 : Index := Scalar.indexCast v91
  let c256_309 : Index := 256#32
  ![1, v840.toNat, 256]
def k0_off21 (k0_t1 : Fin k0_t1_loop.trips) : Fin 3 → Nat :=
  let c2_310 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v844 : Index := Scalar.indexCast v91
  let c256_311 : Index := 256#32
  ![2, v844.toNat, 256]
def k0_off22 (k0_t1 : Fin k0_t1_loop.trips) (c0_i32_334 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v936 : BitVec 32 := Scalar.addi v86 c0_i32_334
  let v937 : Index := Scalar.indexCast v936
  let c256_335 : Index := 256#32
  ![v937.toNat, 256]
def k0_off23 (k0_t1 : Fin k0_t1_loop.trips) : Fin 3 → Nat :=
  let c0_354 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1010 : Index := Scalar.indexCast v91
  let c384 : Index := 384#32
  ![0, v1010.toNat, 384]
def k0_off24 (k0_t1 : Fin k0_t1_loop.trips) : Fin 3 → Nat :=
  let c1_355 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1014 : Index := Scalar.indexCast v91
  let c384_356 : Index := 384#32
  ![1, v1014.toNat, 384]
def k0_off25 (k0_t1 : Fin k0_t1_loop.trips) : Fin 3 → Nat :=
  let c2_357 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1018 : Index := Scalar.indexCast v91
  let c384_358 : Index := 384#32
  ![2, v1018.toNat, 384]
def k0_off26 (k0_t1 : Fin k0_t1_loop.trips) (c0_i32_381 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1110 : BitVec 32 := Scalar.addi v86 c0_i32_381
  let v1111 : Index := Scalar.indexCast v1110
  let c384_382 : Index := 384#32
  ![v1111.toNat, 384]
def k0_off27 (k0_t1 : Fin k0_t1_loop.trips) : Fin 3 → Nat :=
  let c0_401 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1184 : Index := Scalar.indexCast v91
  let c512 : Index := 512#32
  ![0, v1184.toNat, 512]
def k0_off28 (k0_t1 : Fin k0_t1_loop.trips) : Fin 3 → Nat :=
  let c1_402 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1188 : Index := Scalar.indexCast v91
  let c512_403 : Index := 512#32
  ![1, v1188.toNat, 512]
def k0_off29 (k0_t1 : Fin k0_t1_loop.trips) : Fin 3 → Nat :=
  let c2_404 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1192 : Index := Scalar.indexCast v91
  let c512_405 : Index := 512#32
  ![2, v1192.toNat, 512]
def k0_off30 (k0_t1 : Fin k0_t1_loop.trips) (c0_i32_428 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1284 : BitVec 32 := Scalar.addi v86 c0_i32_428
  let v1285 : Index := Scalar.indexCast v1284
  let c512_429 : Index := 512#32
  ![v1285.toNat, 512]
def k0_off31 (k0_t1 : Fin k0_t1_loop.trips) : Fin 3 → Nat :=
  let c0_448 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1358 : Index := Scalar.indexCast v91
  let c640 : Index := 640#32
  ![0, v1358.toNat, 640]
def k0_off32 (k0_t1 : Fin k0_t1_loop.trips) : Fin 3 → Nat :=
  let c1_449 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1362 : Index := Scalar.indexCast v91
  let c640_450 : Index := 640#32
  ![1, v1362.toNat, 640]
def k0_off33 (k0_t1 : Fin k0_t1_loop.trips) : Fin 3 → Nat :=
  let c2_451 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1366 : Index := Scalar.indexCast v91
  let c640_452 : Index := 640#32
  ![2, v1366.toNat, 640]
def k0_off34 (k0_t1 : Fin k0_t1_loop.trips) (c0_i32_474 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1458 : BitVec 32 := Scalar.addi v86 c0_i32_474
  let v1459 : Index := Scalar.indexCast v1458
  let c640_475 : Index := 640#32
  ![v1459.toNat, 640]
def k0_off35 (k0_t1 : Fin k0_t1_loop.trips) : Fin 3 → Nat :=
  let c0_494 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1532 : Index := Scalar.indexCast v91
  let c768 : Index := 768#32
  ![0, v1532.toNat, 768]
def k0_off36 (k0_t1 : Fin k0_t1_loop.trips) : Fin 3 → Nat :=
  let c1_495 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1536 : Index := Scalar.indexCast v91
  let c768_496 : Index := 768#32
  ![1, v1536.toNat, 768]
def k0_off37 (k0_t1 : Fin k0_t1_loop.trips) : Fin 3 → Nat :=
  let c2_497 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1540 : Index := Scalar.indexCast v91
  let c768_498 : Index := 768#32
  ![2, v1540.toNat, 768]
def k0_off38 (k0_t1 : Fin k0_t1_loop.trips) (c0_i32_520 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1632 : BitVec 32 := Scalar.addi v86 c0_i32_520
  let v1633 : Index := Scalar.indexCast v1632
  let c768_521 : Index := 768#32
  ![v1633.toNat, 768]
def k0_off39 (k0_t1 : Fin k0_t1_loop.trips) : Fin 3 → Nat :=
  let c0_540 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1706 : Index := Scalar.indexCast v91
  let c896 : Index := 896#32
  ![0, v1706.toNat, 896]
def k0_off40 (k0_t1 : Fin k0_t1_loop.trips) : Fin 3 → Nat :=
  let c1_541 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1710 : Index := Scalar.indexCast v91
  let c896_542 : Index := 896#32
  ![1, v1710.toNat, 896]
def k0_off41 (k0_t1 : Fin k0_t1_loop.trips) : Fin 3 → Nat :=
  let c2_543 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1714 : Index := Scalar.indexCast v91
  let c896_544 : Index := 896#32
  ![2, v1714.toNat, 896]
def k0_off42 (k0_t1 : Fin k0_t1_loop.trips) (c0_i32_566 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1806 : BitVec 32 := Scalar.addi v86 c0_i32_566
  let v1807 : Index := Scalar.indexCast v1806
  let c896_567 : Index := 896#32
  ![v1807.toNat, 896]
def k0_off43 (k0_t1 : Fin k0_t1_loop.trips) : Fin 3 → Nat :=
  let c0_586 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1880 : Index := Scalar.indexCast v91
  let c1024 : Index := 1024#32
  ![0, v1880.toNat, 1024]
def k0_off44 (k0_t1 : Fin k0_t1_loop.trips) : Fin 3 → Nat :=
  let c1_587 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1884 : Index := Scalar.indexCast v91
  let c1024_588 : Index := 1024#32
  ![1, v1884.toNat, 1024]
def k0_off45 (k0_t1 : Fin k0_t1_loop.trips) : Fin 3 → Nat :=
  let c2_589 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v1888 : Index := Scalar.indexCast v91
  let c1024_590 : Index := 1024#32
  ![2, v1888.toNat, 1024]
def k0_off46 (k0_t1 : Fin k0_t1_loop.trips) (c0_i32_612 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v1980 : BitVec 32 := Scalar.addi v86 c0_i32_612
  let v1981 : Index := Scalar.indexCast v1980
  let c1024_613 : Index := 1024#32
  ![v1981.toNat, 1024]
def k0_off47 (k0_t1 : Fin k0_t1_loop.trips) : Fin 3 → Nat :=
  let c0_632 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2054 : Index := Scalar.indexCast v91
  let c1152 : Index := 1152#32
  ![0, v2054.toNat, 1152]
def k0_off48 (k0_t1 : Fin k0_t1_loop.trips) : Fin 3 → Nat :=
  let c1_633 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2058 : Index := Scalar.indexCast v91
  let c1152_634 : Index := 1152#32
  ![1, v2058.toNat, 1152]
def k0_off49 (k0_t1 : Fin k0_t1_loop.trips) : Fin 3 → Nat :=
  let c2_635 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2062 : Index := Scalar.indexCast v91
  let c1152_636 : Index := 1152#32
  ![2, v2062.toNat, 1152]
def k0_off50 (k0_t1 : Fin k0_t1_loop.trips) (c0_i32_658 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v2154 : BitVec 32 := Scalar.addi v86 c0_i32_658
  let v2155 : Index := Scalar.indexCast v2154
  let c1152_659 : Index := 1152#32
  ![v2155.toNat, 1152]
def k0_off51 (k0_t1 : Fin k0_t1_loop.trips) : Fin 3 → Nat :=
  let c0_678 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2228 : Index := Scalar.indexCast v91
  let c1280 : Index := 1280#32
  ![0, v2228.toNat, 1280]
def k0_off52 (k0_t1 : Fin k0_t1_loop.trips) : Fin 3 → Nat :=
  let c1_679 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2232 : Index := Scalar.indexCast v91
  let c1280_680 : Index := 1280#32
  ![1, v2232.toNat, 1280]
def k0_off53 (k0_t1 : Fin k0_t1_loop.trips) : Fin 3 → Nat :=
  let c2_681 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2236 : Index := Scalar.indexCast v91
  let c1280_682 : Index := 1280#32
  ![2, v2236.toNat, 1280]
def k0_off54 (k0_t1 : Fin k0_t1_loop.trips) (c0_i32_704 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v2328 : BitVec 32 := Scalar.addi v86 c0_i32_704
  let v2329 : Index := Scalar.indexCast v2328
  let c1280_705 : Index := 1280#32
  ![v2329.toNat, 1280]
def k0_off55 (k0_t1 : Fin k0_t1_loop.trips) : Fin 3 → Nat :=
  let c0_724 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2402 : Index := Scalar.indexCast v91
  let c1408 : Index := 1408#32
  ![0, v2402.toNat, 1408]
def k0_off56 (k0_t1 : Fin k0_t1_loop.trips) : Fin 3 → Nat :=
  let c1_725 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2406 : Index := Scalar.indexCast v91
  let c1408_726 : Index := 1408#32
  ![1, v2406.toNat, 1408]
def k0_off57 (k0_t1 : Fin k0_t1_loop.trips) : Fin 3 → Nat :=
  let c2_727 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2410 : Index := Scalar.indexCast v91
  let c1408_728 : Index := 1408#32
  ![2, v2410.toNat, 1408]
def k0_off58 (k0_t1 : Fin k0_t1_loop.trips) (c0_i32_750 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v2502 : BitVec 32 := Scalar.addi v86 c0_i32_750
  let v2503 : Index := Scalar.indexCast v2502
  let c1408_751 : Index := 1408#32
  ![v2503.toNat, 1408]
def k0_off59 (k0_t1 : Fin k0_t1_loop.trips) : Fin 3 → Nat :=
  let c0_770 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2576 : Index := Scalar.indexCast v91
  let c1536 : Index := 1536#32
  ![0, v2576.toNat, 1536]
def k0_off60 (k0_t1 : Fin k0_t1_loop.trips) : Fin 3 → Nat :=
  let c1_771 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2580 : Index := Scalar.indexCast v91
  let c1536_772 : Index := 1536#32
  ![1, v2580.toNat, 1536]
def k0_off61 (k0_t1 : Fin k0_t1_loop.trips) : Fin 3 → Nat :=
  let c2_773 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2584 : Index := Scalar.indexCast v91
  let c1536_774 : Index := 1536#32
  ![2, v2584.toNat, 1536]
def k0_off62 (k0_t1 : Fin k0_t1_loop.trips) (c0_i32_796 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v2676 : BitVec 32 := Scalar.addi v86 c0_i32_796
  let v2677 : Index := Scalar.indexCast v2676
  let c1536_797 : Index := 1536#32
  ![v2677.toNat, 1536]
def k0_off63 (k0_t1 : Fin k0_t1_loop.trips) : Fin 3 → Nat :=
  let c0_816 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2750 : Index := Scalar.indexCast v91
  let c1664 : Index := 1664#32
  ![0, v2750.toNat, 1664]
def k0_off64 (k0_t1 : Fin k0_t1_loop.trips) : Fin 3 → Nat :=
  let c1_817 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2754 : Index := Scalar.indexCast v91
  let c1664_818 : Index := 1664#32
  ![1, v2754.toNat, 1664]
def k0_off65 (k0_t1 : Fin k0_t1_loop.trips) : Fin 3 → Nat :=
  let c2_819 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2758 : Index := Scalar.indexCast v91
  let c1664_820 : Index := 1664#32
  ![2, v2758.toNat, 1664]
def k0_off66 (k0_t1 : Fin k0_t1_loop.trips) (c0_i32_842 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v2850 : BitVec 32 := Scalar.addi v86 c0_i32_842
  let v2851 : Index := Scalar.indexCast v2850
  let c1664_843 : Index := 1664#32
  ![v2851.toNat, 1664]
def k0_off67 (k0_t1 : Fin k0_t1_loop.trips) : Fin 3 → Nat :=
  let c0_862 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2924 : Index := Scalar.indexCast v91
  let c1792 : Index := 1792#32
  ![0, v2924.toNat, 1792]
def k0_off68 (k0_t1 : Fin k0_t1_loop.trips) : Fin 3 → Nat :=
  let c1_863 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2928 : Index := Scalar.indexCast v91
  let c1792_864 : Index := 1792#32
  ![1, v2928.toNat, 1792]
def k0_off69 (k0_t1 : Fin k0_t1_loop.trips) : Fin 3 → Nat :=
  let c2_865 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v2932 : Index := Scalar.indexCast v91
  let c1792_866 : Index := 1792#32
  ![2, v2932.toNat, 1792]
def k0_off70 (k0_t1 : Fin k0_t1_loop.trips) (c0_i32_888 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3024 : BitVec 32 := Scalar.addi v86 c0_i32_888
  let v3025 : Index := Scalar.indexCast v3024
  let c1792_889 : Index := 1792#32
  ![v3025.toNat, 1792]
def k0_off71 (k0_t1 : Fin k0_t1_loop.trips) : Fin 3 → Nat :=
  let c0_908 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3098 : Index := Scalar.indexCast v91
  let c1920 : Index := 1920#32
  ![0, v3098.toNat, 1920]
def k0_off72 (k0_t1 : Fin k0_t1_loop.trips) : Fin 3 → Nat :=
  let c1_909 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3102 : Index := Scalar.indexCast v91
  let c1920_910 : Index := 1920#32
  ![1, v3102.toNat, 1920]
def k0_off73 (k0_t1 : Fin k0_t1_loop.trips) : Fin 3 → Nat :=
  let c2_911 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3106 : Index := Scalar.indexCast v91
  let c1920_912 : Index := 1920#32
  ![2, v3106.toNat, 1920]
def k0_off74 (k0_t1 : Fin k0_t1_loop.trips) (c0_i32_934 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3198 : BitVec 32 := Scalar.addi v86 c0_i32_934
  let v3199 : Index := Scalar.indexCast v3198
  let c1920_935 : Index := 1920#32
  ![v3199.toNat, 1920]
def k0_off75 (k0_t1 : Fin k0_t1_loop.trips) : Fin 3 → Nat :=
  let c0_954 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3272 : Index := Scalar.indexCast v91
  let c2048 : Index := 2048#32
  ![0, v3272.toNat, 2048]
def k0_off76 (k0_t1 : Fin k0_t1_loop.trips) : Fin 3 → Nat :=
  let c1_955 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3276 : Index := Scalar.indexCast v91
  let c2048_956 : Index := 2048#32
  ![1, v3276.toNat, 2048]
def k0_off77 (k0_t1 : Fin k0_t1_loop.trips) : Fin 3 → Nat :=
  let c2_957 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3280 : Index := Scalar.indexCast v91
  let c2048_958 : Index := 2048#32
  ![2, v3280.toNat, 2048]
def k0_off78 (k0_t1 : Fin k0_t1_loop.trips) (c0_i32_981 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3372 : BitVec 32 := Scalar.addi v86 c0_i32_981
  let v3373 : Index := Scalar.indexCast v3372
  let c2048_982 : Index := 2048#32
  ![v3373.toNat, 2048]
def k0_off79 (k0_t1 : Fin k0_t1_loop.trips) : Fin 3 → Nat :=
  let c0_1001 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3446 : Index := Scalar.indexCast v91
  let c2176 : Index := 2176#32
  ![0, v3446.toNat, 2176]
def k0_off80 (k0_t1 : Fin k0_t1_loop.trips) : Fin 3 → Nat :=
  let c1_1002 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3450 : Index := Scalar.indexCast v91
  let c2176_1003 : Index := 2176#32
  ![1, v3450.toNat, 2176]
def k0_off81 (k0_t1 : Fin k0_t1_loop.trips) : Fin 3 → Nat :=
  let c2_1004 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3454 : Index := Scalar.indexCast v91
  let c2176_1005 : Index := 2176#32
  ![2, v3454.toNat, 2176]
def k0_off82 (k0_t1 : Fin k0_t1_loop.trips) (c0_i32_1028 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3546 : BitVec 32 := Scalar.addi v86 c0_i32_1028
  let v3547 : Index := Scalar.indexCast v3546
  let c2176_1029 : Index := 2176#32
  ![v3547.toNat, 2176]
def k0_off83 (k0_t1 : Fin k0_t1_loop.trips) : Fin 3 → Nat :=
  let c0_1048 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3620 : Index := Scalar.indexCast v91
  let c2304 : Index := 2304#32
  ![0, v3620.toNat, 2304]
def k0_off84 (k0_t1 : Fin k0_t1_loop.trips) : Fin 3 → Nat :=
  let c1_1049 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3624 : Index := Scalar.indexCast v91
  let c2304_1050 : Index := 2304#32
  ![1, v3624.toNat, 2304]
def k0_off85 (k0_t1 : Fin k0_t1_loop.trips) : Fin 3 → Nat :=
  let c2_1051 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3628 : Index := Scalar.indexCast v91
  let c2304_1052 : Index := 2304#32
  ![2, v3628.toNat, 2304]
def k0_off86 (k0_t1 : Fin k0_t1_loop.trips) (c0_i32_1075 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3720 : BitVec 32 := Scalar.addi v86 c0_i32_1075
  let v3721 : Index := Scalar.indexCast v3720
  let c2304_1076 : Index := 2304#32
  ![v3721.toNat, 2304]
def k0_off87 (k0_t1 : Fin k0_t1_loop.trips) : Fin 3 → Nat :=
  let c0_1095 : Index := 0#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3794 : Index := Scalar.indexCast v91
  let c2432 : Index := 2432#32
  ![0, v3794.toNat, 2432]
def k0_off88 (k0_t1 : Fin k0_t1_loop.trips) : Fin 3 → Nat :=
  let c1_1096 : Index := 1#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3798 : Index := Scalar.indexCast v91
  let c2432_1097 : Index := 2432#32
  ![1, v3798.toNat, 2432]
def k0_off89 (k0_t1 : Fin k0_t1_loop.trips) : Fin 3 → Nat :=
  let c2_1098 : Index := 2#32
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c27_i32 : BitVec 32 := 27#32
  let v87 : BitVec 32 := Scalar.divsi v84 c27_i32
  let c27_i32_63 : BitVec 32 := 27#32
  let v88 : BitVec 32 := Scalar.muli v87 c27_i32_63
  let v89 : BitVec 32 := Scalar.subi v84 v88
  let c32_i32_64 : BitVec 32 := 32#32
  let v90 : BitVec 32 := Scalar.muli v89 c32_i32_64
  let v91 : BitVec 32 := v90
  let v3802 : Index := Scalar.indexCast v91
  let c2432_1099 : Index := 2432#32
  ![2, v3802.toNat, 2432]
def k0_off90 (k0_t1 : Fin k0_t1_loop.trips) (c0_i32_1122 : BitVec 32) : Fin 2 → Nat :=
  let c0_i32_62 : BitVec 32 := 0#32
  let c0_i32_58 : BitVec 32 := 0#32
  let c1_i32_59 : BitVec 32 := 1#32
  let arg18 : BitVec 32 := Scf.iv c0_i32_58 c1_i32_59 k0_t1
  let c1_i32_61 : BitVec 32 := 1#32
  let v83 : BitVec 32 := Scalar.muli arg18 c1_i32_61
  let v84 : BitVec 32 := Scalar.addi c0_i32_62 v83
  let c32_i32 : BitVec 32 := 32#32
  let v85 : BitVec 32 := Scalar.muli v84 c32_i32
  let v86 : BitVec 32 := v85
  let v3894 : BitVec 32 := Scalar.addi v86 c0_i32_1122
  let v3895 : Index := Scalar.indexCast v3894
  let c2432_1123 : Index := 2432#32
  ![v3895.toNat, 2432]
def k0_cond2 (i : grid0.Coords) : BitVec 1 :=
  let arg0 : BitVec 32 := BitVec.ofNat 32 (i 0).val
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let v18 : BitVec 1 := Scalar.cmpi .eq v17 c0_i32_8
  let v19 : BitVec 32 := Scalar.extui v18
  let c0_i32_9 : BitVec 32 := 0#32
  let v20 : BitVec 1 := Scalar.cmpi .ne v19 c0_i32_9
  v20

def k0_mult3 (i : grid0.Coords) : BitVec 32 :=
  let arg1 : BitVec 32 := BitVec.ofNat 32 (i 1).val
  let c3_i32 : BitVec 32 := 3#32
  let v34 : BitVec 32 := Scalar.muli arg1 c3_i32
  let c0_i32_18 : BitVec 32 := 0#32
  let v35 : BitVec 32 := Scalar.addi v34 c0_i32_18
  let c32_i32 : BitVec 32 := 32#32
  let v38 : BitVec 32 := Scalar.muli v35 c32_i32
  v38
def k0_mult4 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let c0_i32_18 : BitVec 32 := 0#32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  v43
def k0_off91 (i : grid0.Coords) (c0_i32_18 : BitVec 32) : Fin 3 → Nat :=
  let c0 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v45 : Index := Scalar.indexCast v44
  let c0_21 : Index := 0#32
  ![0, v45.toNat, 0]
def k0_off92 (i : grid0.Coords) (c0_i32_18 : BitVec 32) : Fin 3 → Nat :=
  let c1 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v49 : Index := Scalar.indexCast v44
  let c0_22 : Index := 0#32
  ![1, v49.toNat, 0]
def k0_off93 (i : grid0.Coords) (c0_i32_18 : BitVec 32) : Fin 3 → Nat :=
  let c2 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v53 : Index := Scalar.indexCast v44
  let c0_23 : Index := 0#32
  ![2, v53.toNat, 0]
def k0_off94 (i : grid0.Coords) (c0_i32_18 : BitVec 32) (c0_i32_29 : BitVec 32) : Fin 3 → Nat :=
  let c0_30 : Index := 0#32
  let c2_i32_28 : BitVec 32 := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v77 : BitVec 32 := Scalar.muli c2_i32_28 v37
  let v78 : BitVec 32 := Scalar.addi v77 c0_i32_29
  let v79 : Index := Scalar.indexCast v78
  let c0_31 : Index := 0#32
  ![0, v79.toNat, 0]
def k0_off95 (i : grid0.Coords) (c0_i32_18 : BitVec 32) : Fin 3 → Nat :=
  let c0_44 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v117 : Index := Scalar.indexCast v44
  let c128 : Index := 128#32
  ![0, v117.toNat, 128]
def k0_off96 (i : grid0.Coords) (c0_i32_18 : BitVec 32) : Fin 3 → Nat :=
  let c1_45 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v121 : Index := Scalar.indexCast v44
  let c128_46 : Index := 128#32
  ![1, v121.toNat, 128]
def k0_off97 (i : grid0.Coords) (c0_i32_18 : BitVec 32) : Fin 3 → Nat :=
  let c2_47 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v125 : Index := Scalar.indexCast v44
  let c128_48 : Index := 128#32
  ![2, v125.toNat, 128]
def k0_off98 (i : grid0.Coords) (c0_i32_18 : BitVec 32) (c0_i32_56 : BitVec 32) : Fin 3 → Nat :=
  let c1_57 : Index := 1#32
  let c2_i32_55 : BitVec 32 := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v151 : BitVec 32 := Scalar.muli c2_i32_55 v37
  let v152 : BitVec 32 := Scalar.addi v151 c0_i32_56
  let v153 : Index := Scalar.indexCast v152
  let c0_58 : Index := 0#32
  ![1, v153.toNat, 0]
def k0_off99 (i : grid0.Coords) (c0_i32_18 : BitVec 32) : Fin 4 → Nat :=
  let c0_126 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v337 : Index := Scalar.indexCast v37
  let c0_127 : Index := 0#32
  let c0_128 : Index := 0#32
  ![0, v337.toNat, 0, 0]
def k0_off100 (i : grid0.Coords) (c0_i32_18 : BitVec 32) : Fin 4 → Nat :=
  let c1_129 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v340 : Index := Scalar.indexCast v37
  let c0_130 : Index := 0#32
  let c0_131 : Index := 0#32
  ![1, v340.toNat, 0, 0]
def k0_off101 (i : grid0.Coords) (c0_i32_18 : BitVec 32) : Fin 3 → Nat :=
  let c0_164 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v441 : Index := Scalar.indexCast v44
  let c0_165 : Index := 0#32
  ![0, v441.toNat, 0]
def k0_off102 (i : grid0.Coords) (c0_i32_18 : BitVec 32) : Fin 3 → Nat :=
  let c1_166 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v445 : Index := Scalar.indexCast v44
  let c0_167 : Index := 0#32
  ![1, v445.toNat, 0]
def k0_off103 (i : grid0.Coords) (c0_i32_18 : BitVec 32) : Fin 3 → Nat :=
  let c2_168 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v449 : Index := Scalar.indexCast v44
  let c0_169 : Index := 0#32
  ![2, v449.toNat, 0]
def k0_off104 (i : grid0.Coords) (c0_i32_18 : BitVec 32) (c0_i32_190 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v541 : BitVec 32 := Scalar.addi v39 c0_i32_190
  let v542 : Index := Scalar.indexCast v541
  let c0_191 : Index := 0#32
  ![v542.toNat, 0]
def k0_off105 (i : grid0.Coords) (c0_i32_18 : BitVec 32) : Fin 3 → Nat :=
  let c0_210 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v615 : Index := Scalar.indexCast v44
  let c128_211 : Index := 128#32
  ![0, v615.toNat, 128]
def k0_off106 (i : grid0.Coords) (c0_i32_18 : BitVec 32) : Fin 3 → Nat :=
  let c1_212 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v619 : Index := Scalar.indexCast v44
  let c128_213 : Index := 128#32
  ![1, v619.toNat, 128]
def k0_off107 (i : grid0.Coords) (c0_i32_18 : BitVec 32) : Fin 3 → Nat :=
  let c2_214 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v623 : Index := Scalar.indexCast v44
  let c128_215 : Index := 128#32
  ![2, v623.toNat, 128]
def k0_off108 (i : grid0.Coords) (c0_i32_18 : BitVec 32) (c0_i32_239 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v715 : BitVec 32 := Scalar.addi v39 c0_i32_239
  let v716 : Index := Scalar.indexCast v715
  let c128_240 : Index := 128#32
  ![v716.toNat, 128]
def k0_off109 (i : grid0.Coords) (c0_i32_18 : BitVec 32) : Fin 3 → Nat :=
  let c0_259 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v789 : Index := Scalar.indexCast v44
  let c256 : Index := 256#32
  ![0, v789.toNat, 256]
def k0_off110 (i : grid0.Coords) (c0_i32_18 : BitVec 32) : Fin 3 → Nat :=
  let c1_260 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v793 : Index := Scalar.indexCast v44
  let c256_261 : Index := 256#32
  ![1, v793.toNat, 256]
def k0_off111 (i : grid0.Coords) (c0_i32_18 : BitVec 32) : Fin 3 → Nat :=
  let c2_262 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v797 : Index := Scalar.indexCast v44
  let c256_263 : Index := 256#32
  ![2, v797.toNat, 256]
def k0_off112 (i : grid0.Coords) (c0_i32_18 : BitVec 32) (c0_i32_286 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v889 : BitVec 32 := Scalar.addi v39 c0_i32_286
  let v890 : Index := Scalar.indexCast v889
  let c256_287 : Index := 256#32
  ![v890.toNat, 256]
def k0_off113 (i : grid0.Coords) (c0_i32_18 : BitVec 32) : Fin 3 → Nat :=
  let c0_306 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v963 : Index := Scalar.indexCast v44
  let c384 : Index := 384#32
  ![0, v963.toNat, 384]
def k0_off114 (i : grid0.Coords) (c0_i32_18 : BitVec 32) : Fin 3 → Nat :=
  let c1_307 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v967 : Index := Scalar.indexCast v44
  let c384_308 : Index := 384#32
  ![1, v967.toNat, 384]
def k0_off115 (i : grid0.Coords) (c0_i32_18 : BitVec 32) : Fin 3 → Nat :=
  let c2_309 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v971 : Index := Scalar.indexCast v44
  let c384_310 : Index := 384#32
  ![2, v971.toNat, 384]
def k0_off116 (i : grid0.Coords) (c0_i32_18 : BitVec 32) (c0_i32_333 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1063 : BitVec 32 := Scalar.addi v39 c0_i32_333
  let v1064 : Index := Scalar.indexCast v1063
  let c384_334 : Index := 384#32
  ![v1064.toNat, 384]
def k0_off117 (i : grid0.Coords) (c0_i32_18 : BitVec 32) : Fin 3 → Nat :=
  let c0_353 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1137 : Index := Scalar.indexCast v44
  let c512 : Index := 512#32
  ![0, v1137.toNat, 512]
def k0_off118 (i : grid0.Coords) (c0_i32_18 : BitVec 32) : Fin 3 → Nat :=
  let c1_354 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1141 : Index := Scalar.indexCast v44
  let c512_355 : Index := 512#32
  ![1, v1141.toNat, 512]
def k0_off119 (i : grid0.Coords) (c0_i32_18 : BitVec 32) : Fin 3 → Nat :=
  let c2_356 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1145 : Index := Scalar.indexCast v44
  let c512_357 : Index := 512#32
  ![2, v1145.toNat, 512]
def k0_off120 (i : grid0.Coords) (c0_i32_18 : BitVec 32) (c0_i32_380 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1237 : BitVec 32 := Scalar.addi v39 c0_i32_380
  let v1238 : Index := Scalar.indexCast v1237
  let c512_381 : Index := 512#32
  ![v1238.toNat, 512]
def k0_off121 (i : grid0.Coords) (c0_i32_18 : BitVec 32) : Fin 3 → Nat :=
  let c0_400 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1311 : Index := Scalar.indexCast v44
  let c640 : Index := 640#32
  ![0, v1311.toNat, 640]
def k0_off122 (i : grid0.Coords) (c0_i32_18 : BitVec 32) : Fin 3 → Nat :=
  let c1_401 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1315 : Index := Scalar.indexCast v44
  let c640_402 : Index := 640#32
  ![1, v1315.toNat, 640]
def k0_off123 (i : grid0.Coords) (c0_i32_18 : BitVec 32) : Fin 3 → Nat :=
  let c2_403 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1319 : Index := Scalar.indexCast v44
  let c640_404 : Index := 640#32
  ![2, v1319.toNat, 640]
def k0_off124 (i : grid0.Coords) (c0_i32_18 : BitVec 32) (c0_i32_426 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1411 : BitVec 32 := Scalar.addi v39 c0_i32_426
  let v1412 : Index := Scalar.indexCast v1411
  let c640_427 : Index := 640#32
  ![v1412.toNat, 640]
def k0_off125 (i : grid0.Coords) (c0_i32_18 : BitVec 32) : Fin 3 → Nat :=
  let c0_446 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1485 : Index := Scalar.indexCast v44
  let c768 : Index := 768#32
  ![0, v1485.toNat, 768]
def k0_off126 (i : grid0.Coords) (c0_i32_18 : BitVec 32) : Fin 3 → Nat :=
  let c1_447 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1489 : Index := Scalar.indexCast v44
  let c768_448 : Index := 768#32
  ![1, v1489.toNat, 768]
def k0_off127 (i : grid0.Coords) (c0_i32_18 : BitVec 32) : Fin 3 → Nat :=
  let c2_449 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1493 : Index := Scalar.indexCast v44
  let c768_450 : Index := 768#32
  ![2, v1493.toNat, 768]
def k0_off128 (i : grid0.Coords) (c0_i32_18 : BitVec 32) (c0_i32_472 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1585 : BitVec 32 := Scalar.addi v39 c0_i32_472
  let v1586 : Index := Scalar.indexCast v1585
  let c768_473 : Index := 768#32
  ![v1586.toNat, 768]
def k0_off129 (i : grid0.Coords) (c0_i32_18 : BitVec 32) : Fin 3 → Nat :=
  let c0_492 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1659 : Index := Scalar.indexCast v44
  let c896 : Index := 896#32
  ![0, v1659.toNat, 896]
def k0_off130 (i : grid0.Coords) (c0_i32_18 : BitVec 32) : Fin 3 → Nat :=
  let c1_493 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1663 : Index := Scalar.indexCast v44
  let c896_494 : Index := 896#32
  ![1, v1663.toNat, 896]
def k0_off131 (i : grid0.Coords) (c0_i32_18 : BitVec 32) : Fin 3 → Nat :=
  let c2_495 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1667 : Index := Scalar.indexCast v44
  let c896_496 : Index := 896#32
  ![2, v1667.toNat, 896]
def k0_off132 (i : grid0.Coords) (c0_i32_18 : BitVec 32) (c0_i32_518 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1759 : BitVec 32 := Scalar.addi v39 c0_i32_518
  let v1760 : Index := Scalar.indexCast v1759
  let c896_519 : Index := 896#32
  ![v1760.toNat, 896]
def k0_off133 (i : grid0.Coords) (c0_i32_18 : BitVec 32) : Fin 3 → Nat :=
  let c0_538 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1833 : Index := Scalar.indexCast v44
  let c1024 : Index := 1024#32
  ![0, v1833.toNat, 1024]
def k0_off134 (i : grid0.Coords) (c0_i32_18 : BitVec 32) : Fin 3 → Nat :=
  let c1_539 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1837 : Index := Scalar.indexCast v44
  let c1024_540 : Index := 1024#32
  ![1, v1837.toNat, 1024]
def k0_off135 (i : grid0.Coords) (c0_i32_18 : BitVec 32) : Fin 3 → Nat :=
  let c2_541 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1841 : Index := Scalar.indexCast v44
  let c1024_542 : Index := 1024#32
  ![2, v1841.toNat, 1024]
def k0_off136 (i : grid0.Coords) (c0_i32_18 : BitVec 32) (c0_i32_564 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1933 : BitVec 32 := Scalar.addi v39 c0_i32_564
  let v1934 : Index := Scalar.indexCast v1933
  let c1024_565 : Index := 1024#32
  ![v1934.toNat, 1024]
def k0_off137 (i : grid0.Coords) (c0_i32_18 : BitVec 32) : Fin 3 → Nat :=
  let c0_584 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2007 : Index := Scalar.indexCast v44
  let c1152 : Index := 1152#32
  ![0, v2007.toNat, 1152]
def k0_off138 (i : grid0.Coords) (c0_i32_18 : BitVec 32) : Fin 3 → Nat :=
  let c1_585 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2011 : Index := Scalar.indexCast v44
  let c1152_586 : Index := 1152#32
  ![1, v2011.toNat, 1152]
def k0_off139 (i : grid0.Coords) (c0_i32_18 : BitVec 32) : Fin 3 → Nat :=
  let c2_587 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2015 : Index := Scalar.indexCast v44
  let c1152_588 : Index := 1152#32
  ![2, v2015.toNat, 1152]
def k0_off140 (i : grid0.Coords) (c0_i32_18 : BitVec 32) (c0_i32_610 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2107 : BitVec 32 := Scalar.addi v39 c0_i32_610
  let v2108 : Index := Scalar.indexCast v2107
  let c1152_611 : Index := 1152#32
  ![v2108.toNat, 1152]
def k0_off141 (i : grid0.Coords) (c0_i32_18 : BitVec 32) : Fin 3 → Nat :=
  let c0_630 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2181 : Index := Scalar.indexCast v44
  let c1280 : Index := 1280#32
  ![0, v2181.toNat, 1280]
def k0_off142 (i : grid0.Coords) (c0_i32_18 : BitVec 32) : Fin 3 → Nat :=
  let c1_631 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2185 : Index := Scalar.indexCast v44
  let c1280_632 : Index := 1280#32
  ![1, v2185.toNat, 1280]
def k0_off143 (i : grid0.Coords) (c0_i32_18 : BitVec 32) : Fin 3 → Nat :=
  let c2_633 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2189 : Index := Scalar.indexCast v44
  let c1280_634 : Index := 1280#32
  ![2, v2189.toNat, 1280]
def k0_off144 (i : grid0.Coords) (c0_i32_18 : BitVec 32) (c0_i32_656 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2281 : BitVec 32 := Scalar.addi v39 c0_i32_656
  let v2282 : Index := Scalar.indexCast v2281
  let c1280_657 : Index := 1280#32
  ![v2282.toNat, 1280]
def k0_off145 (i : grid0.Coords) (c0_i32_18 : BitVec 32) : Fin 3 → Nat :=
  let c0_676 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2355 : Index := Scalar.indexCast v44
  let c1408 : Index := 1408#32
  ![0, v2355.toNat, 1408]
def k0_off146 (i : grid0.Coords) (c0_i32_18 : BitVec 32) : Fin 3 → Nat :=
  let c1_677 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2359 : Index := Scalar.indexCast v44
  let c1408_678 : Index := 1408#32
  ![1, v2359.toNat, 1408]
def k0_off147 (i : grid0.Coords) (c0_i32_18 : BitVec 32) : Fin 3 → Nat :=
  let c2_679 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2363 : Index := Scalar.indexCast v44
  let c1408_680 : Index := 1408#32
  ![2, v2363.toNat, 1408]
def k0_off148 (i : grid0.Coords) (c0_i32_18 : BitVec 32) (c0_i32_702 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2455 : BitVec 32 := Scalar.addi v39 c0_i32_702
  let v2456 : Index := Scalar.indexCast v2455
  let c1408_703 : Index := 1408#32
  ![v2456.toNat, 1408]
def k0_off149 (i : grid0.Coords) (c0_i32_18 : BitVec 32) : Fin 3 → Nat :=
  let c0_722 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2529 : Index := Scalar.indexCast v44
  let c1536 : Index := 1536#32
  ![0, v2529.toNat, 1536]
def k0_off150 (i : grid0.Coords) (c0_i32_18 : BitVec 32) : Fin 3 → Nat :=
  let c1_723 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2533 : Index := Scalar.indexCast v44
  let c1536_724 : Index := 1536#32
  ![1, v2533.toNat, 1536]
def k0_off151 (i : grid0.Coords) (c0_i32_18 : BitVec 32) : Fin 3 → Nat :=
  let c2_725 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2537 : Index := Scalar.indexCast v44
  let c1536_726 : Index := 1536#32
  ![2, v2537.toNat, 1536]
def k0_off152 (i : grid0.Coords) (c0_i32_18 : BitVec 32) (c0_i32_748 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2629 : BitVec 32 := Scalar.addi v39 c0_i32_748
  let v2630 : Index := Scalar.indexCast v2629
  let c1536_749 : Index := 1536#32
  ![v2630.toNat, 1536]
def k0_off153 (i : grid0.Coords) (c0_i32_18 : BitVec 32) : Fin 3 → Nat :=
  let c0_768 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2703 : Index := Scalar.indexCast v44
  let c1664 : Index := 1664#32
  ![0, v2703.toNat, 1664]
def k0_off154 (i : grid0.Coords) (c0_i32_18 : BitVec 32) : Fin 3 → Nat :=
  let c1_769 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2707 : Index := Scalar.indexCast v44
  let c1664_770 : Index := 1664#32
  ![1, v2707.toNat, 1664]
def k0_off155 (i : grid0.Coords) (c0_i32_18 : BitVec 32) : Fin 3 → Nat :=
  let c2_771 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2711 : Index := Scalar.indexCast v44
  let c1664_772 : Index := 1664#32
  ![2, v2711.toNat, 1664]
def k0_off156 (i : grid0.Coords) (c0_i32_18 : BitVec 32) (c0_i32_794 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2803 : BitVec 32 := Scalar.addi v39 c0_i32_794
  let v2804 : Index := Scalar.indexCast v2803
  let c1664_795 : Index := 1664#32
  ![v2804.toNat, 1664]
def k0_off157 (i : grid0.Coords) (c0_i32_18 : BitVec 32) : Fin 3 → Nat :=
  let c0_814 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2877 : Index := Scalar.indexCast v44
  let c1792 : Index := 1792#32
  ![0, v2877.toNat, 1792]
def k0_off158 (i : grid0.Coords) (c0_i32_18 : BitVec 32) : Fin 3 → Nat :=
  let c1_815 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2881 : Index := Scalar.indexCast v44
  let c1792_816 : Index := 1792#32
  ![1, v2881.toNat, 1792]
def k0_off159 (i : grid0.Coords) (c0_i32_18 : BitVec 32) : Fin 3 → Nat :=
  let c2_817 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2885 : Index := Scalar.indexCast v44
  let c1792_818 : Index := 1792#32
  ![2, v2885.toNat, 1792]
def k0_off160 (i : grid0.Coords) (c0_i32_18 : BitVec 32) (c0_i32_840 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2977 : BitVec 32 := Scalar.addi v39 c0_i32_840
  let v2978 : Index := Scalar.indexCast v2977
  let c1792_841 : Index := 1792#32
  ![v2978.toNat, 1792]
def k0_off161 (i : grid0.Coords) (c0_i32_18 : BitVec 32) : Fin 3 → Nat :=
  let c0_860 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3051 : Index := Scalar.indexCast v44
  let c1920 : Index := 1920#32
  ![0, v3051.toNat, 1920]
def k0_off162 (i : grid0.Coords) (c0_i32_18 : BitVec 32) : Fin 3 → Nat :=
  let c1_861 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3055 : Index := Scalar.indexCast v44
  let c1920_862 : Index := 1920#32
  ![1, v3055.toNat, 1920]
def k0_off163 (i : grid0.Coords) (c0_i32_18 : BitVec 32) : Fin 3 → Nat :=
  let c2_863 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3059 : Index := Scalar.indexCast v44
  let c1920_864 : Index := 1920#32
  ![2, v3059.toNat, 1920]
def k0_off164 (i : grid0.Coords) (c0_i32_18 : BitVec 32) (c0_i32_886 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3151 : BitVec 32 := Scalar.addi v39 c0_i32_886
  let v3152 : Index := Scalar.indexCast v3151
  let c1920_887 : Index := 1920#32
  ![v3152.toNat, 1920]
def k0_off165 (i : grid0.Coords) (c0_i32_18 : BitVec 32) : Fin 3 → Nat :=
  let c0_906 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3225 : Index := Scalar.indexCast v44
  let c2048 : Index := 2048#32
  ![0, v3225.toNat, 2048]
def k0_off166 (i : grid0.Coords) (c0_i32_18 : BitVec 32) : Fin 3 → Nat :=
  let c1_907 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3229 : Index := Scalar.indexCast v44
  let c2048_908 : Index := 2048#32
  ![1, v3229.toNat, 2048]
def k0_off167 (i : grid0.Coords) (c0_i32_18 : BitVec 32) : Fin 3 → Nat :=
  let c2_909 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3233 : Index := Scalar.indexCast v44
  let c2048_910 : Index := 2048#32
  ![2, v3233.toNat, 2048]
def k0_off168 (i : grid0.Coords) (c0_i32_18 : BitVec 32) (c0_i32_933 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3325 : BitVec 32 := Scalar.addi v39 c0_i32_933
  let v3326 : Index := Scalar.indexCast v3325
  let c2048_934 : Index := 2048#32
  ![v3326.toNat, 2048]
def k0_off169 (i : grid0.Coords) (c0_i32_18 : BitVec 32) : Fin 3 → Nat :=
  let c0_953 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3399 : Index := Scalar.indexCast v44
  let c2176 : Index := 2176#32
  ![0, v3399.toNat, 2176]
def k0_off170 (i : grid0.Coords) (c0_i32_18 : BitVec 32) : Fin 3 → Nat :=
  let c1_954 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3403 : Index := Scalar.indexCast v44
  let c2176_955 : Index := 2176#32
  ![1, v3403.toNat, 2176]
def k0_off171 (i : grid0.Coords) (c0_i32_18 : BitVec 32) : Fin 3 → Nat :=
  let c2_956 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3407 : Index := Scalar.indexCast v44
  let c2176_957 : Index := 2176#32
  ![2, v3407.toNat, 2176]
def k0_off172 (i : grid0.Coords) (c0_i32_18 : BitVec 32) (c0_i32_980 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3499 : BitVec 32 := Scalar.addi v39 c0_i32_980
  let v3500 : Index := Scalar.indexCast v3499
  let c2176_981 : Index := 2176#32
  ![v3500.toNat, 2176]
def k0_off173 (i : grid0.Coords) (c0_i32_18 : BitVec 32) : Fin 3 → Nat :=
  let c0_1000 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3573 : Index := Scalar.indexCast v44
  let c2304 : Index := 2304#32
  ![0, v3573.toNat, 2304]
def k0_off174 (i : grid0.Coords) (c0_i32_18 : BitVec 32) : Fin 3 → Nat :=
  let c1_1001 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3577 : Index := Scalar.indexCast v44
  let c2304_1002 : Index := 2304#32
  ![1, v3577.toNat, 2304]
def k0_off175 (i : grid0.Coords) (c0_i32_18 : BitVec 32) : Fin 3 → Nat :=
  let c2_1003 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3581 : Index := Scalar.indexCast v44
  let c2304_1004 : Index := 2304#32
  ![2, v3581.toNat, 2304]
def k0_off176 (i : grid0.Coords) (c0_i32_18 : BitVec 32) (c0_i32_1027 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3673 : BitVec 32 := Scalar.addi v39 c0_i32_1027
  let v3674 : Index := Scalar.indexCast v3673
  let c2304_1028 : Index := 2304#32
  ![v3674.toNat, 2304]
def k0_off177 (i : grid0.Coords) (c0_i32_18 : BitVec 32) : Fin 3 → Nat :=
  let c0_1047 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3747 : Index := Scalar.indexCast v44
  let c2432 : Index := 2432#32
  ![0, v3747.toNat, 2432]
def k0_off178 (i : grid0.Coords) (c0_i32_18 : BitVec 32) : Fin 3 → Nat :=
  let c1_1048 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3751 : Index := Scalar.indexCast v44
  let c2432_1049 : Index := 2432#32
  ![1, v3751.toNat, 2432]
def k0_off179 (i : grid0.Coords) (c0_i32_18 : BitVec 32) : Fin 3 → Nat :=
  let c2_1050 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3755 : Index := Scalar.indexCast v44
  let c2432_1051 : Index := 2432#32
  ![2, v3755.toNat, 2432]
def k0_off180 (i : grid0.Coords) (c0_i32_18 : BitVec 32) (c0_i32_1074 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3847 : BitVec 32 := Scalar.addi v39 c0_i32_1074
  let v3848 : Index := Scalar.indexCast v3847
  let c2432_1075 : Index := 2432#32
  ![v3848.toNat, 2432]
def k0_mult5 (i : grid0.Coords) : BitVec 32 :=
  let arg1 : BitVec 32 := BitVec.ofNat 32 (i 1).val
  let c3_i32_1101 : BitVec 32 := 3#32
  let v3926 : BitVec 32 := Scalar.muli arg1 c3_i32_1101
  let c1_i32_1102 : BitVec 32 := 1#32
  let v3927 : BitVec 32 := Scalar.addi v3926 c1_i32_1102
  let c32_i32_1104 : BitVec 32 := 32#32
  let v3930 : BitVec 32 := Scalar.muli v3927 c32_i32_1104
  v3930
def k0_mult6 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32_1103 : BitVec 32 := 24#32
  let v3928 : BitVec 32 := Scalar.muli v7 c24_i32_1103
  let arg1 : BitVec 32 := BitVec.ofNat 32 (i 1).val
  let c3_i32_1101 : BitVec 32 := 3#32
  let v3926 : BitVec 32 := Scalar.muli arg1 c3_i32_1101
  let c1_i32_1102 : BitVec 32 := 1#32
  let v3927 : BitVec 32 := Scalar.addi v3926 c1_i32_1102
  let v3929 : BitVec 32 := Scalar.addi v3928 v3927
  let c27_i32_1105 : BitVec 32 := 27#32
  let v3932 : BitVec 32 := Scalar.divsi v3929 c27_i32_1105
  let c27_i32_1106 : BitVec 32 := 27#32
  let v3933 : BitVec 32 := Scalar.muli v3932 c27_i32_1106
  let v3934 : BitVec 32 := Scalar.subi v3929 v3933
  let c32_i32_1107 : BitVec 32 := 32#32
  let v3935 : BitVec 32 := Scalar.muli v3934 c32_i32_1107
  v3935
def k0_mult7 (i : grid0.Coords) : BitVec 32 :=
  let arg1 : BitVec 32 := BitVec.ofNat 32 (i 1).val
  let c3_i32_2248 : BitVec 32 := 3#32
  let v7818 : BitVec 32 := Scalar.muli arg1 c3_i32_2248
  let c2_i32_2249 : BitVec 32 := 2#32
  let v7819 : BitVec 32 := Scalar.addi v7818 c2_i32_2249
  let c32_i32_2251 : BitVec 32 := 32#32
  let v7822 : BitVec 32 := Scalar.muli v7819 c32_i32_2251
  v7822
def k0_mult8 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32_2250 : BitVec 32 := 24#32
  let v7820 : BitVec 32 := Scalar.muli v7 c24_i32_2250
  let arg1 : BitVec 32 := BitVec.ofNat 32 (i 1).val
  let c3_i32_2248 : BitVec 32 := 3#32
  let v7818 : BitVec 32 := Scalar.muli arg1 c3_i32_2248
  let c2_i32_2249 : BitVec 32 := 2#32
  let v7819 : BitVec 32 := Scalar.addi v7818 c2_i32_2249
  let v7821 : BitVec 32 := Scalar.addi v7820 v7819
  let c27_i32_2252 : BitVec 32 := 27#32
  let v7824 : BitVec 32 := Scalar.divsi v7821 c27_i32_2252
  let c27_i32_2253 : BitVec 32 := 27#32
  let v7825 : BitVec 32 := Scalar.muli v7824 c27_i32_2253
  let v7826 : BitVec 32 := Scalar.subi v7821 v7825
  let c32_i32_2254 : BitVec 32 := 32#32
  let v7827 : BitVec 32 := Scalar.muli v7826 c32_i32_2254
  v7827
def k0_cond3 (i : grid0.Coords) : BitVec 1 :=
  let arg0 : BitVec 32 := BitVec.ofNat 32 (i 0).val
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c1_i32_16 : BitVec 32 := 1#32
  let v31 : BitVec 1 := Scalar.cmpi .eq v30 c1_i32_16
  let v32 : BitVec 32 := Scalar.extui v31
  let c0_i32_17 : BitVec 32 := 0#32
  let v33 : BitVec 1 := Scalar.cmpi .ne v32 c0_i32_17
  v33

def k0_mult9 (i : grid0.Coords) : BitVec 32 :=
  let arg1 : BitVec 32 := BitVec.ofNat 32 (i 1).val
  let c3_i32 : BitVec 32 := 3#32
  let v34 : BitVec 32 := Scalar.muli arg1 c3_i32
  let c0_i32_18 : BitVec 32 := 0#32
  let v35 : BitVec 32 := Scalar.addi v34 c0_i32_18
  let c32_i32 : BitVec 32 := 32#32
  let v38 : BitVec 32 := Scalar.muli v35 c32_i32
  v38
def k0_mult10 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let c0_i32_18 : BitVec 32 := 0#32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  v43
def k0_off181 (i : grid0.Coords) (c0_i32_18 : BitVec 32) : Fin 3 → Nat :=
  let c0 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v45 : Index := Scalar.indexCast v44
  let c0_21 : Index := 0#32
  ![0, v45.toNat, 0]
def k0_off182 (i : grid0.Coords) (c0_i32_18 : BitVec 32) : Fin 3 → Nat :=
  let c1 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v49 : Index := Scalar.indexCast v44
  let c0_22 : Index := 0#32
  ![1, v49.toNat, 0]
def k0_off183 (i : grid0.Coords) (c0_i32_18 : BitVec 32) : Fin 3 → Nat :=
  let c2 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v53 : Index := Scalar.indexCast v44
  let c0_23 : Index := 0#32
  ![2, v53.toNat, 0]
def k0_off184 (i : grid0.Coords) (c0_i32_18 : BitVec 32) (c0_i32_29 : BitVec 32) : Fin 3 → Nat :=
  let c0_30 : Index := 0#32
  let c2_i32_28 : BitVec 32 := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v77 : BitVec 32 := Scalar.muli c2_i32_28 v37
  let v78 : BitVec 32 := Scalar.addi v77 c0_i32_29
  let v79 : Index := Scalar.indexCast v78
  let c0_31 : Index := 0#32
  ![0, v79.toNat, 0]
def k0_off185 (i : grid0.Coords) (c0_i32_18 : BitVec 32) : Fin 3 → Nat :=
  let c0_44 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v117 : Index := Scalar.indexCast v44
  let c128 : Index := 128#32
  ![0, v117.toNat, 128]
def k0_off186 (i : grid0.Coords) (c0_i32_18 : BitVec 32) : Fin 3 → Nat :=
  let c1_45 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v121 : Index := Scalar.indexCast v44
  let c128_46 : Index := 128#32
  ![1, v121.toNat, 128]
def k0_off187 (i : grid0.Coords) (c0_i32_18 : BitVec 32) : Fin 3 → Nat :=
  let c2_47 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v125 : Index := Scalar.indexCast v44
  let c128_48 : Index := 128#32
  ![2, v125.toNat, 128]
def k0_off188 (i : grid0.Coords) (c0_i32_18 : BitVec 32) (c0_i32_56 : BitVec 32) : Fin 3 → Nat :=
  let c1_57 : Index := 1#32
  let c2_i32_55 : BitVec 32 := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v151 : BitVec 32 := Scalar.muli c2_i32_55 v37
  let v152 : BitVec 32 := Scalar.addi v151 c0_i32_56
  let v153 : Index := Scalar.indexCast v152
  let c0_58 : Index := 0#32
  ![1, v153.toNat, 0]
def k0_off189 (i : grid0.Coords) (c0_i32_18 : BitVec 32) : Fin 4 → Nat :=
  let c0_126 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v337 : Index := Scalar.indexCast v37
  let c0_127 : Index := 0#32
  let c0_128 : Index := 0#32
  ![0, v337.toNat, 0, 0]
def k0_off190 (i : grid0.Coords) (c0_i32_18 : BitVec 32) : Fin 4 → Nat :=
  let c1_129 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let v340 : Index := Scalar.indexCast v37
  let c0_130 : Index := 0#32
  let c0_131 : Index := 0#32
  ![1, v340.toNat, 0, 0]
def k0_off191 (i : grid0.Coords) (c0_i32_18 : BitVec 32) : Fin 3 → Nat :=
  let c0_164 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v441 : Index := Scalar.indexCast v44
  let c0_165 : Index := 0#32
  ![0, v441.toNat, 0]
def k0_off192 (i : grid0.Coords) (c0_i32_18 : BitVec 32) : Fin 3 → Nat :=
  let c1_166 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v445 : Index := Scalar.indexCast v44
  let c0_167 : Index := 0#32
  ![1, v445.toNat, 0]
def k0_off193 (i : grid0.Coords) (c0_i32_18 : BitVec 32) : Fin 3 → Nat :=
  let c2_168 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v449 : Index := Scalar.indexCast v44
  let c0_169 : Index := 0#32
  ![2, v449.toNat, 0]
def k0_off194 (i : grid0.Coords) (c0_i32_18 : BitVec 32) (c0_i32_190 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v541 : BitVec 32 := Scalar.addi v39 c0_i32_190
  let v542 : Index := Scalar.indexCast v541
  let c0_191 : Index := 0#32
  ![v542.toNat, 0]
def k0_off195 (i : grid0.Coords) (c0_i32_18 : BitVec 32) : Fin 3 → Nat :=
  let c0_210 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v615 : Index := Scalar.indexCast v44
  let c128_211 : Index := 128#32
  ![0, v615.toNat, 128]
def k0_off196 (i : grid0.Coords) (c0_i32_18 : BitVec 32) : Fin 3 → Nat :=
  let c1_212 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v619 : Index := Scalar.indexCast v44
  let c128_213 : Index := 128#32
  ![1, v619.toNat, 128]
def k0_off197 (i : grid0.Coords) (c0_i32_18 : BitVec 32) : Fin 3 → Nat :=
  let c2_214 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v623 : Index := Scalar.indexCast v44
  let c128_215 : Index := 128#32
  ![2, v623.toNat, 128]
def k0_off198 (i : grid0.Coords) (c0_i32_18 : BitVec 32) (c0_i32_239 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v715 : BitVec 32 := Scalar.addi v39 c0_i32_239
  let v716 : Index := Scalar.indexCast v715
  let c128_240 : Index := 128#32
  ![v716.toNat, 128]
def k0_off199 (i : grid0.Coords) (c0_i32_18 : BitVec 32) : Fin 3 → Nat :=
  let c0_259 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v789 : Index := Scalar.indexCast v44
  let c256 : Index := 256#32
  ![0, v789.toNat, 256]
def k0_off200 (i : grid0.Coords) (c0_i32_18 : BitVec 32) : Fin 3 → Nat :=
  let c1_260 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v793 : Index := Scalar.indexCast v44
  let c256_261 : Index := 256#32
  ![1, v793.toNat, 256]
def k0_off201 (i : grid0.Coords) (c0_i32_18 : BitVec 32) : Fin 3 → Nat :=
  let c2_262 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v797 : Index := Scalar.indexCast v44
  let c256_263 : Index := 256#32
  ![2, v797.toNat, 256]
def k0_off202 (i : grid0.Coords) (c0_i32_18 : BitVec 32) (c0_i32_286 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v889 : BitVec 32 := Scalar.addi v39 c0_i32_286
  let v890 : Index := Scalar.indexCast v889
  let c256_287 : Index := 256#32
  ![v890.toNat, 256]
def k0_off203 (i : grid0.Coords) (c0_i32_18 : BitVec 32) : Fin 3 → Nat :=
  let c0_306 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v963 : Index := Scalar.indexCast v44
  let c384 : Index := 384#32
  ![0, v963.toNat, 384]
def k0_off204 (i : grid0.Coords) (c0_i32_18 : BitVec 32) : Fin 3 → Nat :=
  let c1_307 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v967 : Index := Scalar.indexCast v44
  let c384_308 : Index := 384#32
  ![1, v967.toNat, 384]
def k0_off205 (i : grid0.Coords) (c0_i32_18 : BitVec 32) : Fin 3 → Nat :=
  let c2_309 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v971 : Index := Scalar.indexCast v44
  let c384_310 : Index := 384#32
  ![2, v971.toNat, 384]
def k0_off206 (i : grid0.Coords) (c0_i32_18 : BitVec 32) (c0_i32_333 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1063 : BitVec 32 := Scalar.addi v39 c0_i32_333
  let v1064 : Index := Scalar.indexCast v1063
  let c384_334 : Index := 384#32
  ![v1064.toNat, 384]
def k0_off207 (i : grid0.Coords) (c0_i32_18 : BitVec 32) : Fin 3 → Nat :=
  let c0_353 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1137 : Index := Scalar.indexCast v44
  let c512 : Index := 512#32
  ![0, v1137.toNat, 512]
def k0_off208 (i : grid0.Coords) (c0_i32_18 : BitVec 32) : Fin 3 → Nat :=
  let c1_354 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1141 : Index := Scalar.indexCast v44
  let c512_355 : Index := 512#32
  ![1, v1141.toNat, 512]
def k0_off209 (i : grid0.Coords) (c0_i32_18 : BitVec 32) : Fin 3 → Nat :=
  let c2_356 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1145 : Index := Scalar.indexCast v44
  let c512_357 : Index := 512#32
  ![2, v1145.toNat, 512]
def k0_off210 (i : grid0.Coords) (c0_i32_18 : BitVec 32) (c0_i32_380 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1237 : BitVec 32 := Scalar.addi v39 c0_i32_380
  let v1238 : Index := Scalar.indexCast v1237
  let c512_381 : Index := 512#32
  ![v1238.toNat, 512]
def k0_off211 (i : grid0.Coords) (c0_i32_18 : BitVec 32) : Fin 3 → Nat :=
  let c0_400 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1311 : Index := Scalar.indexCast v44
  let c640 : Index := 640#32
  ![0, v1311.toNat, 640]
def k0_off212 (i : grid0.Coords) (c0_i32_18 : BitVec 32) : Fin 3 → Nat :=
  let c1_401 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1315 : Index := Scalar.indexCast v44
  let c640_402 : Index := 640#32
  ![1, v1315.toNat, 640]
def k0_off213 (i : grid0.Coords) (c0_i32_18 : BitVec 32) : Fin 3 → Nat :=
  let c2_403 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1319 : Index := Scalar.indexCast v44
  let c640_404 : Index := 640#32
  ![2, v1319.toNat, 640]
def k0_off214 (i : grid0.Coords) (c0_i32_18 : BitVec 32) (c0_i32_426 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1411 : BitVec 32 := Scalar.addi v39 c0_i32_426
  let v1412 : Index := Scalar.indexCast v1411
  let c640_427 : Index := 640#32
  ![v1412.toNat, 640]
def k0_off215 (i : grid0.Coords) (c0_i32_18 : BitVec 32) : Fin 3 → Nat :=
  let c0_446 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1485 : Index := Scalar.indexCast v44
  let c768 : Index := 768#32
  ![0, v1485.toNat, 768]
def k0_off216 (i : grid0.Coords) (c0_i32_18 : BitVec 32) : Fin 3 → Nat :=
  let c1_447 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1489 : Index := Scalar.indexCast v44
  let c768_448 : Index := 768#32
  ![1, v1489.toNat, 768]
def k0_off217 (i : grid0.Coords) (c0_i32_18 : BitVec 32) : Fin 3 → Nat :=
  let c2_449 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1493 : Index := Scalar.indexCast v44
  let c768_450 : Index := 768#32
  ![2, v1493.toNat, 768]
def k0_off218 (i : grid0.Coords) (c0_i32_18 : BitVec 32) (c0_i32_472 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1585 : BitVec 32 := Scalar.addi v39 c0_i32_472
  let v1586 : Index := Scalar.indexCast v1585
  let c768_473 : Index := 768#32
  ![v1586.toNat, 768]
def k0_off219 (i : grid0.Coords) (c0_i32_18 : BitVec 32) : Fin 3 → Nat :=
  let c0_492 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1659 : Index := Scalar.indexCast v44
  let c896 : Index := 896#32
  ![0, v1659.toNat, 896]
def k0_off220 (i : grid0.Coords) (c0_i32_18 : BitVec 32) : Fin 3 → Nat :=
  let c1_493 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1663 : Index := Scalar.indexCast v44
  let c896_494 : Index := 896#32
  ![1, v1663.toNat, 896]
def k0_off221 (i : grid0.Coords) (c0_i32_18 : BitVec 32) : Fin 3 → Nat :=
  let c2_495 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1667 : Index := Scalar.indexCast v44
  let c896_496 : Index := 896#32
  ![2, v1667.toNat, 896]
def k0_off222 (i : grid0.Coords) (c0_i32_18 : BitVec 32) (c0_i32_518 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1759 : BitVec 32 := Scalar.addi v39 c0_i32_518
  let v1760 : Index := Scalar.indexCast v1759
  let c896_519 : Index := 896#32
  ![v1760.toNat, 896]
def k0_off223 (i : grid0.Coords) (c0_i32_18 : BitVec 32) : Fin 3 → Nat :=
  let c0_538 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1833 : Index := Scalar.indexCast v44
  let c1024 : Index := 1024#32
  ![0, v1833.toNat, 1024]
def k0_off224 (i : grid0.Coords) (c0_i32_18 : BitVec 32) : Fin 3 → Nat :=
  let c1_539 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1837 : Index := Scalar.indexCast v44
  let c1024_540 : Index := 1024#32
  ![1, v1837.toNat, 1024]
def k0_off225 (i : grid0.Coords) (c0_i32_18 : BitVec 32) : Fin 3 → Nat :=
  let c2_541 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v1841 : Index := Scalar.indexCast v44
  let c1024_542 : Index := 1024#32
  ![2, v1841.toNat, 1024]
def k0_off226 (i : grid0.Coords) (c0_i32_18 : BitVec 32) (c0_i32_564 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v1933 : BitVec 32 := Scalar.addi v39 c0_i32_564
  let v1934 : Index := Scalar.indexCast v1933
  let c1024_565 : Index := 1024#32
  ![v1934.toNat, 1024]
def k0_off227 (i : grid0.Coords) (c0_i32_18 : BitVec 32) : Fin 3 → Nat :=
  let c0_584 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2007 : Index := Scalar.indexCast v44
  let c1152 : Index := 1152#32
  ![0, v2007.toNat, 1152]
def k0_off228 (i : grid0.Coords) (c0_i32_18 : BitVec 32) : Fin 3 → Nat :=
  let c1_585 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2011 : Index := Scalar.indexCast v44
  let c1152_586 : Index := 1152#32
  ![1, v2011.toNat, 1152]
def k0_off229 (i : grid0.Coords) (c0_i32_18 : BitVec 32) : Fin 3 → Nat :=
  let c2_587 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2015 : Index := Scalar.indexCast v44
  let c1152_588 : Index := 1152#32
  ![2, v2015.toNat, 1152]
def k0_off230 (i : grid0.Coords) (c0_i32_18 : BitVec 32) (c0_i32_610 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2107 : BitVec 32 := Scalar.addi v39 c0_i32_610
  let v2108 : Index := Scalar.indexCast v2107
  let c1152_611 : Index := 1152#32
  ![v2108.toNat, 1152]
def k0_off231 (i : grid0.Coords) (c0_i32_18 : BitVec 32) : Fin 3 → Nat :=
  let c0_630 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2181 : Index := Scalar.indexCast v44
  let c1280 : Index := 1280#32
  ![0, v2181.toNat, 1280]
def k0_off232 (i : grid0.Coords) (c0_i32_18 : BitVec 32) : Fin 3 → Nat :=
  let c1_631 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2185 : Index := Scalar.indexCast v44
  let c1280_632 : Index := 1280#32
  ![1, v2185.toNat, 1280]
def k0_off233 (i : grid0.Coords) (c0_i32_18 : BitVec 32) : Fin 3 → Nat :=
  let c2_633 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2189 : Index := Scalar.indexCast v44
  let c1280_634 : Index := 1280#32
  ![2, v2189.toNat, 1280]
def k0_off234 (i : grid0.Coords) (c0_i32_18 : BitVec 32) (c0_i32_656 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2281 : BitVec 32 := Scalar.addi v39 c0_i32_656
  let v2282 : Index := Scalar.indexCast v2281
  let c1280_657 : Index := 1280#32
  ![v2282.toNat, 1280]
def k0_off235 (i : grid0.Coords) (c0_i32_18 : BitVec 32) : Fin 3 → Nat :=
  let c0_676 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2355 : Index := Scalar.indexCast v44
  let c1408 : Index := 1408#32
  ![0, v2355.toNat, 1408]
def k0_off236 (i : grid0.Coords) (c0_i32_18 : BitVec 32) : Fin 3 → Nat :=
  let c1_677 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2359 : Index := Scalar.indexCast v44
  let c1408_678 : Index := 1408#32
  ![1, v2359.toNat, 1408]
def k0_off237 (i : grid0.Coords) (c0_i32_18 : BitVec 32) : Fin 3 → Nat :=
  let c2_679 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2363 : Index := Scalar.indexCast v44
  let c1408_680 : Index := 1408#32
  ![2, v2363.toNat, 1408]
def k0_off238 (i : grid0.Coords) (c0_i32_18 : BitVec 32) (c0_i32_702 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2455 : BitVec 32 := Scalar.addi v39 c0_i32_702
  let v2456 : Index := Scalar.indexCast v2455
  let c1408_703 : Index := 1408#32
  ![v2456.toNat, 1408]
def k0_off239 (i : grid0.Coords) (c0_i32_18 : BitVec 32) : Fin 3 → Nat :=
  let c0_722 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2529 : Index := Scalar.indexCast v44
  let c1536 : Index := 1536#32
  ![0, v2529.toNat, 1536]
def k0_off240 (i : grid0.Coords) (c0_i32_18 : BitVec 32) : Fin 3 → Nat :=
  let c1_723 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2533 : Index := Scalar.indexCast v44
  let c1536_724 : Index := 1536#32
  ![1, v2533.toNat, 1536]
def k0_off241 (i : grid0.Coords) (c0_i32_18 : BitVec 32) : Fin 3 → Nat :=
  let c2_725 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2537 : Index := Scalar.indexCast v44
  let c1536_726 : Index := 1536#32
  ![2, v2537.toNat, 1536]
def k0_off242 (i : grid0.Coords) (c0_i32_18 : BitVec 32) (c0_i32_748 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2629 : BitVec 32 := Scalar.addi v39 c0_i32_748
  let v2630 : Index := Scalar.indexCast v2629
  let c1536_749 : Index := 1536#32
  ![v2630.toNat, 1536]
def k0_off243 (i : grid0.Coords) (c0_i32_18 : BitVec 32) : Fin 3 → Nat :=
  let c0_768 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2703 : Index := Scalar.indexCast v44
  let c1664 : Index := 1664#32
  ![0, v2703.toNat, 1664]
def k0_off244 (i : grid0.Coords) (c0_i32_18 : BitVec 32) : Fin 3 → Nat :=
  let c1_769 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2707 : Index := Scalar.indexCast v44
  let c1664_770 : Index := 1664#32
  ![1, v2707.toNat, 1664]
def k0_off245 (i : grid0.Coords) (c0_i32_18 : BitVec 32) : Fin 3 → Nat :=
  let c2_771 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2711 : Index := Scalar.indexCast v44
  let c1664_772 : Index := 1664#32
  ![2, v2711.toNat, 1664]
def k0_off246 (i : grid0.Coords) (c0_i32_18 : BitVec 32) (c0_i32_794 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2803 : BitVec 32 := Scalar.addi v39 c0_i32_794
  let v2804 : Index := Scalar.indexCast v2803
  let c1664_795 : Index := 1664#32
  ![v2804.toNat, 1664]
def k0_off247 (i : grid0.Coords) (c0_i32_18 : BitVec 32) : Fin 3 → Nat :=
  let c0_814 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2877 : Index := Scalar.indexCast v44
  let c1792 : Index := 1792#32
  ![0, v2877.toNat, 1792]
def k0_off248 (i : grid0.Coords) (c0_i32_18 : BitVec 32) : Fin 3 → Nat :=
  let c1_815 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2881 : Index := Scalar.indexCast v44
  let c1792_816 : Index := 1792#32
  ![1, v2881.toNat, 1792]
def k0_off249 (i : grid0.Coords) (c0_i32_18 : BitVec 32) : Fin 3 → Nat :=
  let c2_817 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v2885 : Index := Scalar.indexCast v44
  let c1792_818 : Index := 1792#32
  ![2, v2885.toNat, 1792]
def k0_off250 (i : grid0.Coords) (c0_i32_18 : BitVec 32) (c0_i32_840 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v2977 : BitVec 32 := Scalar.addi v39 c0_i32_840
  let v2978 : Index := Scalar.indexCast v2977
  let c1792_841 : Index := 1792#32
  ![v2978.toNat, 1792]
def k0_off251 (i : grid0.Coords) (c0_i32_18 : BitVec 32) : Fin 3 → Nat :=
  let c0_860 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3051 : Index := Scalar.indexCast v44
  let c1920 : Index := 1920#32
  ![0, v3051.toNat, 1920]
def k0_off252 (i : grid0.Coords) (c0_i32_18 : BitVec 32) : Fin 3 → Nat :=
  let c1_861 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3055 : Index := Scalar.indexCast v44
  let c1920_862 : Index := 1920#32
  ![1, v3055.toNat, 1920]
def k0_off253 (i : grid0.Coords) (c0_i32_18 : BitVec 32) : Fin 3 → Nat :=
  let c2_863 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3059 : Index := Scalar.indexCast v44
  let c1920_864 : Index := 1920#32
  ![2, v3059.toNat, 1920]
def k0_off254 (i : grid0.Coords) (c0_i32_18 : BitVec 32) (c0_i32_886 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3151 : BitVec 32 := Scalar.addi v39 c0_i32_886
  let v3152 : Index := Scalar.indexCast v3151
  let c1920_887 : Index := 1920#32
  ![v3152.toNat, 1920]
def k0_off255 (i : grid0.Coords) (c0_i32_18 : BitVec 32) : Fin 3 → Nat :=
  let c0_906 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3225 : Index := Scalar.indexCast v44
  let c2048 : Index := 2048#32
  ![0, v3225.toNat, 2048]
def k0_off256 (i : grid0.Coords) (c0_i32_18 : BitVec 32) : Fin 3 → Nat :=
  let c1_907 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3229 : Index := Scalar.indexCast v44
  let c2048_908 : Index := 2048#32
  ![1, v3229.toNat, 2048]
def k0_off257 (i : grid0.Coords) (c0_i32_18 : BitVec 32) : Fin 3 → Nat :=
  let c2_909 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3233 : Index := Scalar.indexCast v44
  let c2048_910 : Index := 2048#32
  ![2, v3233.toNat, 2048]
def k0_off258 (i : grid0.Coords) (c0_i32_18 : BitVec 32) (c0_i32_933 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3325 : BitVec 32 := Scalar.addi v39 c0_i32_933
  let v3326 : Index := Scalar.indexCast v3325
  let c2048_934 : Index := 2048#32
  ![v3326.toNat, 2048]
def k0_off259 (i : grid0.Coords) (c0_i32_18 : BitVec 32) : Fin 3 → Nat :=
  let c0_953 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3399 : Index := Scalar.indexCast v44
  let c2176 : Index := 2176#32
  ![0, v3399.toNat, 2176]
def k0_off260 (i : grid0.Coords) (c0_i32_18 : BitVec 32) : Fin 3 → Nat :=
  let c1_954 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3403 : Index := Scalar.indexCast v44
  let c2176_955 : Index := 2176#32
  ![1, v3403.toNat, 2176]
def k0_off261 (i : grid0.Coords) (c0_i32_18 : BitVec 32) : Fin 3 → Nat :=
  let c2_956 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3407 : Index := Scalar.indexCast v44
  let c2176_957 : Index := 2176#32
  ![2, v3407.toNat, 2176]
def k0_off262 (i : grid0.Coords) (c0_i32_18 : BitVec 32) (c0_i32_980 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3499 : BitVec 32 := Scalar.addi v39 c0_i32_980
  let v3500 : Index := Scalar.indexCast v3499
  let c2176_981 : Index := 2176#32
  ![v3500.toNat, 2176]
def k0_off263 (i : grid0.Coords) (c0_i32_18 : BitVec 32) : Fin 3 → Nat :=
  let c0_1000 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3573 : Index := Scalar.indexCast v44
  let c2304 : Index := 2304#32
  ![0, v3573.toNat, 2304]
def k0_off264 (i : grid0.Coords) (c0_i32_18 : BitVec 32) : Fin 3 → Nat :=
  let c1_1001 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3577 : Index := Scalar.indexCast v44
  let c2304_1002 : Index := 2304#32
  ![1, v3577.toNat, 2304]
def k0_off265 (i : grid0.Coords) (c0_i32_18 : BitVec 32) : Fin 3 → Nat :=
  let c2_1003 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3581 : Index := Scalar.indexCast v44
  let c2304_1004 : Index := 2304#32
  ![2, v3581.toNat, 2304]
def k0_off266 (i : grid0.Coords) (c0_i32_18 : BitVec 32) (c0_i32_1027 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3673 : BitVec 32 := Scalar.addi v39 c0_i32_1027
  let v3674 : Index := Scalar.indexCast v3673
  let c2304_1028 : Index := 2304#32
  ![v3674.toNat, 2304]
def k0_off267 (i : grid0.Coords) (c0_i32_18 : BitVec 32) : Fin 3 → Nat :=
  let c0_1047 : Index := 0#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3747 : Index := Scalar.indexCast v44
  let c2432 : Index := 2432#32
  ![0, v3747.toNat, 2432]
def k0_off268 (i : grid0.Coords) (c0_i32_18 : BitVec 32) : Fin 3 → Nat :=
  let c1_1048 : Index := 1#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3751 : Index := Scalar.indexCast v44
  let c2432_1049 : Index := 2432#32
  ![1, v3751.toNat, 2432]
def k0_off269 (i : grid0.Coords) (c0_i32_18 : BitVec 32) : Fin 3 → Nat :=
  let c2_1050 : Index := 2#32
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32 : BitVec 32 := 24#32
  let v36 : BitVec 32 := Scalar.muli v7 c24_i32
  let arg1 : BitVec 32 := BitVec.ofNat 32 (i 1).val
  let c3_i32 : BitVec 32 := 3#32
  let v34 : BitVec 32 := Scalar.muli arg1 c3_i32
  let v35 : BitVec 32 := Scalar.addi v34 c0_i32_18
  let v37 : BitVec 32 := Scalar.addi v36 v35
  let c27_i32 : BitVec 32 := 27#32
  let v40 : BitVec 32 := Scalar.divsi v37 c27_i32
  let c27_i32_19 : BitVec 32 := 27#32
  let v41 : BitVec 32 := Scalar.muli v40 c27_i32_19
  let v42 : BitVec 32 := Scalar.subi v37 v41
  let c32_i32_20 : BitVec 32 := 32#32
  let v43 : BitVec 32 := Scalar.muli v42 c32_i32_20
  let v44 : BitVec 32 := v43
  let v3755 : Index := Scalar.indexCast v44
  let c2432_1051 : Index := 2432#32
  ![2, v3755.toNat, 2432]
def k0_off270 (i : grid0.Coords) (c0_i32_18 : BitVec 32) (c0_i32_1074 : BitVec 32) : Fin 2 → Nat :=
  let arg1 : BitVec 32 := BitVec.ofNat 32 (i 1).val
  let c3_i32 : BitVec 32 := 3#32
  let v34 : BitVec 32 := Scalar.muli arg1 c3_i32
  let v35 : BitVec 32 := Scalar.addi v34 c0_i32_18
  let c32_i32 : BitVec 32 := 32#32
  let v38 : BitVec 32 := Scalar.muli v35 c32_i32
  let v39 : BitVec 32 := v38
  let v3847 : BitVec 32 := Scalar.addi v39 c0_i32_1074
  let v3848 : Index := Scalar.indexCast v3847
  let c2432_1075 : Index := 2432#32
  ![v3848.toNat, 2432]
def k0_mult11 (i : grid0.Coords) : BitVec 32 :=
  let arg1 : BitVec 32 := BitVec.ofNat 32 (i 1).val
  let c3_i32_1101 : BitVec 32 := 3#32
  let v3926 : BitVec 32 := Scalar.muli arg1 c3_i32_1101
  let c1_i32_1102 : BitVec 32 := 1#32
  let v3927 : BitVec 32 := Scalar.addi v3926 c1_i32_1102
  let c32_i32_1104 : BitVec 32 := 32#32
  let v3930 : BitVec 32 := Scalar.muli v3927 c32_i32_1104
  v3930
def k0_mult12 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32_1103 : BitVec 32 := 24#32
  let v3928 : BitVec 32 := Scalar.muli v7 c24_i32_1103
  let arg1 : BitVec 32 := BitVec.ofNat 32 (i 1).val
  let c3_i32_1101 : BitVec 32 := 3#32
  let v3926 : BitVec 32 := Scalar.muli arg1 c3_i32_1101
  let c1_i32_1102 : BitVec 32 := 1#32
  let v3927 : BitVec 32 := Scalar.addi v3926 c1_i32_1102
  let v3929 : BitVec 32 := Scalar.addi v3928 v3927
  let c27_i32_1105 : BitVec 32 := 27#32
  let v3932 : BitVec 32 := Scalar.divsi v3929 c27_i32_1105
  let c27_i32_1106 : BitVec 32 := 27#32
  let v3933 : BitVec 32 := Scalar.muli v3932 c27_i32_1106
  let v3934 : BitVec 32 := Scalar.subi v3929 v3933
  let c32_i32_1107 : BitVec 32 := 32#32
  let v3935 : BitVec 32 := Scalar.muli v3934 c32_i32_1107
  v3935
def k0_mult13 (i : grid0.Coords) : BitVec 32 :=
  let arg1 : BitVec 32 := BitVec.ofNat 32 (i 1).val
  let c3_i32_2248 : BitVec 32 := 3#32
  let v7818 : BitVec 32 := Scalar.muli arg1 c3_i32_2248
  let c2_i32_2249 : BitVec 32 := 2#32
  let v7819 : BitVec 32 := Scalar.addi v7818 c2_i32_2249
  let c32_i32_2251 : BitVec 32 := 32#32
  let v7822 : BitVec 32 := Scalar.muli v7819 c32_i32_2251
  v7822
def k0_mult14 (i : grid0.Coords) : BitVec 32 :=
  let arg0 : BitVec 32 := BitVec.ofNat 32 (i 0).val
  let c8_i32 : BitVec 32 := 8#32
  let v5 : BitVec 1 := Scalar.cmpi .eq arg0 c8_i32
  let c0_i32_2 : BitVec 32 := 0#32
  let c1_i32 : BitVec 32 := 1#32
  let v6 : BitVec 32 := Scalar.addi arg0 c1_i32
  let v7 : BitVec 32 := Scalar.select v5 c0_i32_2 v6
  let c24_i32_2250 : BitVec 32 := 24#32
  let v7820 : BitVec 32 := Scalar.muli v7 c24_i32_2250
  let arg1 : BitVec 32 := BitVec.ofNat 32 (i 1).val
  let c3_i32_2248 : BitVec 32 := 3#32
  let v7818 : BitVec 32 := Scalar.muli arg1 c3_i32_2248
  let c2_i32_2249 : BitVec 32 := 2#32
  let v7819 : BitVec 32 := Scalar.addi v7818 c2_i32_2249
  let v7821 : BitVec 32 := Scalar.addi v7820 v7819
  let c27_i32_2252 : BitVec 32 := 27#32
  let v7824 : BitVec 32 := Scalar.divsi v7821 c27_i32_2252
  let c27_i32_2253 : BitVec 32 := 27#32
  let v7825 : BitVec 32 := Scalar.muli v7824 c27_i32_2253
  let v7826 : BitVec 32 := Scalar.subi v7821 v7825
  let c32_i32_2254 : BitVec 32 := 32#32
  let v7827 : BitVec 32 := Scalar.muli v7826 c32_i32_2254
  v7827
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x864x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x864x160 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x864x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S432x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S432x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S432x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S432x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x216x8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x2560 : Shape := ⟨2, ![8192, 2560]⟩
abbrev S3x864x2560 : Shape := ⟨3, ![3, 864, 2560]⟩
abbrev S3x864x160 : Shape := ⟨3, ![3, 864, 160]⟩
abbrev S432x160 : Shape := ⟨2, ![432, 160]⟩
abbrev S2x216x8x128 : Shape := ⟨4, ![2, 216, 8, 128]⟩
abbrev S8 : Shape := ⟨1, ![8]⟩
abbrev S8x1x1 : Shape := ⟨3, ![8, 1, 1]⟩
abbrev S1x864x160 : Shape := ⟨3, ![1, 864, 160]⟩
abbrev S864x160 : Shape := ⟨2, ![864, 160]⟩
abbrev S8x864x160 : Shape := ⟨3, ![8, 864, 160]⟩
abbrev S_ : Shape := ⟨0, ![]⟩
abbrev S6912x160 : Shape := ⟨2, ![6912, 160]⟩
abbrev S432x16x160 : Shape := ⟨3, ![432, 16, 160]⟩
abbrev S432x1x160 : Shape := ⟨3, ![432, 1, 160]⟩
abbrev S1x864x2560 : Shape := ⟨3, ![1, 864, 2560]⟩
abbrev S864x2560 : Shape := ⟨2, ![864, 2560]⟩
abbrev S8x864x2560 : Shape := ⟨3, ![8, 864, 2560]⟩
abbrev S6912x2560 : Shape := ⟨2, ![6912, 2560]⟩
abbrev S6912x160x16 : Shape := ⟨3, ![6912, 160, 16]⟩
abbrev S6912x160x1 : Shape := ⟨3, ![6912, 160, 1]⟩
abbrev S1x216x8x128 : Shape := ⟨4, ![1, 216, 8, 128]⟩
abbrev S216x8x128 : Shape := ⟨3, ![216, 8, 128]⟩
abbrev S216x8x4x32 : Shape := ⟨4, ![216, 8, 4, 32]⟩
abbrev S216x4x8x32 : Shape := ⟨4, ![216, 4, 8, 32]⟩
abbrev S6912x32 : Shape := ⟨2, ![6912, 32]⟩
abbrev S6912x2560x1 : Shape := ⟨3, ![6912, 2560, 1]⟩
abbrev S8192x6912 : Shape := ⟨2, ![8192, 6912]⟩

abbrev nBuf : Space → Nat
  | .hbm => 198
  | .vmem => 0
  | .smem => 0
  | _ => 0

abbrev hbmTy0_0 (i : Nat) : BufTy := match i % 128 with
  | 0 => ⟨S8192x2560, .bf16⟩
  | 1 => ⟨S3x864x2560, .i8⟩
  | 2 => ⟨S3x864x160, .i8⟩
  | 3 => ⟨S3x864x160, .i8⟩
  | 4 => ⟨S432x160, .bf16⟩
  | 5 => ⟨S432x160, .bf16⟩
  | 6 => ⟨S432x160, .bf16⟩
  | 7 => ⟨S432x160, .bf16⟩
  | 8 => ⟨S2x216x8x128, .i32⟩
  | 9 => ⟨S8, .i32⟩
  | 10 => ⟨S8x1x1, .i32⟩
  | 11 => ⟨S3x864x160, .i32⟩
  | 12 => ⟨S1x864x160, .i32⟩
  | 13 => ⟨S864x160, .i32⟩
  | 14 => ⟨S1x864x160, .i32⟩
  | 15 => ⟨S8x864x160, .i32⟩
  | 16 => ⟨S8x864x160, .i32⟩
  | 17 => ⟨S8x864x160, .i32⟩
  | 18 => ⟨S_, .i32⟩
  | 19 => ⟨S8x864x160, .i32⟩
  | 20 => ⟨S8x864x160, .i32⟩
  | 21 => ⟨S1x864x160, .i32⟩
  | 22 => ⟨S864x160, .i32⟩
  | 23 => ⟨S1x864x160, .i32⟩
  | 24 => ⟨S8x864x160, .i32⟩
  | 25 => ⟨S8x864x160, .i32⟩
  | 26 => ⟨S8x864x160, .i32⟩
  | 27 => ⟨S_, .i32⟩
  | 28 => ⟨S8x864x160, .i32⟩
  | 29 => ⟨S8x864x160, .i32⟩
  | 30 => ⟨S1x864x160, .i32⟩
  | 31 => ⟨S864x160, .i32⟩
  | 32 => ⟨S1x864x160, .i32⟩
  | 33 => ⟨S8x864x160, .i32⟩
  | 34 => ⟨S8x864x160, .i32⟩
  | 35 => ⟨S8x864x160, .i32⟩
  | 36 => ⟨S_, .i32⟩
  | 37 => ⟨S8x864x160, .i32⟩
  | 38 => ⟨S8x864x160, .i32⟩
  | 39 => ⟨S_, .i32⟩
  | 40 => ⟨S8x864x160, .i32⟩
  | 41 => ⟨S8x864x160, .i32⟩
  | 42 => ⟨S8x864x160, .i32⟩
  | 43 => ⟨S_, .i32⟩
  | 44 => ⟨S8x864x160, .i32⟩
  | 45 => ⟨S8x864x160, .i32⟩
  | 46 => ⟨S8x864x160, .i32⟩
  | 47 => ⟨S8x864x160, .bf16⟩
  | 48 => ⟨S6912x160, .bf16⟩
  | 49 => ⟨S432x16x160, .bf16⟩
  | 50 => ⟨S432x1x160, .bf16⟩
  | 51 => ⟨S432x16x160, .bf16⟩
  | 52 => ⟨S432x16x160, .bf16⟩
  | 53 => ⟨S432x1x160, .bf16⟩
  | 54 => ⟨S432x16x160, .bf16⟩
  | 55 => ⟨S432x16x160, .bf16⟩
  | 56 => ⟨S6912x160, .bf16⟩
  | 57 => ⟨S8, .i32⟩
  | 58 => ⟨S8x1x1, .i32⟩
  | 59 => ⟨S3x864x160, .i32⟩
  | 60 => ⟨S1x864x160, .i32⟩
  | 61 => ⟨S864x160, .i32⟩
  | 62 => ⟨S1x864x160, .i32⟩
  | 63 => ⟨S8x864x160, .i32⟩
  | 64 => ⟨S8x864x160, .i32⟩
  | 65 => ⟨S8x864x160, .i32⟩
  | 66 => ⟨S_, .i32⟩
  | 67 => ⟨S8x864x160, .i32⟩
  | 68 => ⟨S8x864x160, .i32⟩
  | 69 => ⟨S1x864x160, .i32⟩
  | 70 => ⟨S864x160, .i32⟩
  | 71 => ⟨S1x864x160, .i32⟩
  | 72 => ⟨S8x864x160, .i32⟩
  | 73 => ⟨S8x864x160, .i32⟩
  | 74 => ⟨S8x864x160, .i32⟩
  | 75 => ⟨S_, .i32⟩
  | 76 => ⟨S8x864x160, .i32⟩
  | 77 => ⟨S8x864x160, .i32⟩
  | 78 => ⟨S1x864x160, .i32⟩
  | 79 => ⟨S864x160, .i32⟩
  | 80 => ⟨S1x864x160, .i32⟩
  | 81 => ⟨S8x864x160, .i32⟩
  | 82 => ⟨S8x864x160, .i32⟩
  | 83 => ⟨S8x864x160, .i32⟩
  | 84 => ⟨S_, .i32⟩
  | 85 => ⟨S8x864x160, .i32⟩
  | 86 => ⟨S8x864x160, .i32⟩
  | 87 => ⟨S_, .i32⟩
  | 88 => ⟨S8x864x160, .i32⟩
  | 89 => ⟨S8x864x160, .i32⟩
  | 90 => ⟨S8x864x160, .i32⟩
  | 91 => ⟨S_, .i32⟩
  | 92 => ⟨S8x864x160, .i32⟩
  | 93 => ⟨S8x864x160, .i32⟩
  | 94 => ⟨S8x864x160, .i32⟩
  | 95 => ⟨S8x864x160, .bf16⟩
  | 96 => ⟨S6912x160, .bf16⟩
  | 97 => ⟨S432x16x160, .bf16⟩
  | 98 => ⟨S432x1x160, .bf16⟩
  | 99 => ⟨S432x16x160, .bf16⟩
  | 100 => ⟨S432x16x160, .bf16⟩
  | 101 => ⟨S432x1x160, .bf16⟩
  | 102 => ⟨S432x16x160, .bf16⟩
  | 103 => ⟨S432x16x160, .bf16⟩
  | 104 => ⟨S6912x160, .bf16⟩
  | 105 => ⟨S8, .i32⟩
  | 106 => ⟨S8x1x1, .i32⟩
  | 107 => ⟨S3x864x2560, .i32⟩
  | 108 => ⟨S1x864x2560, .i32⟩
  | 109 => ⟨S864x2560, .i32⟩
  | 110 => ⟨S1x864x2560, .i32⟩
  | 111 => ⟨S8x864x2560, .i32⟩
  | 112 => ⟨S8x864x2560, .i32⟩
  | 113 => ⟨S8x864x2560, .i32⟩
  | 114 => ⟨S_, .i32⟩
  | 115 => ⟨S8x864x2560, .i32⟩
  | 116 => ⟨S8x864x2560, .i32⟩
  | 117 => ⟨S1x864x2560, .i32⟩
  | 118 => ⟨S864x2560, .i32⟩
  | 119 => ⟨S1x864x2560, .i32⟩
  | 120 => ⟨S8x864x2560, .i32⟩
  | 121 => ⟨S8x864x2560, .i32⟩
  | 122 => ⟨S8x864x2560, .i32⟩
  | 123 => ⟨S_, .i32⟩
  | 124 => ⟨S8x864x2560, .i32⟩
  | 125 => ⟨S8x864x2560, .i32⟩
  | 126 => ⟨S1x864x2560, .i32⟩
  | 127 => ⟨S864x2560, .i32⟩
  | _ => ⟨S8192x2560, .bf16⟩

abbrev hbmTy0_1 (i : Nat) : BufTy := match i % 128 with
  | 0 => ⟨S1x864x2560, .i32⟩
  | 1 => ⟨S8x864x2560, .i32⟩
  | 2 => ⟨S8x864x2560, .i32⟩
  | 3 => ⟨S8x864x2560, .i32⟩
  | 4 => ⟨S_, .i32⟩
  | 5 => ⟨S8x864x2560, .i32⟩
  | 6 => ⟨S8x864x2560, .i32⟩
  | 7 => ⟨S_, .i32⟩
  | 8 => ⟨S8x864x2560, .i32⟩
  | 9 => ⟨S8x864x2560, .i32⟩
  | 10 => ⟨S8x864x2560, .i32⟩
  | 11 => ⟨S_, .i32⟩
  | 12 => ⟨S8x864x2560, .i32⟩
  | 13 => ⟨S8x864x2560, .i32⟩
  | 14 => ⟨S8x864x2560, .i32⟩
  | 15 => ⟨S8x864x2560, .bf16⟩
  | 16 => ⟨S6912x2560, .bf16⟩
  | 17 => ⟨S6912x160x16, .bf16⟩
  | 18 => ⟨S6912x160x1, .bf16⟩
  | 19 => ⟨S6912x160x16, .bf16⟩
  | 20 => ⟨S6912x160x16, .bf16⟩
  | 21 => ⟨S6912x160x1, .bf16⟩
  | 22 => ⟨S6912x160x16, .bf16⟩
  | 23 => ⟨S6912x160x16, .bf16⟩
  | 24 => ⟨S6912x2560, .bf16⟩
  | 25 => ⟨S1x216x8x128, .i32⟩
  | 26 => ⟨S216x8x128, .i32⟩
  | 27 => ⟨S1x216x8x128, .i32⟩
  | 28 => ⟨S216x8x128, .i32⟩
  | 29 => ⟨S216x8x128, .i32⟩
  | 30 => ⟨S216x8x4x32, .i32⟩
  | 31 => ⟨S216x4x8x32, .i32⟩
  | 32 => ⟨S6912x32, .i32⟩
  | 33 => ⟨S6912x2560, .i32⟩
  | 34 => ⟨S_, .i32⟩
  | 35 => ⟨S6912x2560, .i32⟩
  | 36 => ⟨S6912x2560, .i32⟩
  | 37 => ⟨S6912x2560, .i32⟩
  | 38 => ⟨S6912x2560, .i32⟩
  | 39 => ⟨S_, .i32⟩
  | 40 => ⟨S6912x2560, .i32⟩
  | 41 => ⟨S6912x2560, .i32⟩
  | 42 => ⟨S_, .i32⟩
  | 43 => ⟨S6912x2560, .i32⟩
  | 44 => ⟨S6912x2560, .i32⟩
  | 45 => ⟨S6912x2560, .i32⟩
  | 46 => ⟨S_, .i32⟩
  | 47 => ⟨S6912x2560, .i32⟩
  | 48 => ⟨S6912x2560, .i1⟩
  | 49 => ⟨S_, .i32⟩
  | 50 => ⟨S6912x2560, .i32⟩
  | 51 => ⟨S6912x2560, .i32⟩
  | 52 => ⟨S6912x2560, .i32⟩
  | 53 => ⟨S6912x2560x1, .i32⟩
  | 54 => ⟨S6912x2560, .i32⟩
  | 55 => ⟨S_, .i32⟩
  | 56 => ⟨S6912x2560, .i32⟩
  | 57 => ⟨S6912x2560, .i32⟩
  | 58 => ⟨S6912x2560, .f32⟩
  | 59 => ⟨S6912x2560, .bf16⟩
  | 60 => ⟨S_, .i32⟩
  | 61 => ⟨S6912x2560, .i32⟩
  | 62 => ⟨S6912x2560, .i32⟩
  | 63 => ⟨S6912x2560, .i1⟩
  | 64 => ⟨S_, .bf16⟩
  | 65 => ⟨S6912x2560, .bf16⟩
  | 66 => ⟨S6912x2560, .bf16⟩
  | 67 => ⟨S6912x2560, .bf16⟩
  | 68 => ⟨S8192x6912, .f32⟩
  | 69 => ⟨S8192x6912, .bf16⟩
  | _ => ⟨S8192x2560, .bf16⟩

abbrev hbmTy (i : Nat) : BufTy := match i / 128 with
  | 0 => hbmTy0_0 i
  | 1 => hbmTy0_1 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_6 : Ref sig .tc := ⟨.hbm, 84, rfl⟩
abbrev main_v68 : Ref sig .tc := ⟨.hbm, 85, rfl⟩
abbrev main_v69 : Ref sig .tc := ⟨.hbm, 86, rfl⟩
abbrev main_c_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_c_9 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_10 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_c_11 : Ref sig .tc := ⟨.hbm, 132, rfl⟩
abbrev main_v111 : Ref sig .tc := ⟨.hbm, 133, rfl⟩
abbrev main_v112 : Ref sig .tc := ⟨.hbm, 134, rfl⟩
abbrev main_c_12 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_c_13 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_c_14 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_c_15 : Ref sig .tc := ⟨.hbm, 167, rfl⟩
abbrev main_v142 : Ref sig .tc := ⟨.hbm, 168, rfl⟩
abbrev main_v143 : Ref sig .tc := ⟨.hbm, 169, rfl⟩
abbrev main_c_16 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_call0_c : Ref sig .tc := ⟨.hbm, 174, rfl⟩
abbrev main_call0_v0 : Ref sig .tc := ⟨.hbm, 175, rfl⟩
abbrev main_call0_v1 : Ref sig .tc := ⟨.hbm, 176, rfl⟩
abbrev main_call0_c_0 : Ref sig .tc := ⟨.hbm, 177, rfl⟩
abbrev main_call0_v2 : Ref sig .tc := ⟨.hbm, 178, rfl⟩
abbrev main_call0_v3 : Ref sig .tc := ⟨.hbm, 179, rfl⟩
abbrev main_call0_v4 : Ref sig .tc := ⟨.hbm, 180, rfl⟩
abbrev main_call0_v5 : Ref sig .tc := ⟨.hbm, 181, rfl⟩
abbrev main_v147 : Ref sig .tc := ⟨.hbm, 182, rfl⟩
abbrev main_c_17 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_c_18 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩

abbrev nD : Nat := 1
abbrev τ : Topo := Topo.v7x

variable {F : FTy → Type} [FloatOps F]
-- ==== Proof.Kernel.Group.lean ====
/-
  The dequantisation of one group of 32 weight rows, written once over the group's number and the row of
  the weight buffer it goes to: the values of its 40 blocks of 16 rows by 128 columns as pure functions of
  what it loads, and the program that loads them and stores the blocks. `Body.lean` shows that the printed
  kernel body is seven uses of this program.
-/
module

public import proofs.«01_k».proof.Proof.Gen.Kernel
public import Idealize.ShloMosaic.Lib.Tactic

@[expose] public section

set_option maxRecDepth 16384

noncomputable section

namespace Cert.Kernel.Hand

open Cert.Kernel Cert.Kernel.Gen
open Idealize.ShloMosaic Idealize.SL.Sem

variable {F : FTy → Type} [FloatOps F]

/-! ## The values -/

/-- The three bit planes' bit number `field` of each byte, put together into codes 0 to 7, four bytes a word. -/
def codes {S : Shape} (field : BitVec 32) (a b c : IVec S 32) : IVec S 32 :=
  ori (ori (andi (shrui a (broadcast S field)) (broadcast S 16843009#32))
      (shli (andi (shrui b (broadcast S field)) (broadcast S 16843009#32)) (broadcast S 1#32)))
    (shli (andi (shrui c (broadcast S field)) (broadcast S 16843009#32)) (broadcast S 2#32))

/-- 32 rows of 128 bytes as 8 rows of words. -/
def pack (v : Vec F S1x32x128 .i8) : IVec S8x128 32 :=
  bitcast S8x128 32 (shapeCast S32x128 v shapeCasts_S1x32x128_S32x128 : IVec S32x128 8) bitcasts_S32x128_w8_S8x128_w32

/-- The codes of a tile of 32 rows by 128 columns, as floats. -/
def codeTile (field : BitVec 32) (a b c : Vec F S1x32x128 .i8) : FVec F S32x128 .bf16 :=
  sitofp .bf16 (bitcast S32x128 8 (codes field (pack (F := F) a) (pack (F := F) b) (pack (F := F) c)) bitcasts_S8x128_w32_S32x128_w8)

/-- 32 rows of 32 bytes as 8 rows of words. -/
def pack32 (v : Vec F S1x32x32 .i8) : IVec S8x32 32 :=
  bitcast S8x32 32 (shapeCast S32x32 v shapeCasts_S1x32x32_S32x32 : IVec S32x32 8) bitcasts_S32x32_w8_S8x32_w32

/-- The codes of a tile of 32 rows by 32 columns, with 96 columns of zeros after them, as floats. -/
def codeTail (field : BitVec 32) (a b c : Vec F S1x32x32 .i8) : FVec F S32x128 .bf16 :=
  sitofp .bf16 (bitcast S32x128 8 (concatenate S8x128 1 [⟨S8x32, codes field (pack32 (F := F) a) (pack32 (F := F) b) (pack32 (F := F) c)⟩,
    ⟨S8x96, (broadcast S8x96 0#32 : IVec S8x96 32)⟩] concatenates_S8x32_S8x96_S8x128_d1 : IVec S8x128 32) bitcasts_S8x128_w32_S32x128_w8)

/-- A row of scales over 16 rows. -/
def rowBc (v : Vec F S1x1x128 .f32) : FVec F S16x128 .bf16 :=
  truncf .bf16 (broadcastTo S16x128 (shapeCast S1x128 (shapeCast S1x128 v shapeCasts_S1x1x128_S1x128 : FVec F S1x128 .f32)
    shapeCasts_S1x128_S1x128 : FVec F S1x128 .f32) broadcasts_S1x128_S16x128 : FVec F S16x128 .f32) bitsLt_bf16_f32

/-- Rows 0 to 15 (`cell = 0`) or 16 to 31 of a tile of 32 rows. -/
def half16 (cell : Nat) (v : FVec F S32x128 .bf16) : FVec F S16x128 .bf16 :=
  match cell with
  | 0 => extractStridedSlice S16x128 ![0, 0] v slices_S32x128_o0_0_S16x128
  | _ + 1 => extractStridedSlice S16x128 ![16, 0] v slices_S32x128_o16_0_S16x128

/-- The second level: (code − zero) · scale of one cell of 16 rows. -/
def lev (cell : Nat) (code : FVec F S32x128 .bf16) (zr sc : Vec F S1x1x128 .f32) : FVec F S16x128 .f32 :=
  extf .f32 (mulf (subf (half16 cell code) (rowBc zr)) (rowBc sc)) bitsLt_bf16_f32

/-- The two outlier tables of a group, joined. -/
def tab (a b : Vec F S1x1x8x128 .i32) : IVec S8x128 32 :=
  ori (shapeCast S8x128 a shapeCasts_S1x1x8x128_S8x128 : IVec S8x128 32) (shapeCast S8x128 b shapeCasts_S1x1x8x128_S8x128 : IVec S8x128 32)

/-- The column of each lane within its tile. -/
def lane8 : IVec S8x128 32 := iota .tc S8x128 32 [1] iota_S8x128_d1_w32
/-- The row of each lane within its eight. -/
def sub8 : IVec S8x128 32 := iota .tc S8x128 32 [0] iota_S8x128_d0_w32
/-- The column group of each lane within its tile. -/
def grp16 : IVec S16x128 32 := shrui (iota .tc S16x128 32 [1] iota_S16x128_d1_w32 : IVec S16x128 32) (broadcast S16x128 4#32)

/-- 85 times the row number of each lane of the eight rows from `8 a` on (`a8 = 8 a`) of group `g`. -/
def row85 (g a8 : BitVec 32) : IVec S8x128 32 :=
  muli (addi sub8 (broadcast S8x128 (Scalar.addi (Scalar.muli 32#32 g) a8))) (broadcast S8x128 85#32)

/-- The first column tile's outlier slots before rounding, of the eight rows from `a8` on. -/
def slotBase (g a8 : BitVec 32) : FVec F S8x128 .f32 :=
  subf (mulf (addf (sitofp .f32 (addi (subi (row85 g a8)
      (muli (fptosi 32 (mulf (addf (sitofp .f32 (row85 g a8)) (broadcast S8x128 (Scalar.ofBits .f32 0x3F000000#32 : F .f32)))
        (broadcast S8x128 (Scalar.ofBits .f32 0x3C257EB5#32 : F .f32)))) (broadcast S8x128 99#32))) lane8))
    (broadcast S8x128 (Scalar.ofBits .f32 0x3F000000#32 : F .f32))) (broadcast S8x128 (Scalar.ofBits .f32 0x3C257EB5#32 : F .f32)))
    (broadcast S8x128 (Scalar.ofBits .f32 0x3F000000#32 : F .f32))

/-- `128 t / 99 + 32 a` in single precision, of column tile `t` and eight rows `a`. -/
def slotC : Nat → Fin 4 → BitVec 32
  | 0 => ![0x00000000#32, 0x42000000#32, 0x42800000#32, 0x42C00000#32]
  | 1 => ![0x3FA57EB5#32, 0x42052BF6#32, 0x428295FB#32, 0x42C295FB#32]
  | 2 => ![0x40257EB5#32, 0x420A57EB#32, 0x42852BF6#32, 0x42C52BF6#32]
  | 3 => ![0x40783E10#32, 0x420F83E1#32, 0x4287C1F0#32, 0x42C7C1F0#32]
  | 4 => ![0x40A57EB5#32, 0x4214AFD7#32, 0x428A57EB#32, 0x42CA57EB#32]
  | 5 => ![0x40CEDE62#32, 0x4219DBCC#32, 0x428CEDE6#32, 0x42CCEDE6#32]
  | 6 => ![0x40F83E10#32, 0x421F07C2#32, 0x428F83E1#32, 0x42CF83E1#32]
  | 7 => ![0x4110CEDE#32, 0x422433B8#32, 0x429219DC#32, 0x42D219DC#32]
  | 8 => ![0x41257EB5#32, 0x42295FAD#32, 0x4294AFD7#32, 0x42D4AFD7#32]
  | 9 => ![0x413A2E8C#32, 0x422E8BA3#32, 0x429745D1#32, 0x42D745D1#32]
  | 10 => ![0x414EDE62#32, 0x4233B799#32, 0x4299DBCC#32, 0x42D9DBCC#32]
  | 11 => ![0x41638E39#32, 0x4238E38E#32, 0x429C71C7#32, 0x42DC71C7#32]
  | 12 => ![0x41783E10#32, 0x423E0F84#32, 0x429F07C2#32, 0x42DF07C2#32]
  | 13 => ![0x418676F3#32, 0x42433B7A#32, 0x42A19DBD#32, 0x42E19DBD#32]
  | 14 => ![0x4190CEDE#32, 0x4248676F#32, 0x42A433B8#32, 0x42E433B8#32]
  | 15 => ![0x419B26CA#32, 0x424D9365#32, 0x42A6C9B2#32, 0x42E6C9B2#32]
  | 16 => ![0x41A57EB5#32, 0x4252BF5B#32, 0x42A95FAD#32, 0x42E95FAD#32]
  | 17 => ![0x41AFD6A0#32, 0x4257EB50#32, 0x42ABF5A8#32, 0x42EBF5A8#32]
  | 18 => ![0x41BA2E8C#32, 0x425D1746#32, 0x42AE8BA3#32, 0x42EE8BA3#32]
  | 19 => ![0x41C48677#32, 0x4262433B#32, 0x42B1219E#32, 0x42F1219E#32]
  | _ => ![0#32, 0#32, 0#32, 0#32]

/-- An index along the lanes taken from the end when negative. -/
def wrap16 (v : IVec S16x128 32) : IVec S16x128 32 :=
  shapeCast S16x128 (shapeCast S16x128x1 (select (cmpi .slt v (broadcast S16x128 0#32)) (addi v (broadcast S16x128 128#32)) v : IVec S16x128 32)
    shapeCasts_S16x128_S16x128x1 : IVec S16x128x1 32) shapeCasts_S16x128x1_S16x128
def wrap8 (v : IVec S8x128 32) : IVec S8x128 32 :=
  shapeCast S8x128 (shapeCast S8x128x1 (select (cmpi .slt v (broadcast S8x128 0#32)) (addi v (broadcast S8x128 128#32)) v : IVec S8x128 32)
    shapeCasts_S8x128_S8x128x1 : IVec S8x128x1 32) shapeCasts_S8x128x1_S8x128

/-- The second level's value for each lane's column group in column tile `t`. -/
def gat (t : Nat) (s : FVec F S16x128 .f32) : FVec F S16x128 .bf16 :=
  truncf .bf16 (dynamicGather 1 s (wrap16 (addi grp16 (broadcast S16x128 (BitVec.ofNat 32 (8 * t % 128)))))) bitsLt_bf16_f32

/-- The outliers of the eight rows `a` in column tile `t`: the table's word at the lane's slot, its high half a
    float where its low half is the lane's column, else zero. -/
def outl (t : Nat) (a : Fin 4) (table : IVec S8x128 32) (base : FVec F S8x128 .f32) : FVec F S8x128 .f32 :=
  bitcastToFloat .f32 (select
    (cmpi .eq (andi (dynamicGather 1 table (wrap8 (fptosi 32 (roundeven (addf base (broadcast S8x128 (Scalar.ofBits .f32 (slotC t a) : F .f32)))))))
      (broadcast S8x128 65535#32)) (addi lane8 (broadcast S8x128 (BitVec.ofNat 32 (128 * t)))))
    (andi (dynamicGather 1 table (wrap8 (fptosi 32 (roundeven (addf base (broadcast S8x128 (Scalar.ofBits .f32 (slotC t a) : F .f32)))))))
      (broadcast S8x128 4294901760#32))
    (broadcast S8x128 0#32) : IVec S8x128 32)

/-- A block of 16 rows by 128 columns of the weight: (code − z) · s plus the outliers. -/
def blockVal (t cell : Nat) (a a' : Fin 4) (code : FVec F S32x128 .bf16) (s z : FVec F S16x128 .f32) (table : IVec S8x128 32)
    (b b' : FVec F S8x128 .f32) : FVec F S16x128 .bf16 :=
  addf (mulf (subf (half16 cell code) (gat t z)) (gat t s))
    (truncf .bf16 (concatenate S16x128 0 [⟨S8x128, outl t a table b⟩, ⟨S8x128, outl t a' table b'⟩]
      concatenates_S8x128_S8x128_S16x128_d0 : FVec F S16x128 .f32) bitsLt_bf16_f32)

/-- The first second-level tile for the first 16 column tiles, the second for the rest. -/
def pick (n : Nat) (x y : FVec F S16x128 .f32) : FVec F S16x128 .f32 :=
  match n with
  | 0 => x
  | _ + 1 => y

/-! ## The program -/

/-- The field (the bit number) of group `g`. -/
def fieldOf (g : BitVec 32) : BitVec 32 := Scalar.divsi g 27#32
/-- The row of the bit planes at which group `g` begins. -/
def rowOf (g : BitVec 32) : BitVec 32 := Scalar.muli (Scalar.subi g (Scalar.muli (Scalar.divsi g 27#32) 27#32)) 32#32

/-- A group's number is one of 216. -/
def GOK (g : BitVec 32) : Prop := ∃ n, n < 216 ∧ g = BitVec.ofNat 32 n
/-- A weight buffer's row that begins a group: one of 24 multiples of 32. -/
def WOK (w : BitVec 32) : Prop := ∃ n, n < 24 ∧ w = BitVec.ofNat 32 (32 * n)

theorem rowOf_nat : ∀ n < 216, (Scalar.indexCast (rowOf (BitVec.ofNat 32 n))).toNat = 32 * (n % 27) := by decide +kernel
theorem cell_nat : ∀ n < 216, ∀ c < 2,
    (Scalar.indexCast (Scalar.addi (Scalar.muli 2#32 (BitVec.ofNat 32 n)) (BitVec.ofNat 32 c))).toNat = 2 * n + c := by decide +kernel
theorem tab_nat : ∀ n < 216, (Scalar.indexCast (BitVec.ofNat 32 n)).toNat = n := by decide +kernel
theorem wrow_nat : ∀ n < 24, ∀ c < 2,
    (Scalar.indexCast (Scalar.addi (BitVec.ofNat 32 (32 * n)) (BitVec.ofNat 32 (16 * c)))).toNat = 32 * n + 16 * c := by decide +kernel

/-- Where a tile of a bit plane is loaded from. -/
abbrev qOff (g : BitVec 32) (p col : Nat) : Fin 3 → Nat := ![p, (Scalar.indexCast (rowOf g)).toNat, col]
/-- Where a row of scales is loaded from. -/
abbrev pOff (g : BitVec 32) (h c : Nat) : Fin 3 → Nat :=
  ![h, (Scalar.indexCast (Scalar.addi (Scalar.muli 2#32 g) (BitVec.ofNat 32 c))).toNat, 0]
/-- Where a group's outlier table is loaded from. -/
abbrev tOff (g : BitVec 32) (h : Nat) : Fin 4 → Nat := ![h, (Scalar.indexCast g).toNat, 0, 0]
/-- Where a block of the weight goes. -/
abbrev wOff (w : BitVec 32) (c col : Nat) : Fin 2 → Nat :=
  ![(Scalar.indexCast (Scalar.addi w (BitVec.ofNat 32 (16 * c)))).toNat, col]

theorem qOff_inb {g : BitVec 32} (hg : GOK g) (p t : Nat) (hp : p < 3) (ht : t < 20) :
    ∀ a, qOff g p (128 * t) a + S1x32x128.size a ≤ S3x864x2560.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 128 * t + 128 ≤ 2560; omega
theorem sOff_inb {g : BitVec 32} (hg : GOK g) (p : Nat) (hp : p < 3) :
    ∀ a, qOff g p 0 a + S1x32x128.size a ≤ S3x864x160.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 0 + 128 ≤ 160; omega
theorem sOff'_inb {g : BitVec 32} (hg : GOK g) (p : Nat) (hp : p < 3) :
    ∀ a, qOff g p 128 a + S1x32x32.size a ≤ S3x864x160.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 128 + 32 ≤ 160; omega
theorem pOff_inb {g : BitVec 32} (hg : GOK g) (h c : Nat) (hh : h < 2) (hc : c < 2) :
    ∀ a, pOff g h c a + S1x1x128.size a ≤ S2x432x128.size a := by
  obtain ⟨n, hn, rfl⟩ := hg
  have h2 := cell_nat n hn c hc
  intro a
  fin_cases a
  · show h + 1 ≤ 2; omega
  · show (Scalar.indexCast (Scalar.addi (Scalar.muli 2#32 (BitVec.ofNat 32 n)) (BitVec.ofNat 32 c))).toNat + 1 ≤ 432; omega
  · show 0 + 128 ≤ 128; omega
theorem tOff_inb {g : BitVec 32} (hg : GOK g) (h : Nat) (hh : h < 2) :
    ∀ a, tOff g h a + S1x1x8x128.size a ≤ S2x216x8x128.size a := by
  obtain ⟨n, hn, rfl⟩ := hg
  have h2 := tab_nat n hn
  intro a
  fin_cases a
  · show h + 1 ≤ 2; omega
  · show (Scalar.indexCast (BitVec.ofNat 32 n)).toNat + 1 ≤ 216; omega
  · show 0 + 8 ≤ 8; omega
  · show 0 + 128 ≤ 128; omega
theorem wOff_inb {w : BitVec 32} (hw : WOK w) (c t : Nat) (hc : c < 2) (ht : t < 20) :
    ∀ a, wOff w c (128 * t) a + S16x128.size a ≤ S768x2560.size a := by
  obtain ⟨n, hn, rfl⟩ := hw
  have h2 := wrow_nat n hn c hc
  intro a
  fin_cases a
  · show (Scalar.indexCast (Scalar.addi (BitVec.ofNat 32 (32 * n)) (BitVec.ofNat 32 (16 * c)))).toNat + 16 ≤ 768; omega
  · show 128 * t + 128 ≤ 2560; omega

end Cert.Kernel.Hand

end
-- ==== Proof.Kernel.Body.lean ====
/-
  The kernel body written once more, compactly: the prologue of the first grid point, the loop that
  dequantises the first 24 groups, and the three steps of every grid point, each one group dequantised into
  one weight buffer and one block of the product from the other. The printed body is this program.
-/
module

public import proofs.«01_k».proof.Proof.Kernel.Group

@[expose] public section

set_option maxRecDepth 16384

noncomputable section

namespace Cert.Kernel.Hand

open Cert.Kernel Cert.Kernel.Gen
open Idealize.ShloMosaic Idealize.SL.Sem

variable {F : FTy → Type} [FloatOps F]

/-- The kernel's programs. -/
abbrev Pg (F : FTy → Type) [FloatOps F] (α : Type) := Prog (TpuEff nD τ sig (Elt F) Λ₀ .tc) α

/-- A load of a unit-stride rectangle, then the rest. -/
def ld {S : Shape} {e : EltTy} {α : Type} (m : Memref sig .tc .vmem S e) (off : Fin S.rank → Nat) (size : Fin S.rank → Nat)
    (inb : ∀ a, off a + size a ≤ S.size a) (h : 0 < (Rect.unit (s := S) off size inb).shape.numel)
    (k : ((Rect.unit (s := S) off size inb).shape.Idx → Elt F e) → Pg F α) : Pg F α :=
  .op (.load m (Rect.unit (s := S) off size inb).toLoadRect (View.loadsAt_vmem h)) k

/-- A store of a unit-stride rectangle, then the rest. -/
def st {S : Shape} {e : EltTy} {α : Type} (m : Memref sig .tc .vmem S e) (off : Fin S.rank → Nat) (size : Fin S.rank → Nat)
    (inb : ∀ a, off a + size a ≤ S.size a) (v : (Rect.unit (s := S) off size inb).shape.Idx → Elt F e)
    (h : (m.access (Rect.unit (s := S) off size inb)).Stores Finset.univ) (k : Pg F α) : Pg F α :=
  .op (.store m (Rect.unit (s := S) off size inb) v Finset.univ h (.inl rfl)) (fun _ => k)

theorem wOff_packed {w : BitVec 32} (hw : WOK w) (c t : Nat) (hc : c < 2) (ht : t < 20) :
    (Rect.unit (s := S768x2560) (wOff w c (128 * t)) S16x128.size (wOff_inb hw c t hc ht)).PackedRows (EltTy.packing .bf16) := by
  refine Affine.packed_dvd (of_decide_eq_true rfl) ?_ (by decide)
  obtain ⟨n, hn, rfl⟩ := hw
  show 2 ∣ (Scalar.indexCast (Scalar.addi (BitVec.ofNat 32 (32 * n)) (BitVec.ofNat 32 (16 * c)))).toNat
  rw [wrow_nat n hn c hc]; omega

/-- The kernel's buffers. -/
structure Bufs where
  x : Memref sig .tc .vmem S1024x2560 .bf16
  hx : x.IsWhole
  q : Memref sig .tc .vmem S3x864x2560 .i8
  hq : q.IsWhole
  qs : Memref sig .tc .vmem S3x864x160 .i8
  hqs : qs.IsWhole
  qz : Memref sig .tc .vmem S3x864x160 .i8
  hqz : qz.IsWhole
  s0 : Memref sig .tc .vmem S432x160 .bf16
  hs0 : s0.IsWhole
  s1 : Memref sig .tc .vmem S432x160 .bf16
  hs1 : s1.IsWhole
  s2 : Memref sig .tc .vmem S432x160 .bf16
  hs2 : s2.IsWhole
  s3 : Memref sig .tc .vmem S432x160 .bf16
  hs3 : s3.IsWhole
  tb : Memref sig .tc .vmem S2x216x8x128 .i32
  htb : tb.IsWhole
  y : Memref sig .tc .vmem S1024x768 .bf16
  hy : y.IsWhole
  w0 : Memref sig .tc .vmem S768x2560 .bf16
  hw0 : w0.IsWhole
  w1 : Memref sig .tc .vmem S768x2560 .bf16
  hw1 : w1.IsWhole
  p0 : Memref sig .tc .vmem S2x432x128 .f32
  hp0 : p0.IsWhole
  p1 : Memref sig .tc .vmem S2x432x128 .f32
  hp1 : p1.IsWhole
  p2 : Memref sig .tc .vmem S2x432x128 .f32
  hp2 : p2.IsWhole
  p3 : Memref sig .tc .vmem S2x432x128 .f32
  hp3 : p3.IsWhole

/-- One block of 16 rows by 128 columns stored to the weight buffer (after the load the printed program
    does of the block it overwrites). -/
def stBlock {α : Type} (w : Memref sig .tc .vmem S768x2560 .bf16) (hw : w.IsWhole) (wrow : BitVec 32) (hr : WOK wrow)
    (c t : Nat) (hc : c < 2) (ht : t < 20) (v : FVec F S16x128 .bf16) (k : Pg F α) : Pg F α :=
  ld w (wOff wrow c (128 * t)) S16x128.size (wOff_inb hr c t hc ht) h_S16x128 fun _ =>
  st w (wOff wrow c (128 * t)) S16x128.size (wOff_inb hr c t hc ht)
    (shapeCast S16x128 v shapeCasts_S16x128_S16x128 : FVec F S16x128 .bf16)
    (View.stores_vmem h_S16x128 (hw.storeExact_slice rfl _ (wOff_packed hr c t hc ht)) (fun _ => rfl)) k

/-- The column tiles `t` to 19 of a group. -/
def tiles {α : Type} (q : Memref sig .tc .vmem S3x864x2560 .i8) (w : Memref sig .tc .vmem S768x2560 .bf16) (hw : w.IsWhole)
    (g wrow : BitVec 32) (hg : GOK g) (hr : WOK wrow)
    (s z : Nat → Nat → FVec F S16x128 .f32) (table : IVec S8x128 32) (b : Fin 4 → FVec F S8x128 .f32) (k : Pg F α) :
    (fuel t : Nat) → t + fuel = 20 → Pg F α
  | 0, _, _ => k
  | n + 1, t, h =>
    ld q (qOff g 0 (128 * t)) S1x32x128.size (qOff_inb hg 0 t (by omega) (by omega)) h_S1x32x128 fun a0 =>
    ld q (qOff g 1 (128 * t)) S1x32x128.size (qOff_inb hg 1 t (by omega) (by omega)) h_S1x32x128 fun a1 =>
    ld q (qOff g 2 (128 * t)) S1x32x128.size (qOff_inb hg 2 t (by omega) (by omega)) h_S1x32x128 fun a2 =>
    stBlock w hw wrow hr 0 t (by omega) (by omega)
      (blockVal t 0 0 1 (codeTile (fieldOf g) a0 a1 a2) (s (8 * t / 128) 0) (z (8 * t / 128) 0) table (b 0) (b 1)) <|
    stBlock w hw wrow hr 1 t (by omega) (by omega)
      (blockVal t 1 2 3 (codeTile (fieldOf g) a0 a1 a2) (s (8 * t / 128) 1) (z (8 * t / 128) 1) table (b 2) (b 3)) <|
    tiles q w hw g wrow hg hr s z table b k n (t + 1) (by omega)

/-- The two cells' second-level values of one half of the columns, from the codes. -/
def lev2 {α : Type} (pz ps : Memref sig .tc .vmem S2x432x128 .f32) (g : BitVec 32) (hg : GOK g) (h : Nat) (hh : h < 2)
    (code : FVec F S32x128 .bf16) (k : FVec F S16x128 .f32 → FVec F S16x128 .f32 → Pg F α) : Pg F α :=
  ld pz (pOff g h 0) S1x1x128.size (pOff_inb hg h 0 hh (by omega)) h_S1x1x128 fun z0 =>
  ld ps (pOff g h 0) S1x1x128.size (pOff_inb hg h 0 hh (by omega)) h_S1x1x128 fun s0 =>
  ld pz (pOff g h 1) S1x1x128.size (pOff_inb hg h 1 hh (by omega)) h_S1x1x128 fun z1 =>
  ld ps (pOff g h 1) S1x1x128.size (pOff_inb hg h 1 hh (by omega)) h_S1x1x128 fun s1 =>
  k (lev 0 code z0 s0) (lev 1 code z1 s1)

/-- The second-level values of a group, by half of the columns and by cell. -/
def second {α : Type} (q : Memref sig .tc .vmem S3x864x160 .i8) (pz ps : Memref sig .tc .vmem S2x432x128 .f32)
    (g : BitVec 32) (hg : GOK g) (k : (Nat → Nat → FVec F S16x128 .f32) → Pg F α) : Pg F α :=
  ld q (qOff g 0 0) S1x32x128.size (sOff_inb hg 0 (by omega)) h_S1x32x128 fun a0 =>
  ld q (qOff g 1 0) S1x32x128.size (sOff_inb hg 1 (by omega)) h_S1x32x128 fun a1 =>
  ld q (qOff g 2 0) S1x32x128.size (sOff_inb hg 2 (by omega)) h_S1x32x128 fun a2 =>
  lev2 pz ps g hg 0 (by omega) (codeTile (fieldOf g) a0 a1 a2) fun u0 u1 =>
  ld q (qOff g 0 128) S1x32x32.size (sOff'_inb hg 0 (by omega)) h_S1x32x32 fun c0 =>
  ld q (qOff g 1 128) S1x32x32.size (sOff'_inb hg 1 (by omega)) h_S1x32x32 fun c1 =>
  ld q (qOff g 2 128) S1x32x32.size (sOff'_inb hg 2 (by omega)) h_S1x32x32 fun c2 =>
  lev2 pz ps g hg 1 (by omega) (codeTail (fieldOf g) c0 c1 c2) fun v0 v1 =>
  k fun n c => match c with
    | 0 => pick n u0 v0
    | _ + 1 => pick n u1 v1

/-- One group of 32 rows dequantised into the weight buffer `w` at row `wrow`. -/
def dqGroup {α : Type} (B : Bufs) (w : Memref sig .tc .vmem S768x2560 .bf16) (hw : w.IsWhole)
    (g wrow : BitVec 32) (hg : GOK g) (hr : WOK wrow) (k : Pg F α) : Pg F α :=
  second B.qs B.p1 B.p0 g hg fun s =>
  second B.qz B.p3 B.p2 g hg fun z =>
  ld B.tb (tOff g 0) S1x1x8x128.size (tOff_inb hg 0 (by omega)) h_S1x1x8x128 fun t0 =>
  ld B.tb (tOff g 1) S1x1x8x128.size (tOff_inb hg 1 (by omega)) h_S1x1x8x128 fun t1 =>
  tiles B.q w hw g wrow hg hr s z (tab t0 t1)
    ![slotBase g 0#32, slotBase g 8#32, slotBase g 16#32, slotBase g 24#32] k 20 0 rfl

/-- Columns 0 to 127 of a matrix of scales, then columns 128 to 159 and zeros, stored as two matrices. -/
def fill {α : Type} (src : Memref sig .tc .vmem S432x160 .bf16) (dst : Memref sig .tc .vmem S2x432x128 .f32) (k : Pg F α) : Pg F α :=
  ld src ![0, 0] S432x128.size inb_S432x160_S432x128_0_0 h_S432x128 fun a =>
  ld dst ![0, 0, 0] S1x432x128.size inb_S2x432x128_S1x432x128_0_0_0 h_S1x432x128 fun _ =>
  st dst ![0, 0, 0] S1x432x128.size inb_S2x432x128_S1x432x128_0_0_0
    (shapeCast S1x432x128 (extf .f32 (a : FVec F S432x128 .bf16) bitsLt_bf16_f32 : FVec F S432x128 .f32) shapeCasts_S432x128_S1x432x128 : FVec F S1x432x128 .f32)
    (View.stores_vmem_bits_univ h_S1x432x128 rfl) <|
  ld src ![0, 128] S432x32.size inb_S432x160_S432x32_0_128 h_S432x32 fun b =>
  ld dst ![1, 0, 0] S1x432x128.size inb_S2x432x128_S1x432x128_1_0_0 h_S1x432x128 fun _ =>
  st dst ![1, 0, 0] S1x432x128.size inb_S2x432x128_S1x432x128_1_0_0
    (shapeCast S1x432x128 (concatenate S432x128 1 [⟨S432x32, extf .f32 (b : FVec F S432x32 .bf16) bitsLt_bf16_f32⟩,
      ⟨S432x96, (broadcast S432x96 (Scalar.ofBits .f32 0x00000000#32 : F .f32) : FVec F S432x96 .f32)⟩]
      concatenates_S432x32_S432x96_S432x128_d1 : FVec F S432x128 .f32) shapeCasts_S432x128_S1x432x128 : FVec F S1x432x128 .f32)
    (View.stores_vmem_bits_univ h_S1x432x128 rfl) k

/-- The loop's group at trip `t`, and the row it goes to. -/
def loopG (t : Fin k0_t1_loop.trips) : BitVec 32 := Scalar.addi 0#32 (Scalar.muli (Scf.iv 0#32 1#32 t) 1#32)
def loopW (t : Fin k0_t1_loop.trips) : BitVec 32 := Scalar.muli (loopG t) 32#32

theorem loopG_eq : ∀ t : Fin k0_t1_loop.trips, loopG t = BitVec.ofNat 32 t.val := by decide +kernel
theorem loopW_eq : ∀ t : Fin k0_t1_loop.trips, loopW t = BitVec.ofNat 32 (32 * t.val) := by decide +kernel
theorem trips_eq : k0_t1_loop.trips = 24 := by decide +kernel
theorem loopG_ok (t : Fin k0_t1_loop.trips) : GOK (loopG t) :=
  ⟨t.val, by have := t.isLt; have := trips_eq; omega, loopG_eq t⟩
theorem loopW_ok (t : Fin k0_t1_loop.trips) : WOK (loopW t) :=
  ⟨t.val, by have := t.isLt; have := trips_eq; omega, loopW_eq t⟩

/-- The weight block a grid point dequantises: the next one, after the last the first. -/
def nxt (i : grid0.Coords) : BitVec 32 :=
  Scalar.select (Scalar.cmpi .eq (BitVec.ofNat 32 (i 0).val) 8#32) 0#32 (Scalar.addi (BitVec.ofNat 32 (i 0).val) 1#32)
/-- The place in the block of step `j`'s group. -/
def locOf (i : grid0.Coords) (j : BitVec 32) : BitVec 32 := Scalar.addi (Scalar.muli (BitVec.ofNat 32 (i 1).val) 3#32) j
def stepG (i : grid0.Coords) (j : BitVec 32) : BitVec 32 := Scalar.addi (Scalar.muli (nxt i) 24#32) (locOf i j)
def stepW (i : grid0.Coords) (j : BitVec 32) : BitVec 32 := Scalar.muli (locOf i j) 32#32

/-- The number of the block a grid point dequantises. -/
def nxtN (n : Nat) : Nat := if n = 8 then 0 else n + 1

theorem stepG_eq : ∀ (i : grid0.Coords) (j : Fin 3), stepG i (BitVec.ofNat 32 j.val) = BitVec.ofNat 32 (24 * nxtN (i 0).val + (3 * (i 1).val + j.val)) := by
  have h : ∀ (n : Fin 9) (m : Fin 8) (j : Fin 3), (Scalar.addi (Scalar.muli (Scalar.select (Scalar.cmpi .eq (BitVec.ofNat 32 n.val) 8#32) 0#32 (Scalar.addi (BitVec.ofNat 32 n.val) 1#32)) 24#32) (Scalar.addi (Scalar.muli (BitVec.ofNat 32 m.val) 3#32) (BitVec.ofNat 32 j.val)) : BitVec 32) = BitVec.ofNat 32 (24 * nxtN n.val + (3 * m.val + j.val)) := by decide +kernel
  exact fun i j => h (i 0) (i 1) j
theorem stepW_eq : ∀ (i : grid0.Coords) (j : Fin 3), stepW i (BitVec.ofNat 32 j.val) = BitVec.ofNat 32 (32 * (3 * (i 1).val + j.val)) := by
  have h : ∀ (m : Fin 8) (j : Fin 3), (Scalar.muli (Scalar.addi (Scalar.muli (BitVec.ofNat 32 m.val) 3#32) (BitVec.ofNat 32 j.val)) 32#32 : BitVec 32) = BitVec.ofNat 32 (32 * (3 * m.val + j.val)) := by decide +kernel
  exact fun i j => h (i 1) j
theorem stepG_ok (i : grid0.Coords) (j : Fin 3) : GOK (stepG i (BitVec.ofNat 32 j.val)) := by
  refine ⟨_, ?_, stepG_eq i j⟩
  have h0 : (i 0).val < 9 := (i 0).isLt
  have h1 : (i 1).val < 8 := (i 1).isLt
  have := j.isLt
  unfold nxtN; split <;> omega
theorem stepW_ok (i : grid0.Coords) (j : Fin 3) : WOK (stepW i (BitVec.ofNat 32 j.val)) := by
  refine ⟨3 * (i 1).val + j.val, ?_, stepW_eq i j⟩
  have h1 : (i 1).val < 8 := (i 1).isLt
  have := j.isLt
  omega

theorem yOff_inb (j : Fin 3) : ∀ a, (![0, 256 * j.val] : Fin 2 → Nat) a + S1024x256.size a ≤ S1024x768.size a := by revert j; decide +kernel
theorem cOff_inb (j : Fin 3) : ∀ a, (![256 * j.val, 0] : Fin 2 → Nat) a + S256x2560.size a ≤ S768x2560.size a := by revert j; decide +kernel
theorem yOff_packed (j : Fin 3) : (Rect.unit (s := S1024x768) ![0, 256 * j.val] S1024x256.size (yOff_inb j)).PackedRows (EltTy.packing .bf16) := by
  revert j; decide +kernel

/-- 256 columns of the product: the block of the input times 256 rows of the weight. -/
def mmVal (a : Vec F S1024x2560 .bf16) (b : Vec F S256x2560 .bf16) : FVec F S1024x256 .bf16 :=
  truncf .bf16 (matmul dot_S1024x2560_S256x2560_S1024x256_1_1_0_0_n_n none (a : FVec F S1024x2560 .bf16) (b : FVec F S256x2560 .bf16)
    (constant S1024x256 .f32 0x00000000#32) : FVec F S1024x256 .f32) bitsLt_bf16_f32

/-- One step of a grid point: a group dequantised into `other`, then 256 columns of the product from `cur`. -/
def step {α : Type} (B : Bufs) (i : grid0.Coords) (cur other : Memref sig .tc .vmem S768x2560 .bf16) (ho : other.IsWhole) (j : Fin 3)
    (k : Pg F α) : Pg F α :=
  dqGroup B other ho (stepG i (BitVec.ofNat 32 j.val)) (stepW i (BitVec.ofNat 32 j.val)) (stepG_ok i j) (stepW_ok i j) <|
  ld B.x ![0, 0] S1024x2560.size inb_S1024x2560_S1024x2560_0_0 h_S1024x2560 fun a =>
  ld cur ![256 * j.val, 0] S256x2560.size (cOff_inb j) h_S256x2560 fun b =>
  ld B.y ![0, 256 * j.val] S1024x256.size (yOff_inb j) h_S1024x256 fun _ =>
  st B.y ![0, 256 * j.val] S1024x256.size (yOff_inb j) (mmVal a b)
    (View.stores_vmem h_S1024x256 (B.hy.storeExact_slice rfl _ (yOff_packed j)) (fun _ => rfl)) k

/-- The three steps of a grid point, then the rest. -/
def steps {α : Type} (B : Bufs) (i : grid0.Coords) (cur other : Memref sig .tc .vmem S768x2560 .bf16) (ho : other.IsWhole)
    (k : Pg F α) : Pg F α :=
  step B i cur other ho 0 <| step B i cur other ho 1 <| step B i cur other ho 2 k

/-- The first grid point's preparation, then the rest: the scales widened, and the first weight block dequantised. -/
def prologue {α : Type} (B : Bufs) (i : grid0.Coords) (h : k0_cond1 i = 1#1) (k : Pg F α) : Pg F α :=
  fill B.s0 B.p0 <| fill B.s1 B.p1 <| fill B.s2 B.p2 <| fill B.s3 B.p3 <|
  (Scf.Loop.for k0_t1_loop (k0_t1_ok i h) (⟨⟩ : PUnit) fun t _ =>
    dqGroup B B.w0 B.hw0 (loopG t) (loopW t) (loopG_ok t) (loopW_ok t) (.ret ⟨⟩ : Pg F PUnit)).bind fun _ => k

/-- The second of the kernel body's three conditionals, then the rest. -/
def even {α : Type} (B : Bufs) (i : grid0.Coords) (k : Pg F α) : Pg F α :=
  if k0_cond2 i = 1#1 then steps B i B.w0 B.w1 B.hw1 k else k

/-- The third, then the rest. -/
def odd {α : Type} (B : Bufs) (i : grid0.Coords) (k : Pg F α) : Pg F α :=
  if k0_cond3 i = 1#1 then steps B i B.w1 B.w0 B.hw0 k else k

/-- The first, then the rest. -/
def first {α : Type} (B : Bufs) (i : grid0.Coords) (k : Pg F α) : Pg F α :=
  if h : k0_cond1 i = 1#1 then prologue B i h k else k

/-- The kernel body. -/
def body (B : Bufs) (i : grid0.Coords) : Pg F PUnit := first B i <| even B i <| odd B i <| .ret ⟨⟩

end Cert.Kernel.Hand

end
-- ==== Proof.Kernel.Mem.lean ====
/-
  One load and one store, over what a buffer holds: a load continues at the rectangle of the contents, a store
  leaves the contents with the rectangle overwritten.
-/
module

public import proofs.«01_k».proof.Proof.Kernel.Body
public import proofs.«01_k».proof.Proof.Gen.Kernel.Frame
public import Idealize.ShloMosaic.Lib.WritesUnit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What is left to run, on core `c`'s TensorCore. -/
abbrev Run {α : Type} (c : Dev nD) (p : Pg F α) (Q : α → sProp 𝕄) : sProp 𝕄 :=
  wp frame (wpE (defs₀ (F := F)) Variants.none c none) Set.univ p Q

/-- The rectangle of an array's contents. -/
def rect {S : Shape} {e : EltTy} (X : S.Idx → Elt F e) (off : Fin S.rank → Nat) (size : Fin S.rank → Nat)
    (inb : ∀ a, off a + size a ≤ S.size a) : (Rect.unit (s := S) off size inb).shape.Idx → Elt F e :=
  fun x => X ((Rect.unit (s := S) off size inb).emb x)

/-- An array's contents with a rectangle overwritten. -/
def upd {S : Shape} {e : EltTy} (X : S.Idx → Elt F e) (off : Fin S.rank → Nat) (size : Fin S.rank → Nat)
    (inb : ∀ a, off a + size a ≤ S.size a) (v : (Rect.unit (s := S) off size inb).shape.Idx → Elt F e) : S.Idx → Elt F e :=
  fun y => if h : ∀ a, off a ≤ (y a).val ∧ (y a).val < off a + size a then
    v (Rect.unitLocal (s := S) (off := off) (size := size) y h) else X y

theorem ld_owns {S : Shape} {e : EltTy} {α : Type} (c : Dev nD) (m : Memref sig .tc .vmem S e) (X : S.Idx → Elt F e)
    (off : Fin S.rank → Nat) (size : Fin S.rank → Nat) (inb : ∀ a, off a + size a ≤ S.size a)
    (h : 0 < (Rect.unit (s := S) off size inb).shape.numel)
    (k : ((Rect.unit (s := S) off size inb).shape.Idx → Elt F e) → Pg F α) (Q : α → sProp 𝕄) :
    (iprop(owns (c : Thread nD τ) m fullShare X ∗ (owns (c : Thread nD τ) m fullShare X -∗ Run c (k (rect X off size inb)) Q)) : sProp 𝕄)
      ⊢ Run c (ld m off size inb h k) Q := by
  unfold ld owns
  iintro ⟨⟨%f, %hf, H⟩, K⟩
  subst hf
  iapply (wp_load (m := m) Variants.none (c : Thread nD τ) none Set.univ (View.setOn_subset_set _ _)) $$ [H]
  · iexact H
  iintro H
  iapply K
  iexists f
  isplitr
  · ipureintro; rfl
  iexact H

theorem st_owns {S : Shape} {e : EltTy} {α : Type} (c : Dev nD) (m : Memref sig .tc .vmem S e) (X : S.Idx → Elt F e)
    (off : Fin S.rank → Nat) (size : Fin S.rank → Nat) (inb : ∀ a, off a + size a ≤ S.size a)
    (v : (Rect.unit (s := S) off size inb).shape.Idx → Elt F e) (h : (m.access (Rect.unit (s := S) off size inb)).Stores Finset.univ)
    (k : Pg F α) (Q : α → sProp 𝕄) :
    (iprop(owns (c : Thread nD τ) m fullShare X ∗ (owns (c : Thread nD τ) m fullShare (upd X off size inb v) -∗ Run c k Q)) : sProp 𝕄)
      ⊢ Run c (st m off size inb v h k) Q := by
  unfold st owns
  iintro ⟨⟨%f, %hf, H⟩, K⟩
  subst hf
  iapply (wp_store_writes₀ (m := m) Variants.none (c : Thread nD τ) none Set.univ (View.set_slice_subset _ _)) $$ [H]
  · iexact H
  iintro H
  iapply K
  iexists _
  isplitr; swap
  · iexact H
  ipureintro
  funext y
  exact View.read_writes_cons_unit m.view f inb v [] y rfl

end Cert.Kernel.Hand

end
-- ==== Proof.Kernel.Run.lean ====
/-
  What dequantising one group does: the weight buffer's 32 rows of the group hold the group's values, a
  function of the arrays, and its other rows what they held.
-/
module

public import proofs.«01_k».proof.Proof.Kernel.Mem
public import Idealize.ShloMosaic.Lib.Pointwise.Index
public import Idealize.ShloMosaic.Lib.Pointwise.Reshape

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The arrays a group's values are made of: the codes, the codes of the scales and of the zeros, the outlier
    table, and the four matrices of second-level scales and zeros, widened. -/
structure Ro (F : FTy → Type) [FloatOps F] where
  q : S3x864x2560.Idx → Elt F .i8
  qs : S3x864x160.Idx → Elt F .i8
  qz : S3x864x160.Idx → Elt F .i8
  tb : S2x216x8x128.Idx → Elt F .i32
  p0 : S2x432x128.Idx → Elt F .f32
  p1 : S2x432x128.Idx → Elt F .f32
  p2 : S2x432x128.Idx → Elt F .f32
  p3 : S2x432x128.Idx → Elt F .f32

/-- The buffers that hold them. -/
def roOwn (c : Dev nD) (B : Bufs) (D : Ro F) : sProp 𝕄 :=
  iprop(owns (c : Thread nD τ) B.q fullShare D.q ∗ owns (c : Thread nD τ) B.qs fullShare D.qs ∗ owns (c : Thread nD τ) B.qz fullShare D.qz ∗ owns (c : Thread nD τ) B.tb fullShare D.tb ∗ owns (c : Thread nD τ) B.p0 fullShare D.p0 ∗ owns (c : Thread nD τ) B.p1 fullShare D.p1 ∗ owns (c : Thread nD τ) B.p2 fullShare D.p2 ∗ owns (c : Thread nD τ) B.p3 fullShare D.p3)

theorem ld_q {α : Type} (c : Dev nD) (B : Bufs) (D : Ro F) (off : Fin S3x864x2560.rank → Nat) (size : Fin S3x864x2560.rank → Nat)
    (inb : ∀ a, off a + size a ≤ S3x864x2560.size a) (h : 0 < (Rect.unit (s := S3x864x2560) off size inb).shape.numel)
    (k : ((Rect.unit (s := S3x864x2560) off size inb).shape.Idx → Elt F .i8) → Pg F α) (Q : α → sProp 𝕄) :
    (iprop(roOwn c B D ∗ (roOwn c B D -∗ Run c (k (rect D.q off size inb)) Q)) : sProp 𝕄) ⊢ Run c (ld B.q off size inb h k) Q := by
  unfold roOwn
  iintro ⟨⟨H0, H1, H2, H3, H4, H5, H6, H7⟩, K⟩
  iapply (ld_owns c B.q D.q off size inb h k Q)
  isplitl [H0]; · iexact H0
  iintro H0
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_qs {α : Type} (c : Dev nD) (B : Bufs) (D : Ro F) (off : Fin S3x864x160.rank → Nat) (size : Fin S3x864x160.rank → Nat)
    (inb : ∀ a, off a + size a ≤ S3x864x160.size a) (h : 0 < (Rect.unit (s := S3x864x160) off size inb).shape.numel)
    (k : ((Rect.unit (s := S3x864x160) off size inb).shape.Idx → Elt F .i8) → Pg F α) (Q : α → sProp 𝕄) :
    (iprop(roOwn c B D ∗ (roOwn c B D -∗ Run c (k (rect D.qs off size inb)) Q)) : sProp 𝕄) ⊢ Run c (ld B.qs off size inb h k) Q := by
  unfold roOwn
  iintro ⟨⟨H0, H1, H2, H3, H4, H5, H6, H7⟩, K⟩
  iapply (ld_owns c B.qs D.qs off size inb h k Q)
  isplitl [H1]; · iexact H1
  iintro H1
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_qz {α : Type} (c : Dev nD) (B : Bufs) (D : Ro F) (off : Fin S3x864x160.rank → Nat) (size : Fin S3x864x160.rank → Nat)
    (inb : ∀ a, off a + size a ≤ S3x864x160.size a) (h : 0 < (Rect.unit (s := S3x864x160) off size inb).shape.numel)
    (k : ((Rect.unit (s := S3x864x160) off size inb).shape.Idx → Elt F .i8) → Pg F α) (Q : α → sProp 𝕄) :
    (iprop(roOwn c B D ∗ (roOwn c B D -∗ Run c (k (rect D.qz off size inb)) Q)) : sProp 𝕄) ⊢ Run c (ld B.qz off size inb h k) Q := by
  unfold roOwn
  iintro ⟨⟨H0, H1, H2, H3, H4, H5, H6, H7⟩, K⟩
  iapply (ld_owns c B.qz D.qz off size inb h k Q)
  isplitl [H2]; · iexact H2
  iintro H2
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_tb {α : Type} (c : Dev nD) (B : Bufs) (D : Ro F) (off : Fin S2x216x8x128.rank → Nat) (size : Fin S2x216x8x128.rank → Nat)
    (inb : ∀ a, off a + size a ≤ S2x216x8x128.size a) (h : 0 < (Rect.unit (s := S2x216x8x128) off size inb).shape.numel)
    (k : ((Rect.unit (s := S2x216x8x128) off size inb).shape.Idx → Elt F .i32) → Pg F α) (Q : α → sProp 𝕄) :
    (iprop(roOwn c B D ∗ (roOwn c B D -∗ Run c (k (rect D.tb off size inb)) Q)) : sProp 𝕄) ⊢ Run c (ld B.tb off size inb h k) Q := by
  unfold roOwn
  iintro ⟨⟨H0, H1, H2, H3, H4, H5, H6, H7⟩, K⟩
  iapply (ld_owns c B.tb D.tb off size inb h k Q)
  isplitl [H3]; · iexact H3
  iintro H3
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p0 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p0 off size inb)) Q)) : sProp 𝕄) ⊢ Run c (ld B.p0 off size inb h k) Q := by
  unfold roOwn
  iintro ⟨⟨H0, H1, H2, H3, H4, H5, H6, H7⟩, K⟩
  iapply (ld_owns c B.p0 D.p0 off size inb h k Q)
  isplitl [H4]; · iexact H4
  iintro H4
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p1 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p1 off size inb)) Q)) : sProp 𝕄) ⊢ Run c (ld B.p1 off size inb h k) Q := by
  unfold roOwn
  iintro ⟨⟨H0, H1, H2, H3, H4, H5, H6, H7⟩, K⟩
  iapply (ld_owns c B.p1 D.p1 off size inb h k Q)
  isplitl [H5]; · iexact H5
  iintro H5
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p2 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p2 off size inb)) Q)) : sProp 𝕄) ⊢ Run c (ld B.p2 off size inb h k) Q := by
  unfold roOwn
  iintro ⟨⟨H0, H1, H2, H3, H4, H5, H6, H7⟩, K⟩
  iapply (ld_owns c B.p2 D.p2 off size inb h k Q)
  isplitl [H6]; · iexact H6
  iintro H6
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p3 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p3 off size inb)) Q)) : sProp 𝕄) ⊢ Run c (ld B.p3 off size inb h k) Q := by
  unfold roOwn
  iintro ⟨⟨H0, H1, H2, H3, H4, H5, H6, H7⟩, K⟩
  iapply (ld_owns c B.p3 D.p3 off size inb h k Q)
  isplitl [H7]; · iexact H7
  iintro H7
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## A group's values -/

/-- The codes of a column tile of a group. -/
def qTile (D : Ro F) (g : BitVec 32) (hg : GOK g) (t : Nat) (ht : t < 20) : FVec F S32x128 .bf16 :=
  codeTile (fieldOf g) (rect D.q (qOff g 0 (128 * t)) S1x32x128.size (qOff_inb hg 0 t (by omega) ht))
    (rect D.q (qOff g 1 (128 * t)) S1x32x128.size (qOff_inb hg 1 t (by omega) ht))
    (rect D.q (qOff g 2 (128 * t)) S1x32x128.size (qOff_inb hg 2 t (by omega) ht))

/-- The second-level values of one half of the columns and one cell of a group. -/
def secH (pz ps : S2x432x128.Idx → Elt F .f32) (g : BitVec 32) (hg : GOK g) (h c : Nat)
    (hh : h < 2) (hc : c < 2) (code : FVec F S32x128 .bf16) : FVec F S16x128 .f32 :=
  lev c code (rect pz (pOff g h c) S1x1x128.size (pOff_inb hg h c hh hc)) (rect ps (pOff g h c) S1x1x128.size (pOff_inb hg h c hh hc))

/-- The codes of the first 128 columns of the second level. -/
def code0 (q : S3x864x160.Idx → Elt F .i8) (g : BitVec 32) (hg : GOK g) : FVec F S32x128 .bf16 :=
  codeTile (fieldOf g) (rect q (qOff g 0 0) S1x32x128.size (sOff_inb hg 0 (by omega)))
    (rect q (qOff g 1 0) S1x32x128.size (sOff_inb hg 1 (by omega))) (rect q (qOff g 2 0) S1x32x128.size (sOff_inb hg 2 (by omega)))

/-- The codes of its last 32 columns. -/
def code1 (q : S3x864x160.Idx → Elt F .i8) (g : BitVec 32) (hg : GOK g) : FVec F S32x128 .bf16 :=
  codeTail (fieldOf g) (rect q (qOff g 0 128) S1x32x32.size (sOff'_inb hg 0 (by omega)))
    (rect q (qOff g 1 128) S1x32x32.size (sOff'_inb hg 1 (by omega))) (rect q (qOff g 2 128) S1x32x32.size (sOff'_inb hg 2 (by omega)))

/-- The second-level values of a group, by half of the columns and by cell. -/
def sec (q : S3x864x160.Idx → Elt F .i8) (pz ps : S2x432x128.Idx → Elt F .f32) (g : BitVec 32) (hg : GOK g) (n c : Nat) : FVec F S16x128 .f32 :=
  match c with
  | 0 => pick n (secH pz ps g hg 0 0 (by omega) (by omega) (code0 q g hg)) (secH pz ps g hg 1 0 (by omega) (by omega) (code1 q g hg))
  | _ + 1 => pick n (secH pz ps g hg 0 1 (by omega) (by omega) (code0 q g hg)) (secH pz ps g hg 1 1 (by omega) (by omega) (code1 q g hg))

/-- The group's outlier table. -/
def tabG (D : Ro F) (g : BitVec 32) (hg : GOK g) : IVec S8x128 32 :=
  tab (F := F) (rect D.tb (tOff g 0) S1x1x8x128.size (tOff_inb hg 0 (by omega))) (rect D.tb (tOff g 1) S1x1x8x128.size (tOff_inb hg 1 (by omega)))

/-- The group's outlier slots, by eight rows. -/
def slotsG (g : BitVec 32) : Fin 4 → FVec F S8x128 .f32 :=
  ![slotBase g 0#32, slotBase g 8#32, slotBase g 16#32, slotBase g 24#32]

/-- A block of a group's values over any second level, table and slots. -/
def blkOf (D : Ro F) (g : BitVec 32) (hg : GOK g) (s z : Nat → Nat → FVec F S16x128 .f32) (table : IVec S8x128 32)
    (b : Fin 4 → FVec F S8x128 .f32) (t : Nat) (ht : t < 20) (c : Nat) : FVec F S16x128 .bf16 :=
  match c with
  | 0 => blockVal t 0 0 1 (qTile D g hg t ht) (s (8 * t / 128) 0) (z (8 * t / 128) 0) table (b 0) (b 1)
  | _ + 1 => blockVal t 1 2 3 (qTile D g hg t ht) (s (8 * t / 128) 1) (z (8 * t / 128) 1) table (b 2) (b 3)

/-- A block of a group's values. -/
def blk (D : Ro F) (g : BitVec 32) (hg : GOK g) (t : Nat) (ht : t < 20) (c : Nat) : FVec F S16x128 .bf16 :=
  blkOf D g hg (sec D.qs D.p1 D.p0 g hg) (sec D.qz D.p3 D.p2 g hg) (tabG D g hg) (slotsG g) t ht c

/-- The weight buffer with the first `t` column tiles of 32 rows from `r` on replaced. -/
def setG (v : (t : Nat) → t < 20 → Nat → FVec F S16x128 .bf16) (r : Nat) (X : S768x2560.Idx → Elt F .bf16) (t : Nat) : S768x2560.Idx → Elt F .bf16 :=
  fun y => if r ≤ (y 0).val ∧ (y 0).val < r + 32 ∧ (y 1).val < 128 * t then
    v ((y 1).val / 128) (by have : (y 1).val < 2560 := (y 1).isLt; omega) (((y 0).val - r) / 16)
      (ix2 ⟨((y 0).val - r) % 16, Nat.mod_lt _ (by omega)⟩ ⟨(y 1).val % 128, Nat.mod_lt _ (by omega)⟩)
  else X y

theorem setG_zero (v : (t : Nat) → t < 20 → Nat → FVec F S16x128 .bf16) (r : Nat) (X : S768x2560.Idx → Elt F .bf16) : setG v r X 0 = X := by
  funext y
  exact if_neg (by omega)

theorem setG_succ (v : (t : Nat) → t < 20 → Nat → FVec F S16x128 .bf16) (n : Nat) (hn : n < 24) (hr : WOK (BitVec.ofNat 32 (32 * n)))
    (X : S768x2560.Idx → Elt F .bf16) (t : Nat) (ht : t < 20) :
    upd (upd (setG v (32 * n) X t) (wOff (BitVec.ofNat 32 (32 * n)) 0 (128 * t)) S16x128.size (wOff_inb hr 0 t (by omega) ht) (v t ht 0))
      (wOff (BitVec.ofNat 32 (32 * n)) 1 (128 * t)) S16x128.size (wOff_inb hr 1 t (by omega) ht) (v t ht 1)
      = setG v (32 * n) X (t + 1) := by
  have h0 := wrow_nat n hn 0 (by omega)
  have h1 := wrow_nat n hn 1 (by omega)
  funext y
  have hy0 : (y 0).val < 768 := (y 0).isLt
  have hy1 : (y 1).val < 2560 := (y 1).isLt
  have e : ∀ c < 2, (∀ a, wOff (BitVec.ofNat 32 (32 * n)) c (128 * t) a ≤ (y a).val ∧ (y a).val < wOff (BitVec.ofNat 32 (32 * n)) c (128 * t) a + S16x128.size a)
      ↔ (32 * n + 16 * c ≤ (y 0).val ∧ (y 0).val < 32 * n + 16 * c + 16 ∧ 128 * t ≤ (y 1).val ∧ (y 1).val < 128 * t + 128) := by
    intro c hc
    have hw := wrow_nat n hn c hc
    constructor
    · intro h
      have a0 := h 0
      have a1 := h 1
      change (Scalar.indexCast (Scalar.addi (BitVec.ofNat 32 (32 * n)) (BitVec.ofNat 32 (16 * c)))).toNat ≤ (y 0).val ∧ (y 0).val < (Scalar.indexCast (Scalar.addi (BitVec.ofNat 32 (32 * n)) (BitVec.ofNat 32 (16 * c)))).toNat + 16 at a0
      change 128 * t ≤ (y 1).val ∧ (y 1).val < 128 * t + 128 at a1
      rw [hw] at a0
      omega
    · rintro ⟨b0, b1, b2, b3⟩ a
      match a with
      | ⟨0, _⟩ =>
        change (Scalar.indexCast (Scalar.addi (BitVec.ofNat 32 (32 * n)) (BitVec.ofNat 32 (16 * c)))).toNat ≤ (y 0).val ∧ (y 0).val < (Scalar.indexCast (Scalar.addi (BitVec.ofNat 32 (32 * n)) (BitVec.ofNat 32 (16 * c)))).toNat + 16
        rw [hw]; omega
      | ⟨1, _⟩ =>
        change 128 * t ≤ (y 1).val ∧ (y 1).val < 128 * t + 128
        omega
  have val : ∀ c (hc : c < 2) (h : ∀ a, wOff (BitVec.ofNat 32 (32 * n)) c (128 * t) a ≤ (y a).val ∧ (y a).val < wOff (BitVec.ofNat 32 (32 * n)) c (128 * t) a + S16x128.size a),
      v t ht c (Rect.unitLocal (s := S768x2560) (off := wOff (BitVec.ofNat 32 (32 * n)) c (128 * t)) (size := S16x128.size) y h) = setG v (32 * n) X (t + 1) y := by
    intro c hc h
    have hw := wrow_nat n hn c hc
    have hb := (e c hc).mp h
    have hq : (y 1).val / 128 = t := by omega
    have hc' : ((y 0).val - 32 * n) / 16 = c := by omega
    unfold setG
    rw [if_pos (by omega)]
    subst hc'
    have key : ∀ t' (ht' : t' < 20), t' = t → ∀ i j, i = j → v t ht (((y 0).val - 32 * n) / 16) i = v t' ht' (((y 0).val - 32 * n) / 16) j := by
      intro t' ht' e1 i j e2
      subst e1 e2
      rfl
    refine key _ _ hq _ _ ?_
    funext a
    apply Fin.ext
    rw [Rect.unitLocal_val]
    match a with
    | ⟨0, _⟩ =>
      change (y 0).val - (Scalar.indexCast (Scalar.addi (BitVec.ofNat 32 (32 * n)) (BitVec.ofNat 32 (16 * (((y 0).val - 32 * n) / 16))))).toNat = ((y 0).val - 32 * n) % 16
      rw [hw]; omega
    | ⟨1, _⟩ =>
      change (y 1).val - 128 * t = (y 1).val % 128
      omega
  unfold upd
  by_cases c1 : ∀ a, wOff (BitVec.ofNat 32 (32 * n)) 1 (128 * t) a ≤ (y a).val ∧ (y a).val < wOff (BitVec.ofNat 32 (32 * n)) 1 (128 * t) a + S16x128.size a
  · rw [dif_pos c1]
    exact val 1 (by omega) c1
  · rw [dif_neg c1]
    by_cases c0 : ∀ a, wOff (BitVec.ofNat 32 (32 * n)) 0 (128 * t) a ≤ (y a).val ∧ (y a).val < wOff (BitVec.ofNat 32 (32 * n)) 0 (128 * t) a + S16x128.size a
    · rw [dif_pos c0]
      exact val 0 (by omega) c0
    · rw [dif_neg c0]
      rw [e 1 (by omega)] at c1
      rw [e 0 (by omega)] at c0
      unfold setG
      by_cases d : 32 * n ≤ (y 0).val ∧ (y 0).val < 32 * n + 32 ∧ (y 1).val < 128 * t
      · rw [if_pos d, if_pos (by omega)]
      · rw [if_neg d, if_neg (by omega)]

/-! ## The program of a group -/

theorem run_stBlock {α : Type} (c : Dev nD) (w : Memref sig .tc .vmem S768x2560 .bf16) (hw : w.IsWhole) (X : S768x2560.Idx → Elt F .bf16)
    (wrow : BitVec 32) (hr : WOK wrow) (cell t : Nat) (hc : cell < 2) (ht : t < 20) (v : FVec F S16x128 .bf16) (k : Pg F α) (Q : α → sProp 𝕄) :
    (iprop(owns (c : Thread nD τ) w fullShare X
      ∗ (owns (c : Thread nD τ) w fullShare (upd X (wOff wrow cell (128 * t)) S16x128.size (wOff_inb hr cell t hc ht) v) -∗ Run c k Q)) : sProp 𝕄)
      ⊢ Run c (stBlock w hw wrow hr cell t hc ht v k) Q := by
  unfold stBlock
  rw [shapeCast_id]
  iintro ⟨H, K⟩
  iapply (ld_owns c w X _ _ _ _ _ Q)
  isplitl [H]; · iexact H
  iintro H
  iapply (st_owns c w X _ _ _ _ _ _ Q)
  isplitl [H]; · iexact H
  iexact K

theorem run_tiles {α : Type} (c : Dev nD) (B : Bufs) (D : Ro F) (w : Memref sig .tc .vmem S768x2560 .bf16) (hw : w.IsWhole) (X : S768x2560.Idx → Elt F .bf16)
    (g : BitVec 32) (n : Nat) (hn : n < 24) (hg : GOK g) (hr : WOK (BitVec.ofNat 32 (32 * n)))
    (s z : Nat → Nat → FVec F S16x128 .f32) (table : IVec S8x128 32) (b : Fin 4 → FVec F S8x128 .f32) (k : Pg F α) (Q : α → sProp 𝕄) :
    ∀ (fuel t : Nat) (h : t + fuel = 20),
    (iprop(roOwn c B D ∗ owns (c : Thread nD τ) w fullShare (setG (blkOf D g hg s z table b) (32 * n) X t)
      ∗ (roOwn c B D -∗ owns (c : Thread nD τ) w fullShare (setG (blkOf D g hg s z table b) (32 * n) X 20) -∗ Run c k Q)) : sProp 𝕄)
      ⊢ Run c (tiles B.q w hw g (BitVec.ofNat 32 (32 * n)) hg hr s z table b k fuel t h) Q
  | 0, t, h => by
    obtain rfl : t = 20 := h
    unfold tiles
    iintro ⟨R, H, K⟩
    iapply K $$ R H
  | f + 1, t, h => by
    have ht : t < 20 := by omega
    have ih := run_tiles c B D w hw X g n hn hg hr s z table b k Q f (t + 1) (by omega)
    unfold tiles
    iintro ⟨R, H, K⟩
    iapply (ld_q c B D _ _ _ _ _ Q)
    isplitl [R]; · iexact R
    iintro R
    iapply (ld_q c B D _ _ _ _ _ Q)
    isplitl [R]; · iexact R
    iintro R
    iapply (ld_q c B D _ _ _ _ _ Q)
    isplitl [R]; · iexact R
    iintro R
    iapply (run_stBlock c w hw _ _ hr 0 t _ ht _ _ Q)
    isplitl [H]; · iexact H
    iintro H
    iapply (run_stBlock c w hw _ _ hr 1 t _ ht _ _ Q)
    isplitl [H]; · iexact H
    iintro H
    iapply ih
    isplitl [R]; · iexact R
    isplitl [H]
    · rw [← setG_succ (blkOf D g hg s z table b) n hn hr X t ht]
      iexact H
    iexact K

end Cert.Kernel.Hand

end
-- ==== Proof.Kernel.Steps.lean ====
/-
  What the body's pieces do to the buffers: the scales widened, one group, the loop over the first block's
  24 groups, one step, the three steps of a grid point, and the whole body.
-/
module

public import proofs.«01_k».proof.Proof.Kernel.Run
public import Idealize.ShloMosaic.Lib.Pointwise.Index
public import Idealize.ShloMosaic.Lib.Pointwise.Reshape

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One group -/

theorem run_lev2 {α : Type} (c : Dev nD) (pz ps : Memref sig .tc .vmem S2x432x128 .f32) (Z S : S2x432x128.Idx → Elt F .f32)
    (g : BitVec 32) (hg : GOK g) (h : Nat) (hh : h < 2) (code : FVec F S32x128 .bf16)
    (k : FVec F S16x128 .f32 → FVec F S16x128 .f32 → Pg F α) (Q : α → sProp 𝕄) :
    (iprop(owns (c : Thread nD τ) pz fullShare Z ∗ owns (c : Thread nD τ) ps fullShare S
      ∗ (owns (c : Thread nD τ) pz fullShare Z -∗ owns (c : Thread nD τ) ps fullShare S
        -∗ Run c (k (secH Z S g hg h 0 hh (by omega) code) (secH Z S g hg h 1 hh (by omega) code)) Q)) : sProp 𝕄)
      ⊢ Run c (lev2 pz ps g hg h hh code k) Q := by
  unfold lev2
  iintro ⟨HZ, HS, K⟩
  iapply (ld_owns c pz Z _ _ _ _ _ Q)
  isplitl [HZ]; · iexact HZ
  iintro HZ
  iapply (ld_owns c ps S _ _ _ _ _ Q)
  isplitl [HS]; · iexact HS
  iintro HS
  iapply (ld_owns c pz Z _ _ _ _ _ Q)
  isplitl [HZ]; · iexact HZ
  iintro HZ
  iapply (ld_owns c ps S _ _ _ _ _ Q)
  isplitl [HS]; · iexact HS
  iintro HS
  iapply K $$ HZ HS

theorem run_second {α : Type} (c : Dev nD) (q : Memref sig .tc .vmem S3x864x160 .i8) (pz ps : Memref sig .tc .vmem S2x432x128 .f32)
    (X : S3x864x160.Idx → Elt F .i8) (Z S : S2x432x128.Idx → Elt F .f32)
    (g : BitVec 32) (hg : GOK g) (k : (Nat → Nat → FVec F S16x128 .f32) → Pg F α) (Q : α → sProp 𝕄) :
    (iprop(owns (c : Thread nD τ) q fullShare X ∗ owns (c : Thread nD τ) pz fullShare Z ∗ owns (c : Thread nD τ) ps fullShare S
      ∗ (owns (c : Thread nD τ) q fullShare X -∗ owns (c : Thread nD τ) pz fullShare Z -∗ owns (c : Thread nD τ) ps fullShare S
        -∗ Run c (k (sec X Z S g hg)) Q)) : sProp 𝕄)
      ⊢ Run c (second q pz ps g hg k) Q := by
  have e : (fun n c => match c with
      | 0 => pick n (secH Z S g hg 0 0 (by omega) (by omega) (code0 X g hg)) (secH Z S g hg 1 0 (by omega) (by omega) (code1 X g hg))
      | _ + 1 => pick n (secH Z S g hg 0 1 (by omega) (by omega) (code0 X g hg)) (secH Z S g hg 1 1 (by omega) (by omega) (code1 X g hg)))
      = sec X Z S g hg := by
    funext n c
    cases c <;> rfl
  rw [← e]
  unfold second
  iintro ⟨H, HZ, HS, K⟩
  iapply (ld_owns c q X _ _ _ _ _ Q)
  isplitl [H]; · iexact H
  iintro H
  iapply (ld_owns c q X _ _ _ _ _ Q)
  isplitl [H]; · iexact H
  iintro H
  iapply (ld_owns c q X _ _ _ _ _ Q)
  isplitl [H]; · iexact H
  iintro H
  iapply (run_lev2 c pz ps Z S g hg 0 _ _ _ Q)
  isplitl [HZ]; · iexact HZ
  isplitl [HS]; · iexact HS
  iintro HZ HS
  iapply (ld_owns c q X _ _ _ _ _ Q)
  isplitl [H]; · iexact H
  iintro H
  iapply (ld_owns c q X _ _ _ _ _ Q)
  isplitl [H]; · iexact H
  iintro H
  iapply (ld_owns c q X _ _ _ _ _ Q)
  isplitl [H]; · iexact H
  iintro H
  iapply (run_lev2 c pz ps Z S g hg 1 _ _ _ Q)
  isplitl [HZ]; · iexact HZ
  isplitl [HS]; · iexact HS
  iintro HZ HS
  iapply K $$ H HZ HS

/-- The 768 rows of block `N` of the weight, dequantised. -/
def wBlk (D : Ro F) (N : Nat) (hN : N < 9) : S768x2560.Idx → Elt F .bf16 := fun y =>
  blk D (BitVec.ofNat 32 (24 * N + (y 0).val / 32)) ⟨_, by have : (y 0).val < 768 := (y 0).isLt; omega, rfl⟩
    ((y 1).val / 128) (by have : (y 1).val < 2560 := (y 1).isLt; omega) ((y 0).val % 32 / 16)
    (ix2 ⟨(y 0).val % 16, Nat.mod_lt _ (by omega)⟩ ⟨(y 1).val % 128, Nat.mod_lt _ (by omega)⟩)

/-- A weight buffer whose first `n` groups hold block `N`'s rows, the others what they held. -/
def part (D : Ro F) (N : Nat) (hN : N < 9) (n : Nat) (X : S768x2560.Idx → Elt F .bf16) : S768x2560.Idx → Elt F .bf16 := fun y =>
  if (y 0).val < 32 * n then wBlk D N hN y else X y

theorem part_zero (D : Ro F) (N : Nat) (hN : N < 9) (X : S768x2560.Idx → Elt F .bf16) : part D N hN 0 X = X := by
  funext y
  exact if_neg (by omega)

theorem part_all (D : Ro F) (N : Nat) (hN : N < 9) (X : S768x2560.Idx → Elt F .bf16) : part D N hN 24 X = wBlk D N hN := by
  funext y
  have : (y 0).val < 768 := (y 0).isLt
  exact if_pos (by omega)

theorem part_succ (D : Ro F) (N : Nat) (hN : N < 9) (n : Nat) (hn : n < 24) (hg : GOK (BitVec.ofNat 32 (24 * N + n))) (X : S768x2560.Idx → Elt F .bf16) :
    setG (blk D (BitVec.ofNat 32 (24 * N + n)) hg) (32 * n) (part D N hN n X) 20 = part D N hN (n + 1) X := by
  funext y
  have hy : (y 0).val < 768 := (y 0).isLt
  have hy1 : (y 1).val < 2560 := (y 1).isLt
  unfold setG part
  by_cases h : 32 * n ≤ (y 0).val ∧ (y 0).val < 32 * n + 32 ∧ (y 1).val < 128 * 20
  · rw [if_pos h, if_pos (by omega)]
    unfold wBlk
    have key : ∀ g g' (hg : GOK g) (hg' : GOK g'), g = g' → ∀ t (ht : t < 20) c c', c = c' → ∀ i j, i = j → blk D g hg t ht c i = blk D g' hg' t ht c' j := by
      intro g g' hg hg' e t ht c c' e1 i j e2
      subst e e1 e2
      rfl
    refine key _ _ _ _ ?_ _ _ _ _ ?_ _ _ ?_
    · rw [show (y 0).val / 32 = n by omega]
    · omega
    · refine congrArg (fun a => ix2 a _) (Fin.ext ?_)
      change ((y 0).val - 32 * n) % 16 = (y 0).val % 16
      omega
  · rw [if_neg h]
    by_cases h' : (y 0).val < 32 * n
    · rw [if_pos h', if_pos (by omega)]
    · rw [if_neg h', if_neg (by omega)]

/-- One group dequantised into a weight buffer. -/
theorem run_dqGroup {α : Type} (c : Dev nD) (B : Bufs) (D : Ro F) (w : Memref sig .tc .vmem S768x2560 .bf16) (hw : w.IsWhole) (X : S768x2560.Idx → Elt F .bf16)
    (g wrow : BitVec 32) (hg : GOK g) (hr : WOK wrow) (N : Nat) (hN : N < 9) (n : Nat) (hn : n < 24)
    (eg : g = BitVec.ofNat 32 (24 * N + n)) (ew : wrow = BitVec.ofNat 32 (32 * n)) (k : Pg F α) (Q : α → sProp 𝕄) :
    (iprop(roOwn c B D ∗ owns (c : Thread nD τ) w fullShare (part D N hN n X)
      ∗ (roOwn c B D -∗ owns (c : Thread nD τ) w fullShare (part D N hN (n + 1) X) -∗ Run c k Q)) : sProp 𝕄)
      ⊢ Run c (dqGroup B w hw g wrow hg hr k) Q := by
  subst eg ew
  rw [← part_succ D N hN n hn hg X]
  unfold dqGroup
  iintro ⟨R, H, K⟩
  unfold roOwn
  icases R with ⟨H0, H1, H2, H3, H4, H5, H6, H7⟩
  iapply (run_second c B.qs B.p1 B.p0 D.qs D.p1 D.p0 _ hg _ Q)
  isplitl [H1]; · iexact H1
  isplitl [H5]; · iexact H5
  isplitl [H4]; · iexact H4
  iintro H1 H5 H4
  iapply (run_second c B.qz B.p3 B.p2 D.qz D.p3 D.p2 _ hg _ Q)
  isplitl [H2]; · iexact H2
  isplitl [H7]; · iexact H7
  isplitl [H6]; · iexact H6
  iintro H2 H7 H6
  iapply (ld_owns c B.tb D.tb _ _ _ _ _ Q)
  isplitl [H3]; · iexact H3
  iintro H3
  iapply (ld_owns c B.tb D.tb _ _ _ _ _ Q)
  isplitl [H3]; · iexact H3
  iintro H3
  iapply (run_tiles c B D w hw (part D N hN n X) _ n hn hg hr (sec D.qs D.p1 D.p0 _ hg) (sec D.qz D.p3 D.p2 _ hg) (tabG D _ hg) (slotsG _) k Q 20 0 rfl)
  isplitl [H0 H1 H2 H3 H4 H5 H6 H7]
  · unfold roOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H]
  · rw [setG_zero]
    iexact H
  unfold roOwn
  iexact K

/-! ## The scales widened -/

/-- A matrix of scales as two matrices of 128 columns, the second one's last 96 columns zero. -/
def widenOn (s : S432x160.Idx → Elt F .bf16) (X : S2x432x128.Idx → Elt F .f32) : S2x432x128.Idx → Elt F .f32 :=
  upd (upd X ![0, 0, 0] S1x432x128.size inb_S2x432x128_S1x432x128_0_0_0
    (shapeCast S1x432x128 (extf .f32 (rect s ![0, 0] S432x128.size inb_S432x160_S432x128_0_0 : FVec F S432x128 .bf16) bitsLt_bf16_f32 : FVec F S432x128 .f32) shapeCasts_S432x128_S1x432x128 : FVec F S1x432x128 .f32))
    ![1, 0, 0] S1x432x128.size inb_S2x432x128_S1x432x128_1_0_0
    (shapeCast S1x432x128 (concatenate S432x128 1 [⟨S432x32, extf .f32 (rect s ![0, 128] S432x32.size inb_S432x160_S432x32_0_128 : FVec F S432x32 .bf16) bitsLt_bf16_f32⟩,
      ⟨S432x96, (broadcast S432x96 (Scalar.ofBits .f32 0x00000000#32 : F .f32) : FVec F S432x96 .f32)⟩]
      concatenates_S432x32_S432x96_S432x128_d1 : FVec F S432x128 .f32) shapeCasts_S432x128_S1x432x128 : FVec F S1x432x128 .f32)

def widen (s : S432x160.Idx → Elt F .bf16) : S2x432x128.Idx → Elt F .f32 := widenOn s fun _ => Scalar.ofBits .f32 0x00000000#32

theorem widenOn_eq (s : S432x160.Idx → Elt F .bf16) (X : S2x432x128.Idx → Elt F .f32) : widenOn s X = widen s := by
  unfold widen widenOn
  funext y
  unfold upd
  split
  · rfl
  · next h1 =>
    split
    · rfl
    · next h0 =>
      exfalso
      have y0 : (y 0).val < 2 := (y 0).isLt
      have y1 : (y 1).val < 432 := (y 1).isLt
      have y2 : (y 2).val < 128 := (y 2).isLt
      rcases (by omega : (y 0).val = 0 ∨ (y 0).val = 1) with e | e
      · refine h0 fun a => ?_
        match a with
        | ⟨0, _⟩ => change 0 ≤ (y 0).val ∧ (y 0).val < 0 + 1; omega
        | ⟨1, _⟩ => change 0 ≤ (y 1).val ∧ (y 1).val < 0 + 432; omega
        | ⟨2, _⟩ => change 0 ≤ (y 2).val ∧ (y 2).val < 0 + 128; omega
      · refine h1 fun a => ?_
        match a with
        | ⟨0, _⟩ => change 1 ≤ (y 0).val ∧ (y 0).val < 1 + 1; omega
        | ⟨1, _⟩ => change 0 ≤ (y 1).val ∧ (y 1).val < 0 + 432; omega
        | ⟨2, _⟩ => change 0 ≤ (y 2).val ∧ (y 2).val < 0 + 128; omega

theorem run_fill {α : Type} (c : Dev nD) (src : Memref sig .tc .vmem S432x160 .bf16) (dst : Memref sig .tc .vmem S2x432x128 .f32)
    (s : S432x160.Idx → Elt F .bf16) (X : S2x432x128.Idx → Elt F .f32) (k : Pg F α) (Q : α → sProp 𝕄) :
    (iprop(owns (c : Thread nD τ) src fullShare s ∗ owns (c : Thread nD τ) dst fullShare X
      ∗ (owns (c : Thread nD τ) src fullShare s -∗ owns (c : Thread nD τ) dst fullShare (widen s) -∗ Run c k Q)) : sProp 𝕄)
      ⊢ Run c (fill src dst k) Q := by
  rw [← widenOn_eq s X]
  unfold fill widenOn
  iintro ⟨S, H, K⟩
  iapply (ld_owns c src s _ _ _ _ _ Q)
  isplitl [S]; · iexact S
  iintro S
  iapply (ld_owns c dst _ _ _ _ _ _ Q)
  isplitl [H]; · iexact H
  iintro H
  iapply (st_owns c dst _ _ _ _ _ _ _ Q)
  isplitl [H]; · iexact H
  iintro H
  iapply (ld_owns c src s _ _ _ _ _ Q)
  isplitl [S]; · iexact S
  iintro S
  iapply (ld_owns c dst _ _ _ _ _ _ Q)
  isplitl [H]; · iexact H
  iintro H
  iapply (st_owns c dst _ _ _ _ _ _ _ Q)
  isplitl [H]; · iexact H
  iintro H
  iapply K $$ S H

/-! ## The steps of a grid point -/

/-- The output block with one step's 256 columns overwritten by the product. -/
def yStep (x : S1024x2560.Idx → Elt F .bf16) (w : S768x2560.Idx → Elt F .bf16) (j : Fin 3) (Y : S1024x768.Idx → Elt F .bf16) : S1024x768.Idx → Elt F .bf16 :=
  upd Y ![0, 256 * j.val] S1024x256.size (yOff_inb j)
    (mmVal (rect x ![0, 0] S1024x2560.size inb_S1024x2560_S1024x2560_0_0) (rect w ![256 * j.val, 0] S256x2560.size (cOff_inb j)))

/-- The output block of a grid point. -/
def yBlk (x : S1024x2560.Idx → Elt F .bf16) (w : S768x2560.Idx → Elt F .bf16) : S1024x768.Idx → Elt F .bf16 :=
  yStep x w 2 (yStep x w 1 (yStep x w 0 fun _ => Scalar.ofBits .bf16 0x0000#16))

theorem yBlk_eq (x : S1024x2560.Idx → Elt F .bf16) (w : S768x2560.Idx → Elt F .bf16) (Y : S1024x768.Idx → Elt F .bf16) :
    yStep x w 2 (yStep x w 1 (yStep x w 0 Y)) = yBlk x w := by
  unfold yBlk yStep
  funext y
  unfold upd
  split
  · rfl
  · next h2 =>
    split
    · rfl
    · next h1 =>
      split
      · rfl
      · next h0 =>
        exfalso
        have y0 : (y 0).val < 1024 := (y 0).isLt
        have y1 : (y 1).val < 768 := (y 1).isLt
        rcases (by omega : (y 1).val < 256 ∨ (256 ≤ (y 1).val ∧ (y 1).val < 512) ∨ (512 ≤ (y 1).val ∧ (y 1).val < 768)) with e | e | e
        · refine h0 fun a => ?_
          match a with
          | ⟨0, _⟩ => change 0 ≤ (y 0).val ∧ (y 0).val < 0 + 1024; omega
          | ⟨1, _⟩ => change 0 ≤ (y 1).val ∧ (y 1).val < 0 + 256; omega
        · refine h1 fun a => ?_
          match a with
          | ⟨0, _⟩ => change 0 ≤ (y 0).val ∧ (y 0).val < 0 + 1024; omega
          | ⟨1, _⟩ => change 256 ≤ (y 1).val ∧ (y 1).val < 256 + 256; omega
        · refine h2 fun a => ?_
          match a with
          | ⟨0, _⟩ => change 0 ≤ (y 0).val ∧ (y 0).val < 0 + 1024; omega
          | ⟨1, _⟩ => change 512 ≤ (y 1).val ∧ (y 1).val < 512 + 256; omega

theorem coord0_lt (i : grid0.Coords) : (i 0).val < 9 := (i 0).isLt
theorem coord1_lt (i : grid0.Coords) : (i 1).val < 8 := (i 1).isLt
theorem nxtN_lt {n : Nat} (h : n < 9) : nxtN n < 9 := by unfold nxtN; split <;> omega

theorem run_step {α : Type} (c : Dev nD) (B : Bufs) (D : Ro F) (i : grid0.Coords) (cur other : Memref sig .tc .vmem S768x2560 .bf16) (ho : other.IsWhole)
    (j : Fin 3) (x : S1024x2560.Idx → Elt F .bf16) (w X : S768x2560.Idx → Elt F .bf16) (Y : S1024x768.Idx → Elt F .bf16) (k : Pg F α) (Q : α → sProp 𝕄) :
    (iprop(roOwn c B D ∗ owns (c : Thread nD τ) B.x fullShare x ∗ owns (c : Thread nD τ) cur fullShare w
      ∗ owns (c : Thread nD τ) other fullShare (part D (nxtN (i 0).val) (nxtN_lt (coord0_lt i)) (3 * (i 1).val + j.val) X)
      ∗ owns (c : Thread nD τ) B.y fullShare Y
      ∗ (roOwn c B D -∗ owns (c : Thread nD τ) B.x fullShare x -∗ owns (c : Thread nD τ) cur fullShare w
        -∗ owns (c : Thread nD τ) other fullShare (part D (nxtN (i 0).val) (nxtN_lt (coord0_lt i)) (3 * (i 1).val + j.val + 1) X)
        -∗ owns (c : Thread nD τ) B.y fullShare (yStep x w j Y) -∗ Run c k Q)) : sProp 𝕄)
      ⊢ Run c (step B i cur other ho j k) Q := by
  have h1 := coord1_lt i
  have hj := j.isLt
  unfold step yStep
  iintro ⟨R, HX, HC, HO, HY, K⟩
  iapply (run_dqGroup c B D other ho X _ _ _ _ (nxtN (i 0).val) (nxtN_lt (coord0_lt i)) (3 * (i 1).val + j.val) (by omega) (stepG_eq i j) (stepW_eq i j) _ Q)
  isplitl [R]; · iexact R
  isplitl [HO]; · iexact HO
  iintro R HO
  iapply (ld_owns c B.x x _ _ _ _ _ Q)
  isplitl [HX]; · iexact HX
  iintro HX
  iapply (ld_owns c cur w _ _ _ _ _ Q)
  isplitl [HC]; · iexact HC
  iintro HC
  iapply (ld_owns c B.y Y _ _ _ _ _ Q)
  isplitl [HY]; · iexact HY
  iintro HY
  iapply (st_owns c B.y Y _ _ _ _ _ _ Q)
  isplitl [HY]; · iexact HY
  iintro HY
  iapply K $$ R HX HC HO HY

theorem run_steps {α : Type} (c : Dev nD) (B : Bufs) (D : Ro F) (i : grid0.Coords) (cur other : Memref sig .tc .vmem S768x2560 .bf16) (ho : other.IsWhole)
    (x : S1024x2560.Idx → Elt F .bf16) (w X : S768x2560.Idx → Elt F .bf16) (Y : S1024x768.Idx → Elt F .bf16) (k : Pg F α) (Q : α → sProp 𝕄) :
    (iprop(roOwn c B D ∗ owns (c : Thread nD τ) B.x fullShare x ∗ owns (c : Thread nD τ) cur fullShare w
      ∗ owns (c : Thread nD τ) other fullShare (part D (nxtN (i 0).val) (nxtN_lt (coord0_lt i)) (3 * (i 1).val) X)
      ∗ owns (c : Thread nD τ) B.y fullShare Y
      ∗ (roOwn c B D -∗ owns (c : Thread nD τ) B.x fullShare x -∗ owns (c : Thread nD τ) cur fullShare w
        -∗ owns (c : Thread nD τ) other fullShare (part D (nxtN (i 0).val) (nxtN_lt (coord0_lt i)) (3 * (i 1).val + 3) X)
        -∗ owns (c : Thread nD τ) B.y fullShare (yBlk x w) -∗ Run c k Q)) : sProp 𝕄)
      ⊢ Run c (steps B i cur other ho k) Q := by
  rw [← yBlk_eq x w Y]
  unfold steps
  iintro ⟨R, HX, HC, HO, HY, K⟩
  iapply (run_step c B D i cur other ho 0 x w X Y _ Q)
  isplitl [R]; · iexact R
  isplitl [HX]; · iexact HX
  isplitl [HC]; · iexact HC
  isplitl [HO]; · iexact HO
  isplitl [HY]; · iexact HY
  iintro R HX HC HO HY
  iapply (run_step c B D i cur other ho 1 x w X _ _ Q)
  isplitl [R]; · iexact R
  isplitl [HX]; · iexact HX
  isplitl [HC]; · iexact HC
  isplitl [HO]; · iexact HO
  isplitl [HY]; · iexact HY
  iintro R HX HC HO HY
  iapply (run_step c B D i cur other ho 2 x w X _ _ Q)
  isplitl [R]; · iexact R
  isplitl [HX]; · iexact HX
  isplitl [HC]; · iexact HC
  isplitl [HO]; · iexact HO
  isplitl [HY]; · iexact HY
  iexact K

/-- The loop of the first grid point: the first weight buffer comes to hold block 0. -/
theorem run_loop {α : Type} (c : Dev nD) (B : Bufs) (D : Ro F) (i : grid0.Coords) (h : k0_cond1 i = 1#1) (X : S768x2560.Idx → Elt F .bf16) (k : Pg F α) (Q : α → sProp 𝕄) :
    (iprop(roOwn c B D ∗ owns (c : Thread nD τ) B.w0 fullShare X
      ∗ (roOwn c B D -∗ owns (c : Thread nD τ) B.w0 fullShare (wBlk D 0 (by omega)) -∗ Run c k Q)) : sProp 𝕄)
      ⊢ Run c ((Scf.Loop.for k0_t1_loop (k0_t1_ok i h) (⟨⟩ : PUnit) fun t _ =>
        dqGroup B B.w0 B.hw0 (loopG t) (loopW t) (loopG_ok t) (loopW_ok t) (.ret ⟨⟩ : Pg F PUnit)).bind fun _ => k) Q := by
  have hb : ∀ (t : Fin k0_t1_loop.trips) (a : PUnit),
      (iprop(roOwn c B D ∗ owns (c : Thread nD τ) B.w0 fullShare (part D 0 (by omega) t.val X)) : sProp 𝕄)
        ⊢ Run c (dqGroup B B.w0 B.hw0 (loopG t) (loopW t) (loopG_ok t) (loopW_ok t) (.ret ⟨⟩ : Pg F PUnit))
          (fun _ => iprop(roOwn c B D ∗ owns (c : Thread nD τ) B.w0 fullShare (part D 0 (by omega) (t.val + 1) X))) := by
    intro t a
    have ht : t.val < 24 := by have := t.isLt; have := trips_eq; omega
    iintro ⟨R, H⟩
    iapply (run_dqGroup c B D B.w0 B.hw0 X _ _ _ _ 0 (by omega) t.val ht ((loopG_eq t).trans (by rw [Nat.mul_zero, Nat.zero_add])) (loopW_eq t) _ _)
    isplitl [R]; · iexact R
    isplitl [H]; · iexact H
    iintro R H
    unfold Run
    rw [wp_ret]
    imodintro
    isplitl [R]; · iexact R
    iexact H
  iintro ⟨R, H, K⟩
  ihave L := (Scf.wp_for_bind frame (wpE (defs₀ (F := F)) Variants.none c none) Set.univ k0_t1_loop.lb k0_t1_loop.ub k0_t1_loop.st (k0_t1_ok i h) (⟨⟩ : PUnit)
    (fun t _ => dqGroup B B.w0 B.hw0 (loopG t) (loopW t) (loopG_ok t) (loopW_ok t) (.ret ⟨⟩ : Pg F PUnit))
    (fun n _ => iprop(roOwn c B D ∗ owns (c : Thread nD τ) B.w0 fullShare (part D 0 (by omega) n X))) hb (kk := fun _ => k) (Q := Q)) $$ [R H]
  · isplitl [R]; · iexact R
    rw [part_zero]
    iexact H
  iapply L
  iintro %a ⟨R, H⟩
  have e : Scf.trips k0_t1_loop.lb k0_t1_loop.ub k0_t1_loop.st = 24 := trips_eq
  rw [e, part_all]
  iapply K $$ R H

/-! ## The body -/

theorem cond1_eq : ∀ i : grid0.Coords, k0_cond1 i = 1#1 ↔ (i 0).val = 0 ∧ (i 1).val = 0 := by decide +kernel
theorem cond2_eq : ∀ i : grid0.Coords, k0_cond2 i = 1#1 ↔ (i 0).val % 2 = 0 := by decide +kernel
theorem cond3_eq : ∀ i : grid0.Coords, k0_cond3 i = 1#1 ↔ ¬ (i 0).val % 2 = 0 := by decide +kernel

/-- The two weight buffers at column `n` of the grid: one holds block `n` of the weight, the other the first
    `k` groups of the next block. -/
def wOwn (c : Dev nD) (w0 w1 : Memref sig .tc .vmem S768x2560 .bf16) (D : Ro F) (n : Nat) (hn : n < 9) (k : Nat) : sProp 𝕄 :=
  iprop(∃ Z, owns (c : Thread nD τ) (if n % 2 = 0 then w0 else w1) fullShare (wBlk D n hn)
    ∗ owns (c : Thread nD τ) (if n % 2 = 0 then w1 else w0) fullShare (part D (nxtN n) (nxtN_lt hn) k Z))

/-- From the last point of a column to the first of the next. -/
theorem wOwn_next (c : Dev nD) (w0 w1 : Memref sig .tc .vmem S768x2560 .bf16) (D : Ro F) (n : Nat) (hn : n < 9) (hn' : n + 1 < 9) :
    (wOwn c w0 w1 D n hn 24 : sProp 𝕄) ⊢ wOwn c w0 w1 D (n + 1) hn' 0 := by
  have key : ∀ N (hN : N < 9) (h : N = n + 1) X, part D N hN 24 X = wBlk D (n + 1) hn' := by
    intro N hN h X
    subst h
    exact part_all D _ _ X
  have e : nxtN n = n + 1 := by unfold nxtN; rw [if_neg (by omega)]
  unfold wOwn
  rcases Nat.mod_two_eq_zero_or_one n with h | h
  · rw [if_pos h, if_pos h, if_neg (by omega), if_neg (by omega)]
    iintro ⟨%Z, A, C⟩
    iexists (wBlk D n hn)
    rw [key _ _ e, part_zero]
    isplitl [C]; · iexact C
    iexact A
  · rw [if_neg (by omega), if_neg (by omega), if_pos (by omega), if_pos (by omega)]
    iintro ⟨%Z, A, C⟩
    iexists (wBlk D n hn)
    rw [key _ _ e, part_zero]
    isplitl [C]; · iexact C
    iexact A

theorem run_mid {α : Type} (c : Dev nD) (B : Bufs) (D : Ro F) (i : grid0.Coords)
    (x : S1024x2560.Idx → Elt F .bf16) (Y : S1024x768.Idx → Elt F .bf16) (k : Pg F α) (Q : α → sProp 𝕄) :
    (iprop(roOwn c B D ∗ owns (c : Thread nD τ) B.x fullShare x ∗ wOwn c B.w0 B.w1 D (i 0).val (coord0_lt i) (3 * (i 1).val)
      ∗ owns (c : Thread nD τ) B.y fullShare Y
      ∗ (roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Run c k Q)) : sProp 𝕄)
      ⊢ Run c (even B i (odd B i k)) Q := by
  unfold even odd wOwn
  by_cases h : (i 0).val % 2 = 0
  · rw [if_pos ((cond2_eq i).mpr h), if_neg (fun h' => (cond3_eq i).mp h' h), if_pos h, if_pos h]
    iintro ⟨R, HX, ⟨%Z, HC, HO⟩, HY, K⟩
    iapply (run_steps c B D i B.w0 B.w1 B.hw1 x _ Z Y _ Q)
    isplitl [R]; · iexact R
    isplitl [HX]; · iexact HX
    isplitl [HC]; · iexact HC
    isplitl [HO]; · iexact HO
    isplitl [HY]; · iexact HY
    iintro R HX HC HO HY
    iapply K $$ R HX [HC HO] HY
    iexists Z
    isplitl [HC]; · iexact HC
    iexact HO
  · rw [if_neg (fun h' => h ((cond2_eq i).mp h')), if_pos ((cond3_eq i).mpr h), if_neg h, if_neg h]
    iintro ⟨R, HX, ⟨%Z, HC, HO⟩, HY, K⟩
    iapply (run_steps c B D i B.w1 B.w0 B.hw0 x _ Z Y _ Q)
    isplitl [R]; · iexact R
    isplitl [HX]; · iexact HX
    isplitl [HC]; · iexact HC
    isplitl [HO]; · iexact HO
    isplitl [HY]; · iexact HY
    iintro R HX HC HO HY
    iapply K $$ R HX [HC HO] HY
    iexists Z
    isplitl [HC]; · iexact HC
    iexact HO

/-- The body at a grid point after the first. -/
theorem run_later (c : Dev nD) (B : Bufs) (D : Ro F) (i : grid0.Coords) (hi : ¬ ((i 0).val = 0 ∧ (i 1).val = 0))
    (x : S1024x2560.Idx → Elt F .bf16) (Y : S1024x768.Idx → Elt F .bf16) (Q : PUnit → sProp 𝕄) :
    (iprop(roOwn c B D ∗ owns (c : Thread nD τ) B.x fullShare x ∗ wOwn c B.w0 B.w1 D (i 0).val (coord0_lt i) (3 * (i 1).val)
      ∗ owns (c : Thread nD τ) B.y fullShare Y
      ∗ (roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Q ⟨⟩)) : sProp 𝕄)
      ⊢ Run c (body B i) Q := by
  unfold body first
  rw [dif_neg (fun h => hi ((cond1_eq i).mp h))]
  iintro ⟨R, HX, HW, HY, K⟩
  iapply (run_mid c B D i x Y _ Q)
  isplitl [R]; · iexact R
  isplitl [HX]; · iexact HX
  isplitl [HW]; · iexact HW
  isplitl [HY]; · iexact HY
  iintro R HX HW HY
  unfold Run
  rw [wp_ret]
  imodintro
  iapply K $$ R HX HW HY

/-- The body at the first grid point. -/
theorem run_first (c : Dev nD) (B : Bufs) (D : Ro F) (i : grid0.Coords) (hi : (i 0).val = 0 ∧ (i 1).val = 0)
    (s0 s1 s2 s3 : S432x160.Idx → Elt F .bf16) (h0 : D.p0 = widen s0) (h1 : D.p1 = widen s1) (h2 : D.p2 = widen s2) (h3 : D.p3 = widen s3)
    (x : S1024x2560.Idx → Elt F .bf16) (Y : S1024x768.Idx → Elt F .bf16) (Q : PUnit → sProp 𝕄) :
    (iprop(owns (c : Thread nD τ) B.q fullShare D.q ∗ owns (c : Thread nD τ) B.qs fullShare D.qs ∗ owns (c : Thread nD τ) B.qz fullShare D.qz ∗ owns (c : Thread nD τ) B.tb fullShare D.tb
      ∗ owns (c : Thread nD τ) B.s0 fullShare s0 ∗ owns (c : Thread nD τ) B.s1 fullShare s1 ∗ owns (c : Thread nD τ) B.s2 fullShare s2 ∗ owns (c : Thread nD τ) B.s3 fullShare s3
      ∗ (∃ X, owns (c : Thread nD τ) B.p0 fullShare X) ∗ (∃ X, owns (c : Thread nD τ) B.p1 fullShare X) ∗ (∃ X, owns (c : Thread nD τ) B.p2 fullShare X) ∗ (∃ X, owns (c : Thread nD τ) B.p3 fullShare X)
      ∗ (∃ X, owns (c : Thread nD τ) B.w0 fullShare X) ∗ (∃ X, owns (c : Thread nD τ) B.w1 fullShare X)
      ∗ owns (c : Thread nD τ) B.x fullShare x ∗ owns (c : Thread nD τ) B.y fullShare Y
      ∗ (owns (c : Thread nD τ) B.s0 fullShare s0 -∗ owns (c : Thread nD τ) B.s1 fullShare s1 -∗ owns (c : Thread nD τ) B.s2 fullShare s2 -∗ owns (c : Thread nD τ) B.s3 fullShare s3
        -∗ roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Q ⟨⟩)) : sProp 𝕄)
      ⊢ Run c (body B i) Q := by
  have hc := (cond1_eq i).mpr hi
  unfold body first
  rw [dif_pos hc]
  unfold prologue
  iintro ⟨Hq, Hqs, Hqz, Htb, H0, H1, H2, H3, ⟨%X0, P0⟩, ⟨%X1, P1⟩, ⟨%X2, P2⟩, ⟨%X3, P3⟩, ⟨%W0, W0⟩, ⟨%W1, W1⟩, HX, HY, K⟩
  iapply (run_fill c B.s0 B.p0 s0 X0 _ Q)
  isplitl [H0]; · iexact H0
  isplitl [P0]; · iexact P0
  iintro H0 P0
  iapply (run_fill c B.s1 B.p1 s1 X1 _ Q)
  isplitl [H1]; · iexact H1
  isplitl [P1]; · iexact P1
  iintro H1 P1
  iapply (run_fill c B.s2 B.p2 s2 X2 _ Q)
  isplitl [H2]; · iexact H2
  isplitl [P2]; · iexact P2
  iintro H2 P2
  iapply (run_fill c B.s3 B.p3 s3 X3 _ Q)
  isplitl [H3]; · iexact H3
  isplitl [P3]; · iexact P3
  iintro H3 P3
  iapply (run_loop c B D i hc W0 _ Q)
  isplitl [Hq Hqs Hqz Htb P0 P1 P2 P3]
  · unfold roOwn
    rw [h0, h1, h2, h3]
    isplitl [Hq]; · iexact Hq
    isplitl [Hqs]; · iexact Hqs
    isplitl [Hqz]; · iexact Hqz
    isplitl [Htb]; · iexact Htb
    isplitl [P0]; · iexact P0
    isplitl [P1]; · iexact P1
    isplitl [P2]; · iexact P2
    iexact P3
  isplitl [W0]; · iexact W0
  iintro R W0
  iapply (run_mid c B D i x Y _ Q)
  isplitl [R]; · iexact R
  isplitl [HX]; · iexact HX
  isplitl [W0 W1]
  · have key : ∀ n (hn : n < 9) m, n = 0 → m = 0 → (iprop(owns (c : Thread nD τ) B.w0 fullShare (wBlk D 0 (by omega)) ∗ owns (c : Thread nD τ) B.w1 fullShare W1) : sProp 𝕄) ⊢ wOwn c B.w0 B.w1 D n hn (3 * m) := by
      intro n hn m e e'
      subst e e'
      unfold wOwn
      rw [if_pos rfl, if_pos rfl]
      iintro ⟨A, C⟩
      iexists W1
      isplitl [A]; · iexact A
      rw [show 3 * 0 = 0 from rfl, part_zero]
      iexact C
    iapply (key _ (coord0_lt i) _ hi.1 hi.2)
    isplitl [W0]; · iexact W0
    iexact W1
  isplitl [HY]; · iexact HY
  iintro R HX HW HY
  unfold Run
  rw [wp_ret]
  imodintro
  iapply K $$ H0 H1 H2 H3 R HX HW HY

end Cert.Kernel.Hand

end
-- ==== Proof.Kernel.Printed.lean ====
/-
  The printed kernel body is the compact program of `Body.lean`: the two unfold to the same sequence of loads
  and stores of the same values.
-/
module

public import proofs.«01_k».proof.Proof.Kernel.Body

@[expose] public section

set_option maxRecDepth 16384

noncomputable section

namespace Cert.Kernel.Hand

open Cert.Kernel Cert.Kernel.Gen
open Idealize.ShloMosaic Idealize.SL.Sem
open Idealize.ShloMosaic.Tactic

variable {F : FTy → Type} [FloatOps F]

/-- The printed body's first part: the preparation and the step of the grid points where the first weight
    buffer is the one read. -/
theorem part_eq (B : Bufs) (i : grid0.Coords) :
    k0_part603 (F := F) i B.x B.hx B.q B.hq B.qs B.hqs B.qz B.hqz B.s0 B.hs0 B.s1 B.hs1 B.s2 B.hs2 B.s3 B.hs3 B.tb B.htb B.y B.hy B.w0 B.hw0 B.w1 B.hw1 B.p0 B.hp0 B.p1 B.hp1 B.p2 B.hp2 B.p3 B.hp3 =
      first B i (even B i (.ret ⟨BitVec.ofNat 32 (i 1).val, nxt i⟩)) := by
  sl_kernel_rfl

theorem fill_bind {α β : Type} (src : Memref sig .tc .vmem S432x160 .bf16) (dst : Memref sig .tc .vmem S2x432x128 .f32)
    (k : Pg F α) (f : α → Pg F β) : (fill src dst k).bind f = fill src dst (k.bind f) := by
  sl_kernel_rfl

theorem steps_bind {α β : Type} (B : Bufs) (i : grid0.Coords) (cur other : Memref sig .tc .vmem S768x2560 .bf16) (ho : other.IsWhole)
    (k : Pg F α) (f : α → Pg F β) : (steps B i cur other ho k).bind f = steps B i cur other ho (k.bind f) := by
  sl_kernel_rfl

theorem first_bind {α β : Type} (B : Bufs) (i : grid0.Coords) (k : Pg F α) (f : α → Pg F β) :
    (first B i k).bind f = first B i (k.bind f) := by
  unfold first
  split
  · unfold prologue
    rw [fill_bind, fill_bind, fill_bind, fill_bind]
    refine congrArg (fill B.s0 B.p0) (congrArg (fill B.s1 B.p1) (congrArg (fill B.s2 B.p2) (congrArg (fill B.s3 B.p3) ?_)))
    exact Prog.bind_assoc _ _ _
  · rfl

theorem even_bind {α β : Type} (B : Bufs) (i : grid0.Coords) (k : Pg F α) (f : α → Pg F β) :
    (even B i k).bind f = even B i (k.bind f) := by
  unfold even
  split
  · exact steps_bind B i B.w0 B.w1 B.hw1 k f
  · rfl

/-- The printed body is the compact program. -/
theorem body_eq (B : Bufs) (i : grid0.Coords) :
    cc0_dequant_matmul (F := F) i B.x B.hx B.q B.hq B.qs B.hqs B.qz B.hqz B.s0 B.hs0 B.s1 B.hs1 B.s2 B.hs2 B.s3 B.hs3 B.tb B.htb B.y B.hy B.w0 B.hw0 B.w1 B.hw1 B.p0 B.hp0 B.p1 B.hp1 B.p2 B.hp2 B.p3 B.hp3 = body B i := by
  refine (congrArg (fun p => Prog.bind p _) (part_eq B i)).trans ?_
  refine (first_bind B i _ _).trans (congrArg (first B i) ?_)
  refine (even_bind B i _ _).trans (congrArg (even B i) ?_)
  sl_kernel_rfl

end Cert.Kernel.Hand

end
-- ==== Proof.Kernel.Frame.lean ====
/-
  The run: what the two weight buffers and the widened scales hold between grid points, the obligation of the
  body at every point, and from them the run of the whole program: the arguments end as they began, every
  semaphore ends at zero, and the result array holds the blocks the body leaves.
-/
module

public import proofs.«01_k».proof.Proof.Kernel.Steps
public import proofs.«01_k».proof.Proof.Kernel.Printed
public import Idealize.ShloMosaic.Lib.Pipeline.ValueKit.Geometry
public import Idealize.ShloMosaic.Lib.Pointwise.Index
public import Idealize.ShloMosaic.Lib.Pointwise.Reshape

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays -/

/-- What the groups' values are made of, from the argument arrays. -/
def roOf (c : Dev nD) : Ro F where
  q := V m c main_arg1
  qs := V m c main_arg2
  qz := V m c main_arg3
  tb := V m c main_arg8
  p0 := widen (V m c main_arg4)
  p1 := widen (V m c main_arg5)
  p2 := widen (V m c main_arg6)
  p3 := widen (V m c main_arg7)

theorem idx1 : ∀ t : Fin cfg0.N, win0_1.index t = ![0, 0, 0] :=
  (by decide +kernel : ∀ t : Fin grid0.N, win0_1.index t = ![0, 0, 0])
theorem iblk1 (c : Dev nD) (t : Fin cfg0.N) : iblk m c 1 t = V m c main_arg1 := by
  funext x
  blk_ext [iblk, V, idx1 t]
theorem idx2 : ∀ t : Fin cfg0.N, win0_2.index t = ![0, 0, 0] :=
  (by decide +kernel : ∀ t : Fin grid0.N, win0_2.index t = ![0, 0, 0])
theorem iblk2 (c : Dev nD) (t : Fin cfg0.N) : iblk m c 2 t = V m c main_arg2 := by
  funext x
  blk_ext [iblk, V, idx2 t]
theorem idx3 : ∀ t : Fin cfg0.N, win0_3.index t = ![0, 0, 0] :=
  (by decide +kernel : ∀ t : Fin grid0.N, win0_3.index t = ![0, 0, 0])
theorem iblk3 (c : Dev nD) (t : Fin cfg0.N) : iblk m c 3 t = V m c main_arg3 := by
  funext x
  blk_ext [iblk, V, idx3 t]
theorem idx4 : ∀ t : Fin cfg0.N, win0_4.index t = ![0, 0] :=
  (by decide +kernel : ∀ t : Fin grid0.N, win0_4.index t = ![0, 0])
theorem iblk4 (c : Dev nD) (t : Fin cfg0.N) : iblk m c 4 t = V m c main_arg4 := by
  funext x
  blk_ext [iblk, V, idx4 t]
theorem idx5 : ∀ t : Fin cfg0.N, win0_5.index t = ![0, 0] :=
  (by decide +kernel : ∀ t : Fin grid0.N, win0_5.index t = ![0, 0])
theorem iblk5 (c : Dev nD) (t : Fin cfg0.N) : iblk m c 5 t = V m c main_arg5 := by
  funext x
  blk_ext [iblk, V, idx5 t]
theorem idx6 : ∀ t : Fin cfg0.N, win0_6.index t = ![0, 0] :=
  (by decide +kernel : ∀ t : Fin grid0.N, win0_6.index t = ![0, 0])
theorem iblk6 (c : Dev nD) (t : Fin cfg0.N) : iblk m c 6 t = V m c main_arg6 := by
  funext x
  blk_ext [iblk, V, idx6 t]
theorem idx7 : ∀ t : Fin cfg0.N, win0_7.index t = ![0, 0] :=
  (by decide +kernel : ∀ t : Fin grid0.N, win0_7.index t = ![0, 0])
theorem iblk7 (c : Dev nD) (t : Fin cfg0.N) : iblk m c 7 t = V m c main_arg7 := by
  funext x
  blk_ext [iblk, V, idx7 t]
theorem idx8 : ∀ t : Fin cfg0.N, win0_8.index t = ![0, 0, 0, 0] :=
  (by decide +kernel : ∀ t : Fin grid0.N, win0_8.index t = ![0, 0, 0, 0])
theorem iblk8 (c : Dev nD) (t : Fin cfg0.N) : iblk m c 8 t = V m c main_arg8 := by
  funext x
  blk_ext [iblk, V, idx8 t]

theorem coord0_eq : ∀ t : Fin grid0.N, (grid0.coords t 0).val = t.val / 8 := by decide +kernel
theorem coord1_eq : ∀ t : Fin grid0.N, (grid0.coords t 1).val = t.val % 8 := by decide +kernel

/-! ## The proof data -/

/-- The buffers at a grid point. -/
def bufs (t : Fin cfg0.N) : Bufs where
  x := win0_0.stage (cfg0.slots t 0)
  hx := hstage0_0 ((cfg0.slots t 0).cast nbuf0_0)
  q := win0_1.stage (cfg0.slots t 1)
  hq := hstage0_1 ((cfg0.slots t 1).cast nbuf0_1)
  qs := win0_2.stage (cfg0.slots t 2)
  hqs := hstage0_2 ((cfg0.slots t 2).cast nbuf0_2)
  qz := win0_3.stage (cfg0.slots t 3)
  hqz := hstage0_3 ((cfg0.slots t 3).cast nbuf0_3)
  s0 := win0_4.stage (cfg0.slots t 4)
  hs0 := hstage0_4 ((cfg0.slots t 4).cast nbuf0_4)
  s1 := win0_5.stage (cfg0.slots t 5)
  hs1 := hstage0_5 ((cfg0.slots t 5).cast nbuf0_5)
  s2 := win0_6.stage (cfg0.slots t 6)
  hs2 := hstage0_6 ((cfg0.slots t 6).cast nbuf0_6)
  s3 := win0_7.stage (cfg0.slots t 7)
  hs3 := hstage0_7 ((cfg0.slots t 7).cast nbuf0_7)
  tb := win0_8.stage (cfg0.slots t 8)
  htb := hstage0_8 ((cfg0.slots t 8).cast nbuf0_8)
  y := win0_9.stage (cfg0.slots t 9)
  hy := hstage0_9 ((cfg0.slots t 9).cast nbuf0_9)
  w0 := Memref.whole cc0_scratch0
  hw0 := Memref.isWhole_whole _
  w1 := Memref.whole cc0_scratch1
  hw1 := Memref.isWhole_whole _
  p0 := Memref.whole cc0_scratch2
  hp0 := Memref.isWhole_whole _
  p1 := Memref.whole cc0_scratch3
  hp1 := Memref.isWhole_whole _
  p2 := Memref.whole cc0_scratch4
  hp2 := Memref.isWhole_whole _
  p3 := Memref.whole cc0_scratch5
  hp3 := Memref.isWhole_whole _

/-- What the scratch buffers hold between grid points: anything before the first and after the last, else the
    widened scales, and the weight buffers of the point to come. -/
def Inv (c : Dev nD) (t : Nat) : sProp 𝕄 :=
  if h : t ≠ 0 ∧ t < 72 then
    iprop(owns (c : Thread nD τ) (Memref.whole cc0_scratch2 : Memref sig .tc .vmem S2x432x128 .f32) fullShare (roOf m c).p0
      ∗ owns (c : Thread nD τ) (Memref.whole cc0_scratch3 : Memref sig .tc .vmem S2x432x128 .f32) fullShare (roOf m c).p1
      ∗ owns (c : Thread nD τ) (Memref.whole cc0_scratch4 : Memref sig .tc .vmem S2x432x128 .f32) fullShare (roOf m c).p2
      ∗ owns (c : Thread nD τ) (Memref.whole cc0_scratch5 : Memref sig .tc .vmem S2x432x128 .f32) fullShare (roOf m c).p3
      ∗ wOwn c (Memref.whole cc0_scratch0) (Memref.whole cc0_scratch1) (roOf m c) (t / 8) (by omega) (3 * (t % 8))
      ∗ ∃ r, prngReg c r)
  else Pipeline.ΦA spec0 c

theorem Inv_out (c : Dev nD) (t : Nat) (h : ¬ (t ≠ 0 ∧ t < 72)) : Inv m c t = Pipeline.ΦA spec0 c := dif_neg h

/-- What the body leaves in the result's block at a grid point: the input's block times the weight's block. -/
def outAt (c : Dev nD) (t : Fin cfg0.N) : S1024x768.Idx → Elt F .bf16 :=
  yBlk (iblk m c 0 t) (wBlk (roOf m c) (grid0.coords t 0).val (coord0_lt _))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem bodyAt_eq (t : Fin cfg0.N) : bodyAt0 (F := F) t = body (bufs t) (grid0.coords t) :=
  body_eq (bufs t) (grid0.coords t)

/-- The scratch buffers, each at some contents. -/
theorem scratch_eq (c : Dev nD) :
    (Pipeline.scopedRest (Ix := Unit) (Name := ℕ) (U := UR sig nD τ) (Lvl := ℕ) (Val := Elt F) spec0 c : sProp 𝕄) = iprop((∃ X, owns (c : Thread nD τ) (Memref.whole cc0_scratch0 : Memref sig .tc .vmem S768x2560 .bf16) fullShare X)
      ∗ (∃ X, owns (c : Thread nD τ) (Memref.whole cc0_scratch1 : Memref sig .tc .vmem S768x2560 .bf16) fullShare X)
      ∗ (∃ X, owns (c : Thread nD τ) (Memref.whole cc0_scratch2 : Memref sig .tc .vmem S2x432x128 .f32) fullShare X)
      ∗ (∃ X, owns (c : Thread nD τ) (Memref.whole cc0_scratch3 : Memref sig .tc .vmem S2x432x128 .f32) fullShare X)
      ∗ (∃ X, owns (c : Thread nD τ) (Memref.whole cc0_scratch4 : Memref sig .tc .vmem S2x432x128 .f32) fullShare X)
      ∗ (∃ X, owns (c : Thread nD τ) (Memref.whole cc0_scratch5 : Memref sig .tc .vmem S2x432x128 .f32) fullShare X)) := by
  rw [scopedRest0_eq]
  simp only [owns_whole]

/-- The scratch buffers at anything, from the invariant's form. -/
theorem anyW (c : Dev nD) (D : Ro F) (n : Nat) (hn : n < 9) (k : Nat) :
    (wOwn c (Memref.whole cc0_scratch0) (Memref.whole cc0_scratch1) D n hn k : sProp 𝕄)
      ⊢ iprop((∃ X, owns (c : Thread nD τ) (Memref.whole cc0_scratch0 : Memref sig .tc .vmem S768x2560 .bf16) fullShare X) ∗ (∃ X, owns (c : Thread nD τ) (Memref.whole cc0_scratch1 : Memref sig .tc .vmem S768x2560 .bf16) fullShare X)) := by
  unfold wOwn
  by_cases h : n % 2 = 0
  · rw [if_pos h, if_pos h]
    iintro ⟨%Z, A, C⟩
    isplitl [A]; · iexists _; iexact A
    iexists _; iexact C
  · rw [if_neg h, if_neg h]
    iintro ⟨%Z, A, C⟩
    isplitl [C]; · iexists _; iexact C
    iexists _; iexact A

/-- The invariant after a point, from what the body leaves. -/
theorem inv_succ (c : Dev nD) (t : Fin cfg0.N) :
    (iprop(owns (c : Thread nD τ) (Memref.whole cc0_scratch2 : Memref sig .tc .vmem S2x432x128 .f32) fullShare (roOf m c).p0
      ∗ owns (c : Thread nD τ) (Memref.whole cc0_scratch3 : Memref sig .tc .vmem S2x432x128 .f32) fullShare (roOf m c).p1
      ∗ owns (c : Thread nD τ) (Memref.whole cc0_scratch4 : Memref sig .tc .vmem S2x432x128 .f32) fullShare (roOf m c).p2
      ∗ owns (c : Thread nD τ) (Memref.whole cc0_scratch5 : Memref sig .tc .vmem S2x432x128 .f32) fullShare (roOf m c).p3
      ∗ wOwn c (Memref.whole cc0_scratch0) (Memref.whole cc0_scratch1) (roOf m c) (grid0.coords t 0).val (coord0_lt _) (3 * (grid0.coords t 1).val + 3)
      ∗ ∃ r, prngReg c r) : sProp 𝕄) ⊢ Inv m c (t.val + 1) := by
  have e0 := coord0_eq t
  have e1 := coord1_eq t
  have ht : t.val < 72 := t.isLt
  have key : ∀ n (hn : n < 9) k n' (hn' : n' < 9) k', n = n' → k = k' →
      (wOwn c (Memref.whole cc0_scratch0) (Memref.whole cc0_scratch1) (roOf m c) n hn k : sProp 𝕄) ⊢ wOwn c (Memref.whole cc0_scratch0) (Memref.whole cc0_scratch1) (roOf m c) n' hn' k' := by
    intro n hn k n' hn' k' a b
    subst a b
    exact .rfl
  unfold Inv
  by_cases h : t.val + 1 < 72
  · rw [dif_pos ⟨by omega, h⟩]
    iintro ⟨P0, P1, P2, P3, W, R⟩
    isplitl [P0]; · iexact P0
    isplitl [P1]; · iexact P1
    isplitl [P2]; · iexact P2
    isplitl [P3]; · iexact P3
    isplitl [W]
    · by_cases h7 : t.val % 8 = 7
      · iapply (key (t.val / 8 + 1) (by omega) 0 ((t.val + 1) / 8) _ (3 * ((t.val + 1) % 8)) (by omega) (by omega))
        iapply (wOwn_next c _ _ (roOf m c) (t.val / 8) (by omega) _)
        iapply (key (grid0.coords t 0).val (coord0_lt _) (3 * (grid0.coords t 1).val + 3) (t.val / 8) _ 24 e0 (by omega))
        iexact W
      · iapply (key (grid0.coords t 0).val (coord0_lt _) (3 * (grid0.coords t 1).val + 3) ((t.val + 1) / 8) _ (3 * ((t.val + 1) % 8)) (by omega) (by omega))
        iexact W
    iexact R
  · rw [dif_neg (by omega)]
    unfold Pipeline.ΦA
    rw [scratch_eq]
    iintro ⟨P0, P1, P2, P3, W, R⟩
    ihave W := (anyW c (roOf m c) _ _ _) $$ W
    icases W with ⟨⟨%W0, W0⟩, ⟨%W1, W1⟩⟩
    isplitl [P0 P1 P2 P3 W0 W1]
    · isplitl [W0]; · iexists _; iexact W0
      isplitl [W1]; · iexists _; iexact W1
      isplitl [P0]; · iexists _; iexact P0
      isplitl [P1]; · iexists _; iexact P1
      isplitl [P2]; · iexists _; iexact P2
      iexists _; iexact P3
    iexact R

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  rw [show (dats m 0 c).Φ t.succ = Inv m c (t.val + 1) from rfl, show (dats m 0 c).Φ t.castSucc = Inv m c t.val from rfl]
  rw [show (dats m 0 c).owesAt () t.succ = (dats m 0 c).owesAt () t.castSucc from rfl]
  rw [after0_0, after0_1, after0_2, after0_3, after0_4, after0_5, after0_6, after0_7, after0_8, after0_9]
  simp only [before0_0, before0_1, before0_2, before0_3, before0_4, before0_5, before0_6, before0_7, before0_8]
  rw [iblk1, iblk2, iblk3, iblk4, iblk5, iblk6, iblk7, iblk8]
  unfold outAt
  by_cases h0 : t.val = 0
  · have hi : (grid0.coords t 0).val = 0 ∧ (grid0.coords t 1).val = 0 := by
      rw [coord0_eq, coord1_eq, h0]; exact ⟨rfl, rfl⟩
    rw [show Inv m c t.val = Pipeline.ΦA spec0 c from dif_neg (by omega)]
    unfold Pipeline.ΦA
    rw [scratch_eq]
    iintro ⟨⟨⟨S0, S1, S2, S3, S4, S5⟩, R⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (bufs t) (roOf m c) (grid0.coords t) hi (V m c main_arg4) (V m c main_arg5) (V m c main_arg6) (V m c main_arg7) rfl rfl rfl rfl (iblk m c 0 t) ((dats m 0 c).before 9 t d9) _)
    isplitl [H1]; · iexact H1
    isplitl [H2]; · iexact H2
    isplitl [H3]; · iexact H3
    isplitl [H8]; · iexact H8
    isplitl [H4]; · iexact H4
    isplitl [H5]; · iexact H5
    isplitl [H6]; · iexact H6
    isplitl [H7]; · iexact H7
    isplitl [S2]; · iexact S2
    isplitl [S3]; · iexact S3
    isplitl [S4]; · iexact S4
    isplitl [S5]; · iexact S5
    isplitl [S0]; · iexact S0
    isplitl [S1]; · iexact S1
    isplitl [H0]; · iexact H0
    isplitl [H9]; · iexact H9
    iintro H4 H5 H6 H7 RO H0 W H9
    unfold roOwn
    icases RO with ⟨H1, H2, H3, H8, P0, P1, P2, P3⟩
    isplitl [P0 P1 P2 P3 W R]
    · iapply (inv_succ m c t)
      isplitl [P0]; · iexact P0
      isplitl [P1]; · iexact P1
      isplitl [P2]; · iexact P2
      isplitl [P3]; · iexact P3
      isplitl [W]; · iexact W
      iexact R
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have ht : t.val < 72 := t.isLt
    have e0 := coord0_eq t
    have e1 := coord1_eq t
    have key : ∀ n (hn : n < 9) k n' (hn' : n' < 9) k', n = n' → k = k' →
        (wOwn c (Memref.whole cc0_scratch0) (Memref.whole cc0_scratch1) (roOf m c) n hn k : sProp 𝕄) ⊢ wOwn c (Memref.whole cc0_scratch0) (Memref.whole cc0_scratch1) (roOf m c) n' hn' k' := by
      intro n hn k n' hn' k' a b
      subst a b
      exact .rfl
    rw [show Inv m c t.val = _ from dif_pos ⟨h0, ht⟩]
    iintro ⟨⟨P0, P1, P2, P3, W, R⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (bufs t) (roOf m c) (grid0.coords t) (by omega) (iblk m c 0 t) ((dats m 0 c).before 9 t d9) _)
    isplitl [H1 H2 H3 H8 P0 P1 P2 P3]
    · unfold roOwn
      isplitl [H1]; · iexact H1
      isplitl [H2]; · iexact H2
      isplitl [H3]; · iexact H3
      isplitl [H8]; · iexact H8
      isplitl [P0]; · iexact P0
      isplitl [P1]; · iexact P1
      isplitl [P2]; · iexact P2
      iexact P3
    isplitl [H0]; · iexact H0
    isplitl [W]
    · iapply (key (t.val / 8) (by omega) (3 * (t.val % 8)) (grid0.coords t 0).val (coord0_lt _) (3 * (grid0.coords t 1).val) e0.symm (by omega))
      iexact W
    isplitl [H9]; · iexact H9
    iintro RO H0 W H9
    unfold roOwn
    icases RO with ⟨H1, H2, H3, H8, P0, P1, P2, P3⟩
    isplitl [P0 P1 P2 P3 W R]
    · iapply (inv_succ m c t)
      isplitl [P0]; · iexact P0
      isplitl [P1]; · iexact P1
      isplitl [P2]; · iexact P2
      isplitl [P3]; · iexact P3
      isplitl [W]; · iexact W
      iexact R
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem idle9 (t : Fin cfg0.N) : idle0 9 (grid0.coords t) = false :=
  (by decide +kernel : ∀ t : Fin grid0.N, idle0 9 (grid0.coords t) = false) t

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  simp only []
  rw [idle9 t]
  exact .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by change _ ⊢ Inv m c 0; rw [Inv_out m c 0 (by omega)])
    (hout := fun c => by change Inv m c 72 ⊢ _; rw [Inv_out m c 72 (by omega)])

/-- The run ends with every argument as it began and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4)),
    ((h.1 c).1 5).trans (((dats m 0 c).arrAt_in 5 rfl _).trans (A_eq m c 5)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8))⟩, h.2⟩) (run_main m ρ)

end Cert.Kernel.Hand

end
-- ==== Proof.KernelIdeal.Group.lean ====
/-
  The dequantisation of one group of 32 weight rows, written once over the group's number and the row of
  the weight buffer it goes to: the values of its 40 blocks of 16 rows by 128 columns as pure functions of
  what it loads, and the program that loads them and stores the blocks. `Body.lean` shows that the printed
  kernel body is seven uses of this program.
-/
module

public import proofs.«01_k».proof.Proof.Gen.KernelIdeal
public import Idealize.ShloMosaic.Lib.Tactic

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-! ## The values -/

/-- The three bit planes' bit number `field` of each byte, put together into codes 0 to 7, four bytes a word. -/
def codes {S : Shape} (field : BitVec 32) (a b c : IVec S 32) : IVec S 32 :=
  ori (ori (andi (shrui a (broadcast S field)) (broadcast S 16843009#32))
      (shli (andi (shrui b (broadcast S field)) (broadcast S 16843009#32)) (broadcast S 1#32)))
    (shli (andi (shrui c (broadcast S field)) (broadcast S 16843009#32)) (broadcast S 2#32))

/-- 32 rows of 128 bytes as 8 rows of words. -/
def pack (v : Vec F S1x32x128 .i8) : IVec S8x128 32 :=
  bitcast S8x128 32 (shapeCast S32x128 v shapeCasts_S1x32x128_S32x128 : IVec S32x128 8) bitcasts_S32x128_w8_S8x128_w32

/-- The codes of a tile of 32 rows by 128 columns, as floats. -/
def codeTile (field : BitVec 32) (a b c : Vec F S1x32x128 .i8) : FVec F S32x128 .bf16 :=
  sitofp .bf16 (bitcast S32x128 8 (codes field (pack (F := F) a) (pack (F := F) b) (pack (F := F) c)) bitcasts_S8x128_w32_S32x128_w8)

/-- 32 rows of 32 bytes as 8 rows of words. -/
def pack32 (v : Vec F S1x32x32 .i8) : IVec S8x32 32 :=
  bitcast S8x32 32 (shapeCast S32x32 v shapeCasts_S1x32x32_S32x32 : IVec S32x32 8) bitcasts_S32x32_w8_S8x32_w32

/-- The codes of a tile of 32 rows by 32 columns, with 96 columns of zeros after them, as floats. -/
def codeTail (field : BitVec 32) (a b c : Vec F S1x32x32 .i8) : FVec F S32x128 .bf16 :=
  sitofp .bf16 (bitcast S32x128 8 (concatenate S8x128 1 [⟨S8x32, codes field (pack32 (F := F) a) (pack32 (F := F) b) (pack32 (F := F) c)⟩,
    ⟨S8x96, (broadcast S8x96 0#32 : IVec S8x96 32)⟩] concatenates_S8x32_S8x96_S8x128_d1 : IVec S8x128 32) bitcasts_S8x128_w32_S32x128_w8)

/-- A row of scales over 16 rows. -/
def rowBc (v : Vec F S1x1x128 .f32) : FVec F S16x128 .bf16 :=
  truncf .bf16 (broadcastTo S16x128 (shapeCast S1x128 (shapeCast S1x128 v shapeCasts_S1x1x128_S1x128 : FVec F S1x128 .f32)
    shapeCasts_S1x128_S1x128 : FVec F S1x128 .f32) broadcasts_S1x128_S16x128 : FVec F S16x128 .f32) bitsLt_bf16_f32

/-- Rows 0 to 15 (`cell = 0`) or 16 to 31 of a tile of 32 rows. -/
def half16 (cell : Nat) (v : FVec F S32x128 .bf16) : FVec F S16x128 .bf16 :=
  match cell with
  | 0 => extractStridedSlice S16x128 ![0, 0] v slices_S32x128_o0_0_S16x128
  | _ + 1 => extractStridedSlice S16x128 ![16, 0] v slices_S32x128_o16_0_S16x128

/-- The second level: (code − zero) · scale of one cell of 16 rows. -/
def lev (cell : Nat) (code : FVec F S32x128 .bf16) (zr sc : Vec F S1x1x128 .f32) : FVec F S16x128 .f32 :=
  extf .f32 (mulf (subf (half16 cell code) (rowBc zr)) (rowBc sc)) bitsLt_bf16_f32

/-- The two outlier tables of a group, joined. -/
def tab (a b : Vec F S1x1x8x128 .i32) : IVec S8x128 32 :=
  ori (shapeCast S8x128 a shapeCasts_S1x1x8x128_S8x128 : IVec S8x128 32) (shapeCast S8x128 b shapeCasts_S1x1x8x128_S8x128 : IVec S8x128 32)

/-- The column of each lane within its tile. -/
def lane8 : IVec S8x128 32 := iota .tc S8x128 32 [1] iota_S8x128_d1_w32
/-- The row of each lane within its eight. -/
def sub8 : IVec S8x128 32 := iota .tc S8x128 32 [0] iota_S8x128_d0_w32
/-- The column group of each lane within its tile. -/
def grp16 : IVec S16x128 32 := shrui (iota .tc S16x128 32 [1] iota_S16x128_d1_w32 : IVec S16x128 32) (broadcast S16x128 4#32)

/-- 85 times the row number of each lane of the eight rows from `8 a` on (`a8 = 8 a`) of group `g`. -/
def row85 (g a8 : BitVec 32) : IVec S8x128 32 :=
  muli (addi sub8 (broadcast S8x128 (Scalar.addi (Scalar.muli 32#32 g) a8))) (broadcast S8x128 85#32)

/-- The first column tile's outlier slots before rounding, of the eight rows from `a8` on. -/
def slotBase (g a8 : BitVec 32) : FVec F S8x128 .f32 :=
  subf (mulf (addf (sitofp .f32 (addi (subi (row85 g a8)
      (muli (fptosi 32 (mulf (addf (sitofp .f32 (row85 g a8)) (broadcast S8x128 (Scalar.ofBits .f32 0x3F000000#32 : F .f32)))
        (broadcast S8x128 (Scalar.ofBits .f32 0x3C257EB5#32 : F .f32)))) (broadcast S8x128 99#32))) lane8))
    (broadcast S8x128 (Scalar.ofBits .f32 0x3F000000#32 : F .f32))) (broadcast S8x128 (Scalar.ofBits .f32 0x3C257EB5#32 : F .f32)))
    (broadcast S8x128 (Scalar.ofBits .f32 0x3F000000#32 : F .f32))

/-- `128 t / 99 + 32 a` in single precision, of column tile `t` and eight rows `a`. -/
def slotC : Nat → Fin 4 → BitVec 32
  | 0 => ![0x00000000#32, 0x42000000#32, 0x42800000#32, 0x42C00000#32]
  | 1 => ![0x3FA57EB5#32, 0x42052BF6#32, 0x428295FB#32, 0x42C295FB#32]
  | 2 => ![0x40257EB5#32, 0x420A57EB#32, 0x42852BF6#32, 0x42C52BF6#32]
  | 3 => ![0x40783E10#32, 0x420F83E1#32, 0x4287C1F0#32, 0x42C7C1F0#32]
  | 4 => ![0x40A57EB5#32, 0x4214AFD7#32, 0x428A57EB#32, 0x42CA57EB#32]
  | 5 => ![0x40CEDE62#32, 0x4219DBCC#32, 0x428CEDE6#32, 0x42CCEDE6#32]
  | 6 => ![0x40F83E10#32, 0x421F07C2#32, 0x428F83E1#32, 0x42CF83E1#32]
  | 7 => ![0x4110CEDE#32, 0x422433B8#32, 0x429219DC#32, 0x42D219DC#32]
  | 8 => ![0x41257EB5#32, 0x42295FAD#32, 0x4294AFD7#32, 0x42D4AFD7#32]
  | 9 => ![0x413A2E8C#32, 0x422E8BA3#32, 0x429745D1#32, 0x42D745D1#32]
  | 10 => ![0x414EDE62#32, 0x4233B799#32, 0x4299DBCC#32, 0x42D9DBCC#32]
  | 11 => ![0x41638E39#32, 0x4238E38E#32, 0x429C71C7#32, 0x42DC71C7#32]
  | 12 => ![0x41783E10#32, 0x423E0F84#32, 0x429F07C2#32, 0x42DF07C2#32]
  | 13 => ![0x418676F3#32, 0x42433B7A#32, 0x42A19DBD#32, 0x42E19DBD#32]
  | 14 => ![0x4190CEDE#32, 0x4248676F#32, 0x42A433B8#32, 0x42E433B8#32]
  | 15 => ![0x419B26CA#32, 0x424D9365#32, 0x42A6C9B2#32, 0x42E6C9B2#32]
  | 16 => ![0x41A57EB5#32, 0x4252BF5B#32, 0x42A95FAD#32, 0x42E95FAD#32]
  | 17 => ![0x41AFD6A0#32, 0x4257EB50#32, 0x42ABF5A8#32, 0x42EBF5A8#32]
  | 18 => ![0x41BA2E8C#32, 0x425D1746#32, 0x42AE8BA3#32, 0x42EE8BA3#32]
  | 19 => ![0x41C48677#32, 0x4262433B#32, 0x42B1219E#32, 0x42F1219E#32]
  | _ => ![0#32, 0#32, 0#32, 0#32]

/-- An index along the lanes taken from the end when negative. -/
def wrap16 (v : IVec S16x128 32) : IVec S16x128 32 :=
  shapeCast S16x128 (shapeCast S16x128x1 (select (cmpi .slt v (broadcast S16x128 0#32)) (addi v (broadcast S16x128 128#32)) v : IVec S16x128 32)
    shapeCasts_S16x128_S16x128x1 : IVec S16x128x1 32) shapeCasts_S16x128x1_S16x128
def wrap8 (v : IVec S8x128 32) : IVec S8x128 32 :=
  shapeCast S8x128 (shapeCast S8x128x1 (select (cmpi .slt v (broadcast S8x128 0#32)) (addi v (broadcast S8x128 128#32)) v : IVec S8x128 32)
    shapeCasts_S8x128_S8x128x1 : IVec S8x128x1 32) shapeCasts_S8x128x1_S8x128

/-- The second level's value for each lane's column group in column tile `t`. -/
def gat (t : Nat) (s : FVec F S16x128 .f32) : FVec F S16x128 .bf16 :=
  truncf .bf16 (dynamicGather 1 s (wrap16 (addi grp16 (broadcast S16x128 (BitVec.ofNat 32 (8 * t % 128)))))) bitsLt_bf16_f32

/-- The outliers of the eight rows `a` in column tile `t`: the table's word at the lane's slot, its high half a
    float where its low half is the lane's column, else zero. -/
def outl (t : Nat) (a : Fin 4) (table : IVec S8x128 32) (base : FVec F S8x128 .f32) : FVec F S8x128 .f32 :=
  bitcastToFloat .f32 (select
    (cmpi .eq (andi (dynamicGather 1 table (wrap8 (fptosi 32 (roundeven (addf base (broadcast S8x128 (Scalar.ofBits .f32 (slotC t a) : F .f32)))))))
      (broadcast S8x128 65535#32)) (addi lane8 (broadcast S8x128 (BitVec.ofNat 32 (128 * t)))))
    (andi (dynamicGather 1 table (wrap8 (fptosi 32 (roundeven (addf base (broadcast S8x128 (Scalar.ofBits .f32 (slotC t a) : F .f32)))))))
      (broadcast S8x128 4294901760#32))
    (broadcast S8x128 0#32) : IVec S8x128 32)

/-- A block of 16 rows by 128 columns of the weight: (code − z) · s plus the outliers. -/
def blockVal (t cell : Nat) (a a' : Fin 4) (code : FVec F S32x128 .bf16) (s z : FVec F S16x128 .f32) (table : IVec S8x128 32)
    (b b' : FVec F S8x128 .f32) : FVec F S16x128 .bf16 :=
  addf (mulf (subf (half16 cell code) (gat t z)) (gat t s))
    (truncf .bf16 (concatenate S16x128 0 [⟨S8x128, outl t a table b⟩, ⟨S8x128, outl t a' table b'⟩]
      concatenates_S8x128_S8x128_S16x128_d0 : FVec F S16x128 .f32) bitsLt_bf16_f32)

/-- The first second-level tile for the first 16 column tiles, the second for the rest. -/
def pick (n : Nat) (x y : FVec F S16x128 .f32) : FVec F S16x128 .f32 :=
  match n with
  | 0 => x
  | _ + 1 => y

/-! ## The program -/

/-- The field (the bit number) of group `g`. -/
def fieldOf (g : BitVec 32) : BitVec 32 := Scalar.divsi g 27#32
/-- The row of the bit planes at which group `g` begins. -/
def rowOf (g : BitVec 32) : BitVec 32 := Scalar.muli (Scalar.subi g (Scalar.muli (Scalar.divsi g 27#32) 27#32)) 32#32

/-- A group's number is one of 216. -/
def GOK (g : BitVec 32) : Prop := ∃ n, n < 216 ∧ g = BitVec.ofNat 32 n
/-- A weight buffer's row that begins a group: one of 24 multiples of 32. -/
def WOK (w : BitVec 32) : Prop := ∃ n, n < 24 ∧ w = BitVec.ofNat 32 (32 * n)

theorem rowOf_nat : ∀ n < 216, (Scalar.indexCast (rowOf (BitVec.ofNat 32 n))).toNat = 32 * (n % 27) := by decide +kernel
theorem cell_nat : ∀ n < 216, ∀ c < 2,
    (Scalar.indexCast (Scalar.addi (Scalar.muli 2#32 (BitVec.ofNat 32 n)) (BitVec.ofNat 32 c))).toNat = 2 * n + c := by decide +kernel
theorem tab_nat : ∀ n < 216, (Scalar.indexCast (BitVec.ofNat 32 n)).toNat = n := by decide +kernel
theorem wrow_nat : ∀ n < 24, ∀ c < 2,
    (Scalar.indexCast (Scalar.addi (BitVec.ofNat 32 (32 * n)) (BitVec.ofNat 32 (16 * c)))).toNat = 32 * n + 16 * c := by decide +kernel

/-- Where a tile of a bit plane is loaded from. -/
abbrev qOff (g : BitVec 32) (p col : Nat) : Fin 3 → Nat := ![p, (Scalar.indexCast (rowOf g)).toNat, col]
/-- Where a row of scales is loaded from. -/
abbrev pOff (g : BitVec 32) (h c : Nat) : Fin 3 → Nat :=
  ![h, (Scalar.indexCast (Scalar.addi (Scalar.muli 2#32 g) (BitVec.ofNat 32 c))).toNat, 0]
/-- Where a group's outlier table is loaded from. -/
abbrev tOff (g : BitVec 32) (h : Nat) : Fin 4 → Nat := ![h, (Scalar.indexCast g).toNat, 0, 0]
/-- Where a block of the weight goes. -/
abbrev wOff (w : BitVec 32) (c col : Nat) : Fin 2 → Nat :=
  ![(Scalar.indexCast (Scalar.addi w (BitVec.ofNat 32 (16 * c)))).toNat, col]

theorem qOff_inb {g : BitVec 32} (hg : GOK g) (p t : Nat) (hp : p < 3) (ht : t < 20) :
    ∀ a, qOff g p (128 * t) a + S1x32x128.size a ≤ S3x864x2560.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 128 * t + 128 ≤ 2560; omega
theorem sOff_inb {g : BitVec 32} (hg : GOK g) (p : Nat) (hp : p < 3) :
    ∀ a, qOff g p 0 a + S1x32x128.size a ≤ S3x864x160.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 0 + 128 ≤ 160; omega
theorem sOff'_inb {g : BitVec 32} (hg : GOK g) (p : Nat) (hp : p < 3) :
    ∀ a, qOff g p 128 a + S1x32x32.size a ≤ S3x864x160.size a := by
  obtain ⟨n, hn, rfl⟩ := hg
  have h := rowOf_nat n hn
  intro a
  fin_cases a
  · show p + 1 ≤ 3; omega
  · show (Scalar.indexCast (rowOf (BitVec.ofNat 32 n))).toNat + 32 ≤ 864; omega
  · show 128 + 32 ≤ 160; omega
theorem pOff_inb {g : BitVec 32} (hg : GOK g) (h c : Nat) (hh : h < 2) (hc : c < 2) :
    ∀ a, pOff g h c a + S1x1x128.size a ≤ S2x432x128.size a := by
  obtain ⟨n, hn, rfl⟩ := hg
  have h2 := cell_nat n hn c hc
  intro a
  fin_cases a
  · show h + 1 ≤ 2; omega
  · show (Scalar.indexCast (Scalar.addi (Scalar.muli 2#32 (BitVec.ofNat 32 n)) (BitVec.ofNat 32 c))).toNat + 1 ≤ 432; omega
  · show 0 + 128 ≤ 128; omega
theorem tOff_inb {g : BitVec 32} (hg : GOK g) (h : Nat) (hh : h < 2) :
    ∀ a, tOff g h a + S1x1x8x128.size a ≤ S2x216x8x128.size a := by
  obtain ⟨n, hn, rfl⟩ := hg
  have h2 := tab_nat n hn
  intro a
  fin_cases a
  · show h + 1 ≤ 2; omega
  · show (Scalar.indexCast (BitVec.ofNat 32 n)).toNat + 1 ≤ 216; omega
  · show 0 + 8 ≤ 8; omega
  · show 0 + 128 ≤ 128; omega
theorem wOff_inb {w : BitVec 32} (hw : WOK w) (c t : Nat) (hc : c < 2) (ht : t < 20) :
    ∀ a, wOff w c (128 * t) a + S16x128.size a ≤ S768x2560.size a := by
  obtain ⟨n, hn, rfl⟩ := hw
  have h2 := wrow_nat n hn c hc
  intro a
  fin_cases a
  · show (Scalar.indexCast (Scalar.addi (BitVec.ofNat 32 (32 * n)) (BitVec.ofNat 32 (16 * c)))).toNat + 16 ≤ 768; omega
  · show 128 * t + 128 ≤ 2560; omega

end Cert.KernelIdeal.Hand

end
-- ==== Proof.KernelIdeal.Body.lean ====
/-
  The kernel body written once more, compactly: the prologue of the first grid point, the loop that
  dequantises the first 24 groups, and the three steps of every grid point, each one group dequantised into
  one weight buffer and one block of the product from the other. The printed body is this program.
-/
module

public import proofs.«01_k».proof.Proof.KernelIdeal.Group

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-- The kernel's programs. -/
abbrev Pg (F : FTy → Type) [FloatOps F] (α : Type) := Prog (TpuEff nD τ sig (Elt F) Λ₀ .tc) α

/-- A load of a unit-stride rectangle, then the rest. -/
def ld {S : Shape} {e : EltTy} {α : Type} (m : Memref sig .tc .vmem S e) (off : Fin S.rank → Nat) (size : Fin S.rank → Nat)
    (inb : ∀ a, off a + size a ≤ S.size a) (h : 0 < (Rect.unit (s := S) off size inb).shape.numel)
    (k : ((Rect.unit (s := S) off size inb).shape.Idx → Elt F e) → Pg F α) : Pg F α :=
  .op (.load m (Rect.unit (s := S) off size inb).toLoadRect (View.loadsAt_vmem h)) k

/-- A store of a unit-stride rectangle, then the rest. -/
def st {S : Shape} {e : EltTy} {α : Type} (m : Memref sig .tc .vmem S e) (off : Fin S.rank → Nat) (size : Fin S.rank → Nat)
    (inb : ∀ a, off a + size a ≤ S.size a) (v : (Rect.unit (s := S) off size inb).shape.Idx → Elt F e)
    (h : (m.access (Rect.unit (s := S) off size inb)).Stores Finset.univ) (k : Pg F α) : Pg F α :=
  .op (.store m (Rect.unit (s := S) off size inb) v Finset.univ h (.inl rfl)) (fun _ => k)

theorem wOff_packed {w : BitVec 32} (hw : WOK w) (c t : Nat) (hc : c < 2) (ht : t < 20) :
    (Rect.unit (s := S768x2560) (wOff w c (128 * t)) S16x128.size (wOff_inb hw c t hc ht)).PackedRows (EltTy.packing .bf16) := by
  refine Affine.packed_dvd (of_decide_eq_true rfl) ?_ (by decide)
  obtain ⟨n, hn, rfl⟩ := hw
  show 2 ∣ (Scalar.indexCast (Scalar.addi (BitVec.ofNat 32 (32 * n)) (BitVec.ofNat 32 (16 * c)))).toNat
  rw [wrow_nat n hn c hc]; omega

/-- The kernel's buffers. -/
structure Bufs where
  x : Memref sig .tc .vmem S1024x2560 .bf16
  hx : x.IsWhole
  q : Memref sig .tc .vmem S3x864x2560 .i8
  hq : q.IsWhole
  qs : Memref sig .tc .vmem S3x864x160 .i8
  hqs : qs.IsWhole
  qz : Memref sig .tc .vmem S3x864x160 .i8
  hqz : qz.IsWhole
  s0 : Memref sig .tc .vmem S432x160 .bf16
  hs0 : s0.IsWhole
  s1 : Memref sig .tc .vmem S432x160 .bf16
  hs1 : s1.IsWhole
  s2 : Memref sig .tc .vmem S432x160 .bf16
  hs2 : s2.IsWhole
  s3 : Memref sig .tc .vmem S432x160 .bf16
  hs3 : s3.IsWhole
  tb : Memref sig .tc .vmem S2x216x8x128 .i32
  htb : tb.IsWhole
  y : Memref sig .tc .vmem S1024x768 .bf16
  hy : y.IsWhole
  w0 : Memref sig .tc .vmem S768x2560 .bf16
  hw0 : w0.IsWhole
  w1 : Memref sig .tc .vmem S768x2560 .bf16
  hw1 : w1.IsWhole
  p0 : Memref sig .tc .vmem S2x432x128 .f32
  hp0 : p0.IsWhole
  p1 : Memref sig .tc .vmem S2x432x128 .f32
  hp1 : p1.IsWhole
  p2 : Memref sig .tc .vmem S2x432x128 .f32
  hp2 : p2.IsWhole
  p3 : Memref sig .tc .vmem S2x432x128 .f32
  hp3 : p3.IsWhole

/-- One block of 16 rows by 128 columns stored to the weight buffer (after the load the printed program
    does of the block it overwrites). -/
def stBlock {α : Type} (w : Memref sig .tc .vmem S768x2560 .bf16) (hw : w.IsWhole) (wrow : BitVec 32) (hr : WOK wrow)
    (c t : Nat) (hc : c < 2) (ht : t < 20) (v : FVec F S16x128 .bf16) (k : Pg F α) : Pg F α :=
  ld w (wOff wrow c (128 * t)) S16x128.size (wOff_inb hr c t hc ht) h_S16x128 fun _ =>
  st w (wOff wrow c (128 * t)) S16x128.size (wOff_inb hr c t hc ht)
    (shapeCast S16x128 v shapeCasts_S16x128_S16x128 : FVec F S16x128 .bf16)
    (View.stores_vmem h_S16x128 (hw.storeExact_slice rfl _ (wOff_packed hr c t hc ht)) (fun _ => rfl)) k

/-- The column tiles `t` to 19 of a group. -/
def tiles {α : Type} (q : Memref sig .tc .vmem S3x864x2560 .i8) (w : Memref sig .tc .vmem S768x2560 .bf16) (hw : w.IsWhole)
    (g wrow : BitVec 32) (hg : GOK g) (hr : WOK wrow)
    (s z : Nat → Nat → FVec F S16x128 .f32) (table : IVec S8x128 32) (b : Fin 4 → FVec F S8x128 .f32) (k : Pg F α) :
    (fuel t : Nat) → t + fuel = 20 → Pg F α
  | 0, _, _ => k
  | n + 1, t, h =>
    ld q (qOff g 0 (128 * t)) S1x32x128.size (qOff_inb hg 0 t (by omega) (by omega)) h_S1x32x128 fun a0 =>
    ld q (qOff g 1 (128 * t)) S1x32x128.size (qOff_inb hg 1 t (by omega) (by omega)) h_S1x32x128 fun a1 =>
    ld q (qOff g 2 (128 * t)) S1x32x128.size (qOff_inb hg 2 t (by omega) (by omega)) h_S1x32x128 fun a2 =>
    stBlock w hw wrow hr 0 t (by omega) (by omega)
      (blockVal t 0 0 1 (codeTile (fieldOf g) a0 a1 a2) (s (8 * t / 128) 0) (z (8 * t / 128) 0) table (b 0) (b 1)) <|
    stBlock w hw wrow hr 1 t (by omega) (by omega)
      (blockVal t 1 2 3 (codeTile (fieldOf g) a0 a1 a2) (s (8 * t / 128) 1) (z (8 * t / 128) 1) table (b 2) (b 3)) <|
    tiles q w hw g wrow hg hr s z table b k n (t + 1) (by omega)

/-- The two cells' second-level values of one half of the columns, from the codes. -/
def lev2 {α : Type} (pz ps : Memref sig .tc .vmem S2x432x128 .f32) (g : BitVec 32) (hg : GOK g) (h : Nat) (hh : h < 2)
    (code : FVec F S32x128 .bf16) (k : FVec F S16x128 .f32 → FVec F S16x128 .f32 → Pg F α) : Pg F α :=
  ld pz (pOff g h 0) S1x1x128.size (pOff_inb hg h 0 hh (by omega)) h_S1x1x128 fun z0 =>
  ld ps (pOff g h 0) S1x1x128.size (pOff_inb hg h 0 hh (by omega)) h_S1x1x128 fun s0 =>
  ld pz (pOff g h 1) S1x1x128.size (pOff_inb hg h 1 hh (by omega)) h_S1x1x128 fun z1 =>
  ld ps (pOff g h 1) S1x1x128.size (pOff_inb hg h 1 hh (by omega)) h_S1x1x128 fun s1 =>
  k (lev 0 code z0 s0) (lev 1 code z1 s1)

/-- The second-level values of a group, by half of the columns and by cell. -/
def second {α : Type} (q : Memref sig .tc .vmem S3x864x160 .i8) (pz ps : Memref sig .tc .vmem S2x432x128 .f32)
    (g : BitVec 32) (hg : GOK g) (k : (Nat → Nat → FVec F S16x128 .f32) → Pg F α) : Pg F α :=
  ld q (qOff g 0 0) S1x32x128.size (sOff_inb hg 0 (by omega)) h_S1x32x128 fun a0 =>
  ld q (qOff g 1 0) S1x32x128.size (sOff_inb hg 1 (by omega)) h_S1x32x128 fun a1 =>
  ld q (qOff g 2 0) S1x32x128.size (sOff_inb hg 2 (by omega)) h_S1x32x128 fun a2 =>
  lev2 pz ps g hg 0 (by omega) (codeTile (fieldOf g) a0 a1 a2) fun u0 u1 =>
  ld q (qOff g 0 128) S1x32x32.size (sOff'_inb hg 0 (by omega)) h_S1x32x32 fun c0 =>
  ld q (qOff g 1 128) S1x32x32.size (sOff'_inb hg 1 (by omega)) h_S1x32x32 fun c1 =>
  ld q (qOff g 2 128) S1x32x32.size (sOff'_inb hg 2 (by omega)) h_S1x32x32 fun c2 =>
  lev2 pz ps g hg 1 (by omega) (codeTail (fieldOf g) c0 c1 c2) fun v0 v1 =>
  k fun n c => match c with
    | 0 => pick n u0 v0
    | _ + 1 => pick n u1 v1

/-- One group of 32 rows dequantised into the weight buffer `w` at row `wrow`. -/
def dqGroup {α : Type} (B : Bufs) (w : Memref sig .tc .vmem S768x2560 .bf16) (hw : w.IsWhole)
    (g wrow : BitVec 32) (hg : GOK g) (hr : WOK wrow) (k : Pg F α) : Pg F α :=
  second B.qs B.p1 B.p0 g hg fun s =>
  second B.qz B.p3 B.p2 g hg fun z =>
  ld B.tb (tOff g 0) S1x1x8x128.size (tOff_inb hg 0 (by omega)) h_S1x1x8x128 fun t0 =>
  ld B.tb (tOff g 1) S1x1x8x128.size (tOff_inb hg 1 (by omega)) h_S1x1x8x128 fun t1 =>
  tiles B.q w hw g wrow hg hr s z (tab t0 t1)
    ![slotBase g 0#32, slotBase g 8#32, slotBase g 16#32, slotBase g 24#32] k 20 0 rfl

/-- Columns 0 to 127 of a matrix of scales, then columns 128 to 159 and zeros, stored as two matrices. -/
def fill {α : Type} (src : Memref sig .tc .vmem S432x160 .bf16) (dst : Memref sig .tc .vmem S2x432x128 .f32) (k : Pg F α) : Pg F α :=
  ld src ![0, 0] S432x128.size inb_S432x160_S432x128_0_0 h_S432x128 fun a =>
  ld dst ![0, 0, 0] S1x432x128.size inb_S2x432x128_S1x432x128_0_0_0 h_S1x432x128 fun _ =>
  st dst ![0, 0, 0] S1x432x128.size inb_S2x432x128_S1x432x128_0_0_0
    (shapeCast S1x432x128 (extf .f32 (a : FVec F S432x128 .bf16) bitsLt_bf16_f32 : FVec F S432x128 .f32) shapeCasts_S432x128_S1x432x128 : FVec F S1x432x128 .f32)
    (View.stores_vmem_bits_univ h_S1x432x128 rfl) <|
  ld src ![0, 128] S432x32.size inb_S432x160_S432x32_0_128 h_S432x32 fun b =>
  ld dst ![1, 0, 0] S1x432x128.size inb_S2x432x128_S1x432x128_1_0_0 h_S1x432x128 fun _ =>
  st dst ![1, 0, 0] S1x432x128.size inb_S2x432x128_S1x432x128_1_0_0
    (shapeCast S1x432x128 (concatenate S432x128 1 [⟨S432x32, extf .f32 (b : FVec F S432x32 .bf16) bitsLt_bf16_f32⟩,
      ⟨S432x96, (broadcast S432x96 (Scalar.ofBits .f32 0x00000000#32 : F .f32) : FVec F S432x96 .f32)⟩]
      concatenates_S432x32_S432x96_S432x128_d1 : FVec F S432x128 .f32) shapeCasts_S432x128_S1x432x128 : FVec F S1x432x128 .f32)
    (View.stores_vmem_bits_univ h_S1x432x128 rfl) k

/-- The loop's group at trip `t`, and the row it goes to. -/
def loopG (t : Fin k0_t1_loop.trips) : BitVec 32 := Scalar.addi 0#32 (Scalar.muli (Scf.iv 0#32 1#32 t) 1#32)
def loopW (t : Fin k0_t1_loop.trips) : BitVec 32 := Scalar.muli (loopG t) 32#32

theorem loopG_eq : ∀ t : Fin k0_t1_loop.trips, loopG t = BitVec.ofNat 32 t.val := by decide +kernel
theorem loopW_eq : ∀ t : Fin k0_t1_loop.trips, loopW t = BitVec.ofNat 32 (32 * t.val) := by decide +kernel
theorem trips_eq : k0_t1_loop.trips = 24 := by decide +kernel
theorem loopG_ok (t : Fin k0_t1_loop.trips) : GOK (loopG t) :=
  ⟨t.val, by have := t.isLt; have := trips_eq; omega, loopG_eq t⟩
theorem loopW_ok (t : Fin k0_t1_loop.trips) : WOK (loopW t) :=
  ⟨t.val, by have := t.isLt; have := trips_eq; omega, loopW_eq t⟩

/-- The weight block a grid point dequantises: the next one, after the last the first. -/
def nxt (i : grid0.Coords) : BitVec 32 :=
  Scalar.select (Scalar.cmpi .eq (BitVec.ofNat 32 (i 0).val) 8#32) 0#32 (Scalar.addi (BitVec.ofNat 32 (i 0).val) 1#32)
/-- The place in the block of step `j`'s group. -/
def locOf (i : grid0.Coords) (j : BitVec 32) : BitVec 32 := Scalar.addi (Scalar.muli (BitVec.ofNat 32 (i 1).val) 3#32) j
def stepG (i : grid0.Coords) (j : BitVec 32) : BitVec 32 := Scalar.addi (Scalar.muli (nxt i) 24#32) (locOf i j)
def stepW (i : grid0.Coords) (j : BitVec 32) : BitVec 32 := Scalar.muli (locOf i j) 32#32

/-- The number of the block a grid point dequantises. -/
def nxtN (n : Nat) : Nat := if n = 8 then 0 else n + 1

theorem stepG_eq : ∀ (i : grid0.Coords) (j : Fin 3), stepG i (BitVec.ofNat 32 j.val) = BitVec.ofNat 32 (24 * nxtN (i 0).val + (3 * (i 1).val + j.val)) := by
  have h : ∀ (n : Fin 9) (m : Fin 8) (j : Fin 3), (Scalar.addi (Scalar.muli (Scalar.select (Scalar.cmpi .eq (BitVec.ofNat 32 n.val) 8#32) 0#32 (Scalar.addi (BitVec.ofNat 32 n.val) 1#32)) 24#32) (Scalar.addi (Scalar.muli (BitVec.ofNat 32 m.val) 3#32) (BitVec.ofNat 32 j.val)) : BitVec 32) = BitVec.ofNat 32 (24 * nxtN n.val + (3 * m.val + j.val)) := by decide +kernel
  exact fun i j => h (i 0) (i 1) j
theorem stepW_eq : ∀ (i : grid0.Coords) (j : Fin 3), stepW i (BitVec.ofNat 32 j.val) = BitVec.ofNat 32 (32 * (3 * (i 1).val + j.val)) := by
  have h : ∀ (m : Fin 8) (j : Fin 3), (Scalar.muli (Scalar.addi (Scalar.muli (BitVec.ofNat 32 m.val) 3#32) (BitVec.ofNat 32 j.val)) 32#32 : BitVec 32) = BitVec.ofNat 32 (32 * (3 * m.val + j.val)) := by decide +kernel
  exact fun i j => h (i 1) j
theorem stepG_ok (i : grid0.Coords) (j : Fin 3) : GOK (stepG i (BitVec.ofNat 32 j.val)) := by
  refine ⟨_, ?_, stepG_eq i j⟩
  have h0 : (i 0).val < 9 := (i 0).isLt
  have h1 : (i 1).val < 8 := (i 1).isLt
  have := j.isLt
  unfold nxtN; split <;> omega
theorem stepW_ok (i : grid0.Coords) (j : Fin 3) : WOK (stepW i (BitVec.ofNat 32 j.val)) := by
  refine ⟨3 * (i 1).val + j.val, ?_, stepW_eq i j⟩
  have h1 : (i 1).val < 8 := (i 1).isLt
  have := j.isLt
  omega

theorem yOff_inb (j : Fin 3) : ∀ a, (![0, 256 * j.val] : Fin 2 → Nat) a + S1024x256.size a ≤ S1024x768.size a := by revert j; decide +kernel
theorem cOff_inb (j : Fin 3) : ∀ a, (![256 * j.val, 0] : Fin 2 → Nat) a + S256x2560.size a ≤ S768x2560.size a := by revert j; decide +kernel
theorem yOff_packed (j : Fin 3) : (Rect.unit (s := S1024x768) ![0, 256 * j.val] S1024x256.size (yOff_inb j)).PackedRows (EltTy.packing .bf16) := by
  revert j; decide +kernel

/-- 256 columns of the product: the block of the input times 256 rows of the weight. -/
def mmVal (a : Vec F S1024x2560 .bf16) (b : Vec F S256x2560 .bf16) : FVec F S1024x256 .bf16 :=
  truncf .bf16 (matmul dot_S1024x2560_S256x2560_S1024x256_1_1_0_0_n_n none (a : FVec F S1024x2560 .bf16) (b : FVec F S256x2560 .bf16)
    (constant S1024x256 .f32 0x00000000#32) : FVec F S1024x256 .f32) bitsLt_bf16_f32

/-- One step of a grid point: a group dequantised into `other`, then 256 columns of the product from `cur`. -/
def step {α : Type} (B : Bufs) (i : grid0.Coords) (cur other : Memref sig .tc .vmem S768x2560 .bf16) (ho : other.IsWhole) (j : Fin 3)
    (k : Pg F α) : Pg F α :=
  dqGroup B other ho (stepG i (BitVec.ofNat 32 j.val)) (stepW i (BitVec.ofNat 32 j.val)) (stepG_ok i j) (stepW_ok i j) <|
  ld B.x ![0, 0] S1024x2560.size inb_S1024x2560_S1024x2560_0_0 h_S1024x2560 fun a =>
  ld cur ![256 * j.val, 0] S256x2560.size (cOff_inb j) h_S256x2560 fun b =>
  ld B.y ![0, 256 * j.val] S1024x256.size (yOff_inb j) h_S1024x256 fun _ =>
  st B.y ![0, 256 * j.val] S1024x256.size (yOff_inb j) (mmVal a b)
    (View.stores_vmem h_S1024x256 (B.hy.storeExact_slice rfl _ (yOff_packed j)) (fun _ => rfl)) k

/-- The three steps of a grid point, then the rest. -/
def steps {α : Type} (B : Bufs) (i : grid0.Coords) (cur other : Memref sig .tc .vmem S768x2560 .bf16) (ho : other.IsWhole)
    (k : Pg F α) : Pg F α :=
  step B i cur other ho 0 <| step B i cur other ho 1 <| step B i cur other ho 2 k

/-- The first grid point's preparation, then the rest: the scales widened, and the first weight block dequantised. -/
def prologue {α : Type} (B : Bufs) (i : grid0.Coords) (h : k0_cond1 i = 1#1) (k : Pg F α) : Pg F α :=
  fill B.s0 B.p0 <| fill B.s1 B.p1 <| fill B.s2 B.p2 <| fill B.s3 B.p3 <|
  (Scf.Loop.for k0_t1_loop (k0_t1_ok i h) (⟨⟩ : PUnit) fun t _ =>
    dqGroup B B.w0 B.hw0 (loopG t) (loopW t) (loopG_ok t) (loopW_ok t) (.ret ⟨⟩ : Pg F PUnit)).bind fun _ => k

/-- The second of the kernel body's three conditionals, then the rest. -/
def even {α : Type} (B : Bufs) (i : grid0.Coords) (k : Pg F α) : Pg F α :=
  if k0_cond2 i = 1#1 then steps B i B.w0 B.w1 B.hw1 k else k

/-- The third, then the rest. -/
def odd {α : Type} (B : Bufs) (i : grid0.Coords) (k : Pg F α) : Pg F α :=
  if k0_cond3 i = 1#1 then steps B i B.w1 B.w0 B.hw0 k else k

/-- The first, then the rest. -/
def first {α : Type} (B : Bufs) (i : grid0.Coords) (k : Pg F α) : Pg F α :=
  if h : k0_cond1 i = 1#1 then prologue B i h k else k

/-- The kernel body. -/
def body (B : Bufs) (i : grid0.Coords) : Pg F PUnit := first B i <| even B i <| odd B i <| .ret ⟨⟩

end Cert.KernelIdeal.Hand

end
-- ==== Proof.KernelIdeal.Mem.lean ====
/-
  One load and one store, over what a buffer holds: a load continues at the rectangle of the contents, a store
  leaves the contents with the rectangle overwritten.
-/
module

public import proofs.«01_k».proof.Proof.KernelIdeal.Body
public import proofs.«01_k».proof.Proof.Gen.KernelIdeal.Frame
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What is left to run, on core `c`'s TensorCore. -/
abbrev Run {α : Type} (c : Dev nD) (p : Pg F α) (Q : α → sProp 𝕄) : sProp 𝕄 :=
  wp frame (wpE (defs₀ (F := F)) Variants.none c none) Set.univ p Q

/-- The rectangle of an array's contents. -/
def rect {S : Shape} {e : EltTy} (X : S.Idx → Elt F e) (off : Fin S.rank → Nat) (size : Fin S.rank → Nat)
    (inb : ∀ a, off a + size a ≤ S.size a) : (Rect.unit (s := S) off size inb).shape.Idx → Elt F e :=
  fun x => X ((Rect.unit (s := S) off size inb).emb x)

/-- An array's contents with a rectangle overwritten. -/
def upd {S : Shape} {e : EltTy} (X : S.Idx → Elt F e) (off : Fin S.rank → Nat) (size : Fin S.rank → Nat)
    (inb : ∀ a, off a + size a ≤ S.size a) (v : (Rect.unit (s := S) off size inb).shape.Idx → Elt F e) : S.Idx → Elt F e :=
  fun y => if h : ∀ a, off a ≤ (y a).val ∧ (y a).val < off a + size a then
    v (Rect.unitLocal (s := S) (off := off) (size := size) y h) else X y

theorem ld_owns {S : Shape} {e : EltTy} {α : Type} (c : Dev nD) (m : Memref sig .tc .vmem S e) (X : S.Idx → Elt F e)
    (off : Fin S.rank → Nat) (size : Fin S.rank → Nat) (inb : ∀ a, off a + size a ≤ S.size a)
    (h : 0 < (Rect.unit (s := S) off size inb).shape.numel)
    (k : ((Rect.unit (s := S) off size inb).shape.Idx → Elt F e) → Pg F α) (Q : α → sProp 𝕄) :
    (iprop(owns (c : Thread nD τ) m fullShare X ∗ (owns (c : Thread nD τ) m fullShare X -∗ Run c (k (rect X off size inb)) Q)) : sProp 𝕄)
      ⊢ Run c (ld m off size inb h k) Q := by
  unfold ld owns
  iintro ⟨⟨%f, %hf, H⟩, K⟩
  subst hf
  iapply (wp_load (m := m) Variants.none (c : Thread nD τ) none Set.univ (View.setOn_subset_set _ _)) $$ [H]
  · iexact H
  iintro H
  iapply K
  iexists f
  isplitr
  · ipureintro; rfl
  iexact H

theorem st_owns {S : Shape} {e : EltTy} {α : Type} (c : Dev nD) (m : Memref sig .tc .vmem S e) (X : S.Idx → Elt F e)
    (off : Fin S.rank → Nat) (size : Fin S.rank → Nat) (inb : ∀ a, off a + size a ≤ S.size a)
    (v : (Rect.unit (s := S) off size inb).shape.Idx → Elt F e) (h : (m.access (Rect.unit (s := S) off size inb)).Stores Finset.univ)
    (k : Pg F α) (Q : α → sProp 𝕄) :
    (iprop(owns (c : Thread nD τ) m fullShare X ∗ (owns (c : Thread nD τ) m fullShare (upd X off size inb v) -∗ Run c k Q)) : sProp 𝕄)
      ⊢ Run c (st m off size inb v h k) Q := by
  unfold st owns
  iintro ⟨⟨%f, %hf, H⟩, K⟩
  subst hf
  iapply (wp_store_writes₀ (m := m) Variants.none (c : Thread nD τ) none Set.univ (View.set_slice_subset _ _)) $$ [H]
  · iexact H
  iintro H
  iapply K
  iexists _
  isplitr; swap
  · iexact H
  ipureintro
  funext y
  exact View.read_writes_cons_unit m.view f inb v [] y rfl

end Cert.KernelIdeal.Hand

end
-- ==== Proof.KernelIdeal.Run.lean ====
/-
  What dequantising one group does: the weight buffer's 32 rows of the group hold the group's values, a
  function of the arrays, and its other rows what they held.
-/
module

public import proofs.«01_k».proof.Proof.KernelIdeal.Mem
public import Idealize.ShloMosaic.Lib.Pointwise.Index
public import Idealize.ShloMosaic.Lib.Pointwise.Reshape

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The arrays a group's values are made of: the codes, the codes of the scales and of the zeros, the outlier
    table, and the four matrices of second-level scales and zeros, widened. -/
structure Ro (F : FTy → Type) [FloatOps F] where
  q : S3x864x2560.Idx → Elt F .i8
  qs : S3x864x160.Idx → Elt F .i8
  qz : S3x864x160.Idx → Elt F .i8
  tb : S2x216x8x128.Idx → Elt F .i32
  p0 : S2x432x128.Idx → Elt F .f32
  p1 : S2x432x128.Idx → Elt F .f32
  p2 : S2x432x128.Idx → Elt F .f32
  p3 : S2x432x128.Idx → Elt F .f32

/-- The buffers that hold them. -/
def roOwn (c : Dev nD) (B : Bufs) (D : Ro F) : sProp 𝕄 :=
  iprop(owns (c : Thread nD τ) B.q fullShare D.q ∗ owns (c : Thread nD τ) B.qs fullShare D.qs ∗ owns (c : Thread nD τ) B.qz fullShare D.qz ∗ owns (c : Thread nD τ) B.tb fullShare D.tb ∗ owns (c : Thread nD τ) B.p0 fullShare D.p0 ∗ owns (c : Thread nD τ) B.p1 fullShare D.p1 ∗ owns (c : Thread nD τ) B.p2 fullShare D.p2 ∗ owns (c : Thread nD τ) B.p3 fullShare D.p3)

theorem ld_q {α : Type} (c : Dev nD) (B : Bufs) (D : Ro F) (off : Fin S3x864x2560.rank → Nat) (size : Fin S3x864x2560.rank → Nat)
    (inb : ∀ a, off a + size a ≤ S3x864x2560.size a) (h : 0 < (Rect.unit (s := S3x864x2560) off size inb).shape.numel)
    (k : ((Rect.unit (s := S3x864x2560) off size inb).shape.Idx → Elt F .i8) → Pg F α) (Q : α → sProp 𝕄) :
    (iprop(roOwn c B D ∗ (roOwn c B D -∗ Run c (k (rect D.q off size inb)) Q)) : sProp 𝕄) ⊢ Run c (ld B.q off size inb h k) Q := by
  unfold roOwn
  iintro ⟨⟨H0, H1, H2, H3, H4, H5, H6, H7⟩, K⟩
  iapply (ld_owns c B.q D.q off size inb h k Q)
  isplitl [H0]; · iexact H0
  iintro H0
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_qs {α : Type} (c : Dev nD) (B : Bufs) (D : Ro F) (off : Fin S3x864x160.rank → Nat) (size : Fin S3x864x160.rank → Nat)
    (inb : ∀ a, off a + size a ≤ S3x864x160.size a) (h : 0 < (Rect.unit (s := S3x864x160) off size inb).shape.numel)
    (k : ((Rect.unit (s := S3x864x160) off size inb).shape.Idx → Elt F .i8) → Pg F α) (Q : α → sProp 𝕄) :
    (iprop(roOwn c B D ∗ (roOwn c B D -∗ Run c (k (rect D.qs off size inb)) Q)) : sProp 𝕄) ⊢ Run c (ld B.qs off size inb h k) Q := by
  unfold roOwn
  iintro ⟨⟨H0, H1, H2, H3, H4, H5, H6, H7⟩, K⟩
  iapply (ld_owns c B.qs D.qs off size inb h k Q)
  isplitl [H1]; · iexact H1
  iintro H1
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_qz {α : Type} (c : Dev nD) (B : Bufs) (D : Ro F) (off : Fin S3x864x160.rank → Nat) (size : Fin S3x864x160.rank → Nat)
    (inb : ∀ a, off a + size a ≤ S3x864x160.size a) (h : 0 < (Rect.unit (s := S3x864x160) off size inb).shape.numel)
    (k : ((Rect.unit (s := S3x864x160) off size inb).shape.Idx → Elt F .i8) → Pg F α) (Q : α → sProp 𝕄) :
    (iprop(roOwn c B D ∗ (roOwn c B D -∗ Run c (k (rect D.qz off size inb)) Q)) : sProp 𝕄) ⊢ Run c (ld B.qz off size inb h k) Q := by
  unfold roOwn
  iintro ⟨⟨H0, H1, H2, H3, H4, H5, H6, H7⟩, K⟩
  iapply (ld_owns c B.qz D.qz off size inb h k Q)
  isplitl [H2]; · iexact H2
  iintro H2
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_tb {α : Type} (c : Dev nD) (B : Bufs) (D : Ro F) (off : Fin S2x216x8x128.rank → Nat) (size : Fin S2x216x8x128.rank → Nat)
    (inb : ∀ a, off a + size a ≤ S2x216x8x128.size a) (h : 0 < (Rect.unit (s := S2x216x8x128) off size inb).shape.numel)
    (k : ((Rect.unit (s := S2x216x8x128) off size inb).shape.Idx → Elt F .i32) → Pg F α) (Q : α → sProp 𝕄) :
    (iprop(roOwn c B D ∗ (roOwn c B D -∗ Run c (k (rect D.tb off size inb)) Q)) : sProp 𝕄) ⊢ Run c (ld B.tb off size inb h k) Q := by
  unfold roOwn
  iintro ⟨⟨H0, H1, H2, H3, H4, H5, H6, H7⟩, K⟩
  iapply (ld_owns c B.tb D.tb off size inb h k Q)
  isplitl [H3]; · iexact H3
  iintro H3
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p0 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p0 off size inb)) Q)) : sProp 𝕄) ⊢ Run c (ld B.p0 off size inb h k) Q := by
  unfold roOwn
  iintro ⟨⟨H0, H1, H2, H3, H4, H5, H6, H7⟩, K⟩
  iapply (ld_owns c B.p0 D.p0 off size inb h k Q)
  isplitl [H4]; · iexact H4
  iintro H4
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p1 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p1 off size inb)) Q)) : sProp 𝕄) ⊢ Run c (ld B.p1 off size inb h k) Q := by
  unfold roOwn
  iintro ⟨⟨H0, H1, H2, H3, H4, H5, H6, H7⟩, K⟩
  iapply (ld_owns c B.p1 D.p1 off size inb h k Q)
  isplitl [H5]; · iexact H5
  iintro H5
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p2 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p2 off size inb)) Q)) : sProp 𝕄) ⊢ Run c (ld B.p2 off size inb h k) Q := by
  unfold roOwn
  iintro ⟨⟨H0, H1, H2, H3, H4, H5, H6, H7⟩, K⟩
  iapply (ld_owns c B.p2 D.p2 off size inb h k Q)
  isplitl [H6]; · iexact H6
  iintro H6
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem ld_p3 {α : Type} (c : Dev nD) (B : Bufs) (D : Ro F) (off : Fin S2x432x128.rank → Nat) (size : Fin S2x432x128.rank → Nat)
    (inb : ∀ a, off a + size a ≤ S2x432x128.size a) (h : 0 < (Rect.unit (s := S2x432x128) off size inb).shape.numel)
    (k : ((Rect.unit (s := S2x432x128) off size inb).shape.Idx → Elt F .f32) → Pg F α) (Q : α → sProp 𝕄) :
    (iprop(roOwn c B D ∗ (roOwn c B D -∗ Run c (k (rect D.p3 off size inb)) Q)) : sProp 𝕄) ⊢ Run c (ld B.p3 off size inb h k) Q := by
  unfold roOwn
  iintro ⟨⟨H0, H1, H2, H3, H4, H5, H6, H7⟩, K⟩
  iapply (ld_owns c B.p3 D.p3 off size inb h k Q)
  isplitl [H7]; · iexact H7
  iintro H7
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## A group's values -/

/-- The codes of a column tile of a group. -/
def qTile (D : Ro F) (g : BitVec 32) (hg : GOK g) (t : Nat) (ht : t < 20) : FVec F S32x128 .bf16 :=
  codeTile (fieldOf g) (rect D.q (qOff g 0 (128 * t)) S1x32x128.size (qOff_inb hg 0 t (by omega) ht))
    (rect D.q (qOff g 1 (128 * t)) S1x32x128.size (qOff_inb hg 1 t (by omega) ht))
    (rect D.q (qOff g 2 (128 * t)) S1x32x128.size (qOff_inb hg 2 t (by omega) ht))

/-- The second-level values of one half of the columns and one cell of a group. -/
def secH (pz ps : S2x432x128.Idx → Elt F .f32) (g : BitVec 32) (hg : GOK g) (h c : Nat)
    (hh : h < 2) (hc : c < 2) (code : FVec F S32x128 .bf16) : FVec F S16x128 .f32 :=
  lev c code (rect pz (pOff g h c) S1x1x128.size (pOff_inb hg h c hh hc)) (rect ps (pOff g h c) S1x1x128.size (pOff_inb hg h c hh hc))

/-- The codes of the first 128 columns of the second level. -/
def code0 (q : S3x864x160.Idx → Elt F .i8) (g : BitVec 32) (hg : GOK g) : FVec F S32x128 .bf16 :=
  codeTile (fieldOf g) (rect q (qOff g 0 0) S1x32x128.size (sOff_inb hg 0 (by omega)))
    (rect q (qOff g 1 0) S1x32x128.size (sOff_inb hg 1 (by omega))) (rect q (qOff g 2 0) S1x32x128.size (sOff_inb hg 2 (by omega)))

/-- The codes of its last 32 columns. -/
def code1 (q : S3x864x160.Idx → Elt F .i8) (g : BitVec 32) (hg : GOK g) : FVec F S32x128 .bf16 :=
  codeTail (fieldOf g) (rect q (qOff g 0 128) S1x32x32.size (sOff'_inb hg 0 (by omega)))
    (rect q (qOff g 1 128) S1x32x32.size (sOff'_inb hg 1 (by omega))) (rect q (qOff g 2 128) S1x32x32.size (sOff'_inb hg 2 (by omega)))

/-- The second-level values of a group, by half of the columns and by cell. -/
def sec (q : S3x864x160.Idx → Elt F .i8) (pz ps : S2x432x128.Idx → Elt F .f32) (g : BitVec 32) (hg : GOK g) (n c : Nat) : FVec F S16x128 .f32 :=
  match c with
  | 0 => pick n (secH pz ps g hg 0 0 (by omega) (by omega) (code0 q g hg)) (secH pz ps g hg 1 0 (by omega) (by omega) (code1 q g hg))
  | _ + 1 => pick n (secH pz ps g hg 0 1 (by omega) (by omega) (code0 q g hg)) (secH pz ps g hg 1 1 (by omega) (by omega) (code1 q g hg))

/-- The group's outlier table. -/
def tabG (D : Ro F) (g : BitVec 32) (hg : GOK g) : IVec S8x128 32 :=
  tab (F := F) (rect D.tb (tOff g 0) S1x1x8x128.size (tOff_inb hg 0 (by omega))) (rect D.tb (tOff g 1) S1x1x8x128.size (tOff_inb hg 1 (by omega)))

/-- The group's outlier slots, by eight rows. -/
def slotsG (g : BitVec 32) : Fin 4 → FVec F S8x128 .f32 :=
  ![slotBase g 0#32, slotBase g 8#32, slotBase g 16#32, slotBase g 24#32]

/-- A block of a group's values over any second level, table and slots. -/
def blkOf (D : Ro F) (g : BitVec 32) (hg : GOK g) (s z : Nat → Nat → FVec F S16x128 .f32) (table : IVec S8x128 32)
    (b : Fin 4 → FVec F S8x128 .f32) (t : Nat) (ht : t < 20) (c : Nat) : FVec F S16x128 .bf16 :=
  match c with
  | 0 => blockVal t 0 0 1 (qTile D g hg t ht) (s (8 * t / 128) 0) (z (8 * t / 128) 0) table (b 0) (b 1)
  | _ + 1 => blockVal t 1 2 3 (qTile D g hg t ht) (s (8 * t / 128) 1) (z (8 * t / 128) 1) table (b 2) (b 3)

/-- A block of a group's values. -/
def blk (D : Ro F) (g : BitVec 32) (hg : GOK g) (t : Nat) (ht : t < 20) (c : Nat) : FVec F S16x128 .bf16 :=
  blkOf D g hg (sec D.qs D.p1 D.p0 g hg) (sec D.qz D.p3 D.p2 g hg) (tabG D g hg) (slotsG g) t ht c

/-- The weight buffer with the first `t` column tiles of 32 rows from `r` on replaced. -/
def setG (v : (t : Nat) → t < 20 → Nat → FVec F S16x128 .bf16) (r : Nat) (X : S768x2560.Idx → Elt F .bf16) (t : Nat) : S768x2560.Idx → Elt F .bf16 :=
  fun y => if r ≤ (y 0).val ∧ (y 0).val < r + 32 ∧ (y 1).val < 128 * t then
    v ((y 1).val / 128) (by have : (y 1).val < 2560 := (y 1).isLt; omega) (((y 0).val - r) / 16)
      (ix2 ⟨((y 0).val - r) % 16, Nat.mod_lt _ (by omega)⟩ ⟨(y 1).val % 128, Nat.mod_lt _ (by omega)⟩)
  else X y

theorem setG_zero (v : (t : Nat) → t < 20 → Nat → FVec F S16x128 .bf16) (r : Nat) (X : S768x2560.Idx → Elt F .bf16) : setG v r X 0 = X := by
  funext y
  exact if_neg (by omega)

theorem setG_succ (v : (t : Nat) → t < 20 → Nat → FVec F S16x128 .bf16) (n : Nat) (hn : n < 24) (hr : WOK (BitVec.ofNat 32 (32 * n)))
    (X : S768x2560.Idx → Elt F .bf16) (t : Nat) (ht : t < 20) :
    upd (upd (setG v (32 * n) X t) (wOff (BitVec.ofNat 32 (32 * n)) 0 (128 * t)) S16x128.size (wOff_inb hr 0 t (by omega) ht) (v t ht 0))
      (wOff (BitVec.ofNat 32 (32 * n)) 1 (128 * t)) S16x128.size (wOff_inb hr 1 t (by omega) ht) (v t ht 1)
      = setG v (32 * n) X (t + 1) := by
  have h0 := wrow_nat n hn 0 (by omega)
  have h1 := wrow_nat n hn 1 (by omega)
  funext y
  have hy0 : (y 0).val < 768 := (y 0).isLt
  have hy1 : (y 1).val < 2560 := (y 1).isLt
  have e : ∀ c < 2, (∀ a, wOff (BitVec.ofNat 32 (32 * n)) c (128 * t) a ≤ (y a).val ∧ (y a).val < wOff (BitVec.ofNat 32 (32 * n)) c (128 * t) a + S16x128.size a)
      ↔ (32 * n + 16 * c ≤ (y 0).val ∧ (y 0).val < 32 * n + 16 * c + 16 ∧ 128 * t ≤ (y 1).val ∧ (y 1).val < 128 * t + 128) := by
    intro c hc
    have hw := wrow_nat n hn c hc
    constructor
    · intro h
      have a0 := h 0
      have a1 := h 1
      change (Scalar.indexCast (Scalar.addi (BitVec.ofNat 32 (32 * n)) (BitVec.ofNat 32 (16 * c)))).toNat ≤ (y 0).val ∧ (y 0).val < (Scalar.indexCast (Scalar.addi (BitVec.ofNat 32 (32 * n)) (BitVec.ofNat 32 (16 * c)))).toNat + 16 at a0
      change 128 * t ≤ (y 1).val ∧ (y 1).val < 128 * t + 128 at a1
      rw [hw] at a0
      omega
    · rintro ⟨b0, b1, b2, b3⟩ a
      match a with
      | ⟨0, _⟩ =>
        change (Scalar.indexCast (Scalar.addi (BitVec.ofNat 32 (32 * n)) (BitVec.ofNat 32 (16 * c)))).toNat ≤ (y 0).val ∧ (y 0).val < (Scalar.indexCast (Scalar.addi (BitVec.ofNat 32 (32 * n)) (BitVec.ofNat 32 (16 * c)))).toNat + 16
        rw [hw]; omega
      | ⟨1, _⟩ =>
        change 128 * t ≤ (y 1).val ∧ (y 1).val < 128 * t + 128
        omega
  have val : ∀ c (hc : c < 2) (h : ∀ a, wOff (BitVec.ofNat 32 (32 * n)) c (128 * t) a ≤ (y a).val ∧ (y a).val < wOff (BitVec.ofNat 32 (32 * n)) c (128 * t) a + S16x128.size a),
      v t ht c (Rect.unitLocal (s := S768x2560) (off := wOff (BitVec.ofNat 32 (32 * n)) c (128 * t)) (size := S16x128.size) y h) = setG v (32 * n) X (t + 1) y := by
    intro c hc h
    have hw := wrow_nat n hn c hc
    have hb := (e c hc).mp h
    have hq : (y 1).val / 128 = t := by omega
    have hc' : ((y 0).val - 32 * n) / 16 = c := by omega
    unfold setG
    rw [if_pos (by omega)]
    subst hc'
    have key : ∀ t' (ht' : t' < 20), t' = t → ∀ i j, i = j → v t ht (((y 0).val - 32 * n) / 16) i = v t' ht' (((y 0).val - 32 * n) / 16) j := by
      intro t' ht' e1 i j e2
      subst e1 e2
      rfl
    refine key _ _ hq _ _ ?_
    funext a
    apply Fin.ext
    rw [Rect.unitLocal_val]
    match a with
    | ⟨0, _⟩ =>
      change (y 0).val - (Scalar.indexCast (Scalar.addi (BitVec.ofNat 32 (32 * n)) (BitVec.ofNat 32 (16 * (((y 0).val - 32 * n) / 16))))).toNat = ((y 0).val - 32 * n) % 16
      rw [hw]; omega
    | ⟨1, _⟩ =>
      change (y 1).val - 128 * t = (y 1).val % 128
      omega
  unfold upd
  by_cases c1 : ∀ a, wOff (BitVec.ofNat 32 (32 * n)) 1 (128 * t) a ≤ (y a).val ∧ (y a).val < wOff (BitVec.ofNat 32 (32 * n)) 1 (128 * t) a + S16x128.size a
  · rw [dif_pos c1]
    exact val 1 (by omega) c1
  · rw [dif_neg c1]
    by_cases c0 : ∀ a, wOff (BitVec.ofNat 32 (32 * n)) 0 (128 * t) a ≤ (y a).val ∧ (y a).val < wOff (BitVec.ofNat 32 (32 * n)) 0 (128 * t) a + S16x128.size a
    · rw [dif_pos c0]
      exact val 0 (by omega) c0
    · rw [dif_neg c0]
      rw [e 1 (by omega)] at c1
      rw [e 0 (by omega)] at c0
      unfold setG
      by_cases d : 32 * n ≤ (y 0).val ∧ (y 0).val < 32 * n + 32 ∧ (y 1).val < 128 * t
      · rw [if_pos d, if_pos (by omega)]
      · rw [if_neg d, if_neg (by omega)]

/-! ## The program of a group -/

theorem run_stBlock {α : Type} (c : Dev nD) (w : Memref sig .tc .vmem S768x2560 .bf16) (hw : w.IsWhole) (X : S768x2560.Idx → Elt F .bf16)
    (wrow : BitVec 32) (hr : WOK wrow) (cell t : Nat) (hc : cell < 2) (ht : t < 20) (v : FVec F S16x128 .bf16) (k : Pg F α) (Q : α → sProp 𝕄) :
    (iprop(owns (c : Thread nD τ) w fullShare X
      ∗ (owns (c : Thread nD τ) w fullShare (upd X (wOff wrow cell (128 * t)) S16x128.size (wOff_inb hr cell t hc ht) v) -∗ Run c k Q)) : sProp 𝕄)
      ⊢ Run c (stBlock w hw wrow hr cell t hc ht v k) Q := by
  unfold stBlock
  rw [shapeCast_id]
  iintro ⟨H, K⟩
  iapply (ld_owns c w X _ _ _ _ _ Q)
  isplitl [H]; · iexact H
  iintro H
  iapply (st_owns c w X _ _ _ _ _ _ Q)
  isplitl [H]; · iexact H
  iexact K

theorem run_tiles {α : Type} (c : Dev nD) (B : Bufs) (D : Ro F) (w : Memref sig .tc .vmem S768x2560 .bf16) (hw : w.IsWhole) (X : S768x2560.Idx → Elt F .bf16)
    (g : BitVec 32) (n : Nat) (hn : n < 24) (hg : GOK g) (hr : WOK (BitVec.ofNat 32 (32 * n)))
    (s z : Nat → Nat → FVec F S16x128 .f32) (table : IVec S8x128 32) (b : Fin 4 → FVec F S8x128 .f32) (k : Pg F α) (Q : α → sProp 𝕄) :
    ∀ (fuel t : Nat) (h : t + fuel = 20),
    (iprop(roOwn c B D ∗ owns (c : Thread nD τ) w fullShare (setG (blkOf D g hg s z table b) (32 * n) X t)
      ∗ (roOwn c B D -∗ owns (c : Thread nD τ) w fullShare (setG (blkOf D g hg s z table b) (32 * n) X 20) -∗ Run c k Q)) : sProp 𝕄)
      ⊢ Run c (tiles B.q w hw g (BitVec.ofNat 32 (32 * n)) hg hr s z table b k fuel t h) Q
  | 0, t, h => by
    obtain rfl : t = 20 := h
    unfold tiles
    iintro ⟨R, H, K⟩
    iapply K $$ R H
  | f + 1, t, h => by
    have ht : t < 20 := by omega
    have ih := run_tiles c B D w hw X g n hn hg hr s z table b k Q f (t + 1) (by omega)
    unfold tiles
    iintro ⟨R, H, K⟩
    iapply (ld_q c B D _ _ _ _ _ Q)
    isplitl [R]; · iexact R
    iintro R
    iapply (ld_q c B D _ _ _ _ _ Q)
    isplitl [R]; · iexact R
    iintro R
    iapply (ld_q c B D _ _ _ _ _ Q)
    isplitl [R]; · iexact R
    iintro R
    iapply (run_stBlock c w hw _ _ hr 0 t _ ht _ _ Q)
    isplitl [H]; · iexact H
    iintro H
    iapply (run_stBlock c w hw _ _ hr 1 t _ ht _ _ Q)
    isplitl [H]; · iexact H
    iintro H
    iapply ih
    isplitl [R]; · iexact R
    isplitl [H]
    · rw [← setG_succ (blkOf D g hg s z table b) n hn hr X t ht]
      iexact H
    iexact K

end Cert.KernelIdeal.Hand

end
-- ==== Proof.KernelIdeal.Steps.lean ====
/-
  What the body's pieces do to the buffers: the scales widened, one group, the loop over the first block's
  24 groups, one step, the three steps of a grid point, and the whole body.
-/
module

public import proofs.«01_k».proof.Proof.KernelIdeal.Run
public import Idealize.ShloMosaic.Lib.Pointwise.Index
public import Idealize.ShloMosaic.Lib.Pointwise.Reshape

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One group -/

theorem run_lev2 {α : Type} (c : Dev nD) (pz ps : Memref sig .tc .vmem S2x432x128 .f32) (Z S : S2x432x128.Idx → Elt F .f32)
    (g : BitVec 32) (hg : GOK g) (h : Nat) (hh : h < 2) (code : FVec F S32x128 .bf16)
    (k : FVec F S16x128 .f32 → FVec F S16x128 .f32 → Pg F α) (Q : α → sProp 𝕄) :
    (iprop(owns (c : Thread nD τ) pz fullShare Z ∗ owns (c : Thread nD τ) ps fullShare S
      ∗ (owns (c : Thread nD τ) pz fullShare Z -∗ owns (c : Thread nD τ) ps fullShare S
        -∗ Run c (k (secH Z S g hg h 0 hh (by omega) code) (secH Z S g hg h 1 hh (by omega) code)) Q)) : sProp 𝕄)
      ⊢ Run c (lev2 pz ps g hg h hh code k) Q := by
  unfold lev2
  iintro ⟨HZ, HS, K⟩
  iapply (ld_owns c pz Z _ _ _ _ _ Q)
  isplitl [HZ]; · iexact HZ
  iintro HZ
  iapply (ld_owns c ps S _ _ _ _ _ Q)
  isplitl [HS]; · iexact HS
  iintro HS
  iapply (ld_owns c pz Z _ _ _ _ _ Q)
  isplitl [HZ]; · iexact HZ
  iintro HZ
  iapply (ld_owns c ps S _ _ _ _ _ Q)
  isplitl [HS]; · iexact HS
  iintro HS
  iapply K $$ HZ HS

theorem run_second {α : Type} (c : Dev nD) (q : Memref sig .tc .vmem S3x864x160 .i8) (pz ps : Memref sig .tc .vmem S2x432x128 .f32)
    (X : S3x864x160.Idx → Elt F .i8) (Z S : S2x432x128.Idx → Elt F .f32)
    (g : BitVec 32) (hg : GOK g) (k : (Nat → Nat → FVec F S16x128 .f32) → Pg F α) (Q : α → sProp 𝕄) :
    (iprop(owns (c : Thread nD τ) q fullShare X ∗ owns (c : Thread nD τ) pz fullShare Z ∗ owns (c : Thread nD τ) ps fullShare S
      ∗ (owns (c : Thread nD τ) q fullShare X -∗ owns (c : Thread nD τ) pz fullShare Z -∗ owns (c : Thread nD τ) ps fullShare S
        -∗ Run c (k (sec X Z S g hg)) Q)) : sProp 𝕄)
      ⊢ Run c (second q pz ps g hg k) Q := by
  have e : (fun n c => match c with
      | 0 => pick n (secH Z S g hg 0 0 (by omega) (by omega) (code0 X g hg)) (secH Z S g hg 1 0 (by omega) (by omega) (code1 X g hg))
      | _ + 1 => pick n (secH Z S g hg 0 1 (by omega) (by omega) (code0 X g hg)) (secH Z S g hg 1 1 (by omega) (by omega) (code1 X g hg)))
      = sec X Z S g hg := by
    funext n c
    cases c <;> rfl
  rw [← e]
  unfold second
  iintro ⟨H, HZ, HS, K⟩
  iapply (ld_owns c q X _ _ _ _ _ Q)
  isplitl [H]; · iexact H
  iintro H
  iapply (ld_owns c q X _ _ _ _ _ Q)
  isplitl [H]; · iexact H
  iintro H
  iapply (ld_owns c q X _ _ _ _ _ Q)
  isplitl [H]; · iexact H
  iintro H
  iapply (run_lev2 c pz ps Z S g hg 0 _ _ _ Q)
  isplitl [HZ]; · iexact HZ
  isplitl [HS]; · iexact HS
  iintro HZ HS
  iapply (ld_owns c q X _ _ _ _ _ Q)
  isplitl [H]; · iexact H
  iintro H
  iapply (ld_owns c q X _ _ _ _ _ Q)
  isplitl [H]; · iexact H
  iintro H
  iapply (ld_owns c q X _ _ _ _ _ Q)
  isplitl [H]; · iexact H
  iintro H
  iapply (run_lev2 c pz ps Z S g hg 1 _ _ _ Q)
  isplitl [HZ]; · iexact HZ
  isplitl [HS]; · iexact HS
  iintro HZ HS
  iapply K $$ H HZ HS

/-- The 768 rows of block `N` of the weight, dequantised. -/
def wBlk (D : Ro F) (N : Nat) (hN : N < 9) : S768x2560.Idx → Elt F .bf16 := fun y =>
  blk D (BitVec.ofNat 32 (24 * N + (y 0).val / 32)) ⟨_, by have : (y 0).val < 768 := (y 0).isLt; omega, rfl⟩
    ((y 1).val / 128) (by have : (y 1).val < 2560 := (y 1).isLt; omega) ((y 0).val % 32 / 16)
    (ix2 ⟨(y 0).val % 16, Nat.mod_lt _ (by omega)⟩ ⟨(y 1).val % 128, Nat.mod_lt _ (by omega)⟩)

/-- A weight buffer whose first `n` groups hold block `N`'s rows, the others what they held. -/
def part (D : Ro F) (N : Nat) (hN : N < 9) (n : Nat) (X : S768x2560.Idx → Elt F .bf16) : S768x2560.Idx → Elt F .bf16 := fun y =>
  if (y 0).val < 32 * n then wBlk D N hN y else X y

theorem part_zero (D : Ro F) (N : Nat) (hN : N < 9) (X : S768x2560.Idx → Elt F .bf16) : part D N hN 0 X = X := by
  funext y
  exact if_neg (by omega)

theorem part_all (D : Ro F) (N : Nat) (hN : N < 9) (X : S768x2560.Idx → Elt F .bf16) : part D N hN 24 X = wBlk D N hN := by
  funext y
  have : (y 0).val < 768 := (y 0).isLt
  exact if_pos (by omega)

theorem part_succ (D : Ro F) (N : Nat) (hN : N < 9) (n : Nat) (hn : n < 24) (hg : GOK (BitVec.ofNat 32 (24 * N + n))) (X : S768x2560.Idx → Elt F .bf16) :
    setG (blk D (BitVec.ofNat 32 (24 * N + n)) hg) (32 * n) (part D N hN n X) 20 = part D N hN (n + 1) X := by
  funext y
  have hy : (y 0).val < 768 := (y 0).isLt
  have hy1 : (y 1).val < 2560 := (y 1).isLt
  unfold setG part
  by_cases h : 32 * n ≤ (y 0).val ∧ (y 0).val < 32 * n + 32 ∧ (y 1).val < 128 * 20
  · rw [if_pos h, if_pos (by omega)]
    unfold wBlk
    have key : ∀ g g' (hg : GOK g) (hg' : GOK g'), g = g' → ∀ t (ht : t < 20) c c', c = c' → ∀ i j, i = j → blk D g hg t ht c i = blk D g' hg' t ht c' j := by
      intro g g' hg hg' e t ht c c' e1 i j e2
      subst e e1 e2
      rfl
    refine key _ _ _ _ ?_ _ _ _ _ ?_ _ _ ?_
    · rw [show (y 0).val / 32 = n by omega]
    · omega
    · refine congrArg (fun a => ix2 a _) (Fin.ext ?_)
      change ((y 0).val - 32 * n) % 16 = (y 0).val % 16
      omega
  · rw [if_neg h]
    by_cases h' : (y 0).val < 32 * n
    · rw [if_pos h', if_pos (by omega)]
    · rw [if_neg h', if_neg (by omega)]

/-- One group dequantised into a weight buffer. -/
theorem run_dqGroup {α : Type} (c : Dev nD) (B : Bufs) (D : Ro F) (w : Memref sig .tc .vmem S768x2560 .bf16) (hw : w.IsWhole) (X : S768x2560.Idx → Elt F .bf16)
    (g wrow : BitVec 32) (hg : GOK g) (hr : WOK wrow) (N : Nat) (hN : N < 9) (n : Nat) (hn : n < 24)
    (eg : g = BitVec.ofNat 32 (24 * N + n)) (ew : wrow = BitVec.ofNat 32 (32 * n)) (k : Pg F α) (Q : α → sProp 𝕄) :
    (iprop(roOwn c B D ∗ owns (c : Thread nD τ) w fullShare (part D N hN n X)
      ∗ (roOwn c B D -∗ owns (c : Thread nD τ) w fullShare (part D N hN (n + 1) X) -∗ Run c k Q)) : sProp 𝕄)
      ⊢ Run c (dqGroup B w hw g wrow hg hr k) Q := by
  subst eg ew
  rw [← part_succ D N hN n hn hg X]
  unfold dqGroup
  iintro ⟨R, H, K⟩
  unfold roOwn
  icases R with ⟨H0, H1, H2, H3, H4, H5, H6, H7⟩
  iapply (run_second c B.qs B.p1 B.p0 D.qs D.p1 D.p0 _ hg _ Q)
  isplitl [H1]; · iexact H1
  isplitl [H5]; · iexact H5
  isplitl [H4]; · iexact H4
  iintro H1 H5 H4
  iapply (run_second c B.qz B.p3 B.p2 D.qz D.p3 D.p2 _ hg _ Q)
  isplitl [H2]; · iexact H2
  isplitl [H7]; · iexact H7
  isplitl [H6]; · iexact H6
  iintro H2 H7 H6
  iapply (ld_owns c B.tb D.tb _ _ _ _ _ Q)
  isplitl [H3]; · iexact H3
  iintro H3
  iapply (ld_owns c B.tb D.tb _ _ _ _ _ Q)
  isplitl [H3]; · iexact H3
  iintro H3
  iapply (run_tiles c B D w hw (part D N hN n X) _ n hn hg hr (sec D.qs D.p1 D.p0 _ hg) (sec D.qz D.p3 D.p2 _ hg) (tabG D _ hg) (slotsG _) k Q 20 0 rfl)
  isplitl [H0 H1 H2 H3 H4 H5 H6 H7]
  · unfold roOwn
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H]
  · rw [setG_zero]
    iexact H
  unfold roOwn
  iexact K

/-! ## The scales widened -/

/-- A matrix of scales as two matrices of 128 columns, the second one's last 96 columns zero. -/
def widenOn (s : S432x160.Idx → Elt F .bf16) (X : S2x432x128.Idx → Elt F .f32) : S2x432x128.Idx → Elt F .f32 :=
  upd (upd X ![0, 0, 0] S1x432x128.size inb_S2x432x128_S1x432x128_0_0_0
    (shapeCast S1x432x128 (extf .f32 (rect s ![0, 0] S432x128.size inb_S432x160_S432x128_0_0 : FVec F S432x128 .bf16) bitsLt_bf16_f32 : FVec F S432x128 .f32) shapeCasts_S432x128_S1x432x128 : FVec F S1x432x128 .f32))
    ![1, 0, 0] S1x432x128.size inb_S2x432x128_S1x432x128_1_0_0
    (shapeCast S1x432x128 (concatenate S432x128 1 [⟨S432x32, extf .f32 (rect s ![0, 128] S432x32.size inb_S432x160_S432x32_0_128 : FVec F S432x32 .bf16) bitsLt_bf16_f32⟩,
      ⟨S432x96, (broadcast S432x96 (Scalar.ofBits .f32 0x00000000#32 : F .f32) : FVec F S432x96 .f32)⟩]
      concatenates_S432x32_S432x96_S432x128_d1 : FVec F S432x128 .f32) shapeCasts_S432x128_S1x432x128 : FVec F S1x432x128 .f32)

def widen (s : S432x160.Idx → Elt F .bf16) : S2x432x128.Idx → Elt F .f32 := widenOn s fun _ => Scalar.ofBits .f32 0x00000000#32

theorem widenOn_eq (s : S432x160.Idx → Elt F .bf16) (X : S2x432x128.Idx → Elt F .f32) : widenOn s X = widen s := by
  unfold widen widenOn
  funext y
  unfold upd
  split
  · rfl
  · next h1 =>
    split
    · rfl
    · next h0 =>
      exfalso
      have y0 : (y 0).val < 2 := (y 0).isLt
      have y1 : (y 1).val < 432 := (y 1).isLt
      have y2 : (y 2).val < 128 := (y 2).isLt
      rcases (by omega : (y 0).val = 0 ∨ (y 0).val = 1) with e | e
      · refine h0 fun a => ?_
        match a with
        | ⟨0, _⟩ => change 0 ≤ (y 0).val ∧ (y 0).val < 0 + 1; omega
        | ⟨1, _⟩ => change 0 ≤ (y 1).val ∧ (y 1).val < 0 + 432; omega
        | ⟨2, _⟩ => change 0 ≤ (y 2).val ∧ (y 2).val < 0 + 128; omega
      · refine h1 fun a => ?_
        match a with
        | ⟨0, _⟩ => change 1 ≤ (y 0).val ∧ (y 0).val < 1 + 1; omega
        | ⟨1, _⟩ => change 0 ≤ (y 1).val ∧ (y 1).val < 0 + 432; omega
        | ⟨2, _⟩ => change 0 ≤ (y 2).val ∧ (y 2).val < 0 + 128; omega

theorem run_fill {α : Type} (c : Dev nD) (src : Memref sig .tc .vmem S432x160 .bf16) (dst : Memref sig .tc .vmem S2x432x128 .f32)
    (s : S432x160.Idx → Elt F .bf16) (X : S2x432x128.Idx → Elt F .f32) (k : Pg F α) (Q : α → sProp 𝕄) :
    (iprop(owns (c : Thread nD τ) src fullShare s ∗ owns (c : Thread nD τ) dst fullShare X
      ∗ (owns (c : Thread nD τ) src fullShare s -∗ owns (c : Thread nD τ) dst fullShare (widen s) -∗ Run c k Q)) : sProp 𝕄)
      ⊢ Run c (fill src dst k) Q := by
  rw [← widenOn_eq s X]
  unfold fill widenOn
  iintro ⟨S, H, K⟩
  iapply (ld_owns c src s _ _ _ _ _ Q)
  isplitl [S]; · iexact S
  iintro S
  iapply (ld_owns c dst _ _ _ _ _ _ Q)
  isplitl [H]; · iexact H
  iintro H
  iapply (st_owns c dst _ _ _ _ _ _ _ Q)
  isplitl [H]; · iexact H
  iintro H
  iapply (ld_owns c src s _ _ _ _ _ Q)
  isplitl [S]; · iexact S
  iintro S
  iapply (ld_owns c dst _ _ _ _ _ _ Q)
  isplitl [H]; · iexact H
  iintro H
  iapply (st_owns c dst _ _ _ _ _ _ _ Q)
  isplitl [H]; · iexact H
  iintro H
  iapply K $$ S H

/-! ## The steps of a grid point -/

/-- The output block with one step's 256 columns overwritten by the product. -/
def yStep (x : S1024x2560.Idx → Elt F .bf16) (w : S768x2560.Idx → Elt F .bf16) (j : Fin 3) (Y : S1024x768.Idx → Elt F .bf16) : S1024x768.Idx → Elt F .bf16 :=
  upd Y ![0, 256 * j.val] S1024x256.size (yOff_inb j)
    (mmVal (rect x ![0, 0] S1024x2560.size inb_S1024x2560_S1024x2560_0_0) (rect w ![256 * j.val, 0] S256x2560.size (cOff_inb j)))

/-- The output block of a grid point. -/
def yBlk (x : S1024x2560.Idx → Elt F .bf16) (w : S768x2560.Idx → Elt F .bf16) : S1024x768.Idx → Elt F .bf16 :=
  yStep x w 2 (yStep x w 1 (yStep x w 0 fun _ => Scalar.ofBits .bf16 0x0000#16))

theorem yBlk_eq (x : S1024x2560.Idx → Elt F .bf16) (w : S768x2560.Idx → Elt F .bf16) (Y : S1024x768.Idx → Elt F .bf16) :
    yStep x w 2 (yStep x w 1 (yStep x w 0 Y)) = yBlk x w := by
  unfold yBlk yStep
  funext y
  unfold upd
  split
  · rfl
  · next h2 =>
    split
    · rfl
    · next h1 =>
      split
      · rfl
      · next h0 =>
        exfalso
        have y0 : (y 0).val < 1024 := (y 0).isLt
        have y1 : (y 1).val < 768 := (y 1).isLt
        rcases (by omega : (y 1).val < 256 ∨ (256 ≤ (y 1).val ∧ (y 1).val < 512) ∨ (512 ≤ (y 1).val ∧ (y 1).val < 768)) with e | e | e
        · refine h0 fun a => ?_
          match a with
          | ⟨0, _⟩ => change 0 ≤ (y 0).val ∧ (y 0).val < 0 + 1024; omega
          | ⟨1, _⟩ => change 0 ≤ (y 1).val ∧ (y 1).val < 0 + 256; omega
        · refine h1 fun a => ?_
          match a with
          | ⟨0, _⟩ => change 0 ≤ (y 0).val ∧ (y 0).val < 0 + 1024; omega
          | ⟨1, _⟩ => change 256 ≤ (y 1).val ∧ (y 1).val < 256 + 256; omega
        · refine h2 fun a => ?_
          match a with
          | ⟨0, _⟩ => change 0 ≤ (y 0).val ∧ (y 0).val < 0 + 1024; omega
          | ⟨1, _⟩ => change 512 ≤ (y 1).val ∧ (y 1).val < 512 + 256; omega

theorem coord0_lt (i : grid0.Coords) : (i 0).val < 9 := (i 0).isLt
theorem coord1_lt (i : grid0.Coords) : (i 1).val < 8 := (i 1).isLt
theorem nxtN_lt {n : Nat} (h : n < 9) : nxtN n < 9 := by unfold nxtN; split <;> omega

theorem run_step {α : Type} (c : Dev nD) (B : Bufs) (D : Ro F) (i : grid0.Coords) (cur other : Memref sig .tc .vmem S768x2560 .bf16) (ho : other.IsWhole)
    (j : Fin 3) (x : S1024x2560.Idx → Elt F .bf16) (w X : S768x2560.Idx → Elt F .bf16) (Y : S1024x768.Idx → Elt F .bf16) (k : Pg F α) (Q : α → sProp 𝕄) :
    (iprop(roOwn c B D ∗ owns (c : Thread nD τ) B.x fullShare x ∗ owns (c : Thread nD τ) cur fullShare w
      ∗ owns (c : Thread nD τ) other fullShare (part D (nxtN (i 0).val) (nxtN_lt (coord0_lt i)) (3 * (i 1).val + j.val) X)
      ∗ owns (c : Thread nD τ) B.y fullShare Y
      ∗ (roOwn c B D -∗ owns (c : Thread nD τ) B.x fullShare x -∗ owns (c : Thread nD τ) cur fullShare w
        -∗ owns (c : Thread nD τ) other fullShare (part D (nxtN (i 0).val) (nxtN_lt (coord0_lt i)) (3 * (i 1).val + j.val + 1) X)
        -∗ owns (c : Thread nD τ) B.y fullShare (yStep x w j Y) -∗ Run c k Q)) : sProp 𝕄)
      ⊢ Run c (step B i cur other ho j k) Q := by
  have h1 := coord1_lt i
  have hj := j.isLt
  unfold step yStep
  iintro ⟨R, HX, HC, HO, HY, K⟩
  iapply (run_dqGroup c B D other ho X _ _ _ _ (nxtN (i 0).val) (nxtN_lt (coord0_lt i)) (3 * (i 1).val + j.val) (by omega) (stepG_eq i j) (stepW_eq i j) _ Q)
  isplitl [R]; · iexact R
  isplitl [HO]; · iexact HO
  iintro R HO
  iapply (ld_owns c B.x x _ _ _ _ _ Q)
  isplitl [HX]; · iexact HX
  iintro HX
  iapply (ld_owns c cur w _ _ _ _ _ Q)
  isplitl [HC]; · iexact HC
  iintro HC
  iapply (ld_owns c B.y Y _ _ _ _ _ Q)
  isplitl [HY]; · iexact HY
  iintro HY
  iapply (st_owns c B.y Y _ _ _ _ _ _ Q)
  isplitl [HY]; · iexact HY
  iintro HY
  iapply K $$ R HX HC HO HY

theorem run_steps {α : Type} (c : Dev nD) (B : Bufs) (D : Ro F) (i : grid0.Coords) (cur other : Memref sig .tc .vmem S768x2560 .bf16) (ho : other.IsWhole)
    (x : S1024x2560.Idx → Elt F .bf16) (w X : S768x2560.Idx → Elt F .bf16) (Y : S1024x768.Idx → Elt F .bf16) (k : Pg F α) (Q : α → sProp 𝕄) :
    (iprop(roOwn c B D ∗ owns (c : Thread nD τ) B.x fullShare x ∗ owns (c : Thread nD τ) cur fullShare w
      ∗ owns (c : Thread nD τ) other fullShare (part D (nxtN (i 0).val) (nxtN_lt (coord0_lt i)) (3 * (i 1).val) X)
      ∗ owns (c : Thread nD τ) B.y fullShare Y
      ∗ (roOwn c B D -∗ owns (c : Thread nD τ) B.x fullShare x -∗ owns (c : Thread nD τ) cur fullShare w
        -∗ owns (c : Thread nD τ) other fullShare (part D (nxtN (i 0).val) (nxtN_lt (coord0_lt i)) (3 * (i 1).val + 3) X)
        -∗ owns (c : Thread nD τ) B.y fullShare (yBlk x w) -∗ Run c k Q)) : sProp 𝕄)
      ⊢ Run c (steps B i cur other ho k) Q := by
  rw [← yBlk_eq x w Y]
  unfold steps
  iintro ⟨R, HX, HC, HO, HY, K⟩
  iapply (run_step c B D i cur other ho 0 x w X Y _ Q)
  isplitl [R]; · iexact R
  isplitl [HX]; · iexact HX
  isplitl [HC]; · iexact HC
  isplitl [HO]; · iexact HO
  isplitl [HY]; · iexact HY
  iintro R HX HC HO HY
  iapply (run_step c B D i cur other ho 1 x w X _ _ Q)
  isplitl [R]; · iexact R
  isplitl [HX]; · iexact HX
  isplitl [HC]; · iexact HC
  isplitl [HO]; · iexact HO
  isplitl [HY]; · iexact HY
  iintro R HX HC HO HY
  iapply (run_step c B D i cur other ho 2 x w X _ _ Q)
  isplitl [R]; · iexact R
  isplitl [HX]; · iexact HX
  isplitl [HC]; · iexact HC
  isplitl [HO]; · iexact HO
  isplitl [HY]; · iexact HY
  iexact K

/-- The loop of the first grid point: the first weight buffer comes to hold block 0. -/
theorem run_loop {α : Type} (c : Dev nD) (B : Bufs) (D : Ro F) (i : grid0.Coords) (h : k0_cond1 i = 1#1) (X : S768x2560.Idx → Elt F .bf16) (k : Pg F α) (Q : α → sProp 𝕄) :
    (iprop(roOwn c B D ∗ owns (c : Thread nD τ) B.w0 fullShare X
      ∗ (roOwn c B D -∗ owns (c : Thread nD τ) B.w0 fullShare (wBlk D 0 (by omega)) -∗ Run c k Q)) : sProp 𝕄)
      ⊢ Run c ((Scf.Loop.for k0_t1_loop (k0_t1_ok i h) (⟨⟩ : PUnit) fun t _ =>
        dqGroup B B.w0 B.hw0 (loopG t) (loopW t) (loopG_ok t) (loopW_ok t) (.ret ⟨⟩ : Pg F PUnit)).bind fun _ => k) Q := by
  have hb : ∀ (t : Fin k0_t1_loop.trips) (a : PUnit),
      (iprop(roOwn c B D ∗ owns (c : Thread nD τ) B.w0 fullShare (part D 0 (by omega) t.val X)) : sProp 𝕄)
        ⊢ Run c (dqGroup B B.w0 B.hw0 (loopG t) (loopW t) (loopG_ok t) (loopW_ok t) (.ret ⟨⟩ : Pg F PUnit))
          (fun _ => iprop(roOwn c B D ∗ owns (c : Thread nD τ) B.w0 fullShare (part D 0 (by omega) (t.val + 1) X))) := by
    intro t a
    have ht : t.val < 24 := by have := t.isLt; have := trips_eq; omega
    iintro ⟨R, H⟩
    iapply (run_dqGroup c B D B.w0 B.hw0 X _ _ _ _ 0 (by omega) t.val ht ((loopG_eq t).trans (by rw [Nat.mul_zero, Nat.zero_add])) (loopW_eq t) _ _)
    isplitl [R]; · iexact R
    isplitl [H]; · iexact H
    iintro R H
    unfold Run
    rw [wp_ret]
    imodintro
    isplitl [R]; · iexact R
    iexact H
  iintro ⟨R, H, K⟩
  ihave L := (Scf.wp_for_bind frame (wpE (defs₀ (F := F)) Variants.none c none) Set.univ k0_t1_loop.lb k0_t1_loop.ub k0_t1_loop.st (k0_t1_ok i h) (⟨⟩ : PUnit)
    (fun t _ => dqGroup B B.w0 B.hw0 (loopG t) (loopW t) (loopG_ok t) (loopW_ok t) (.ret ⟨⟩ : Pg F PUnit))
    (fun n _ => iprop(roOwn c B D ∗ owns (c : Thread nD τ) B.w0 fullShare (part D 0 (by omega) n X))) hb (kk := fun _ => k) (Q := Q)) $$ [R H]
  · isplitl [R]; · iexact R
    rw [part_zero]
    iexact H
  iapply L
  iintro %a ⟨R, H⟩
  have e : Scf.trips k0_t1_loop.lb k0_t1_loop.ub k0_t1_loop.st = 24 := trips_eq
  rw [e, part_all]
  iapply K $$ R H

/-! ## The body -/

theorem cond1_eq : ∀ i : grid0.Coords, k0_cond1 i = 1#1 ↔ (i 0).val = 0 ∧ (i 1).val = 0 := by decide +kernel
theorem cond2_eq : ∀ i : grid0.Coords, k0_cond2 i = 1#1 ↔ (i 0).val % 2 = 0 := by decide +kernel
theorem cond3_eq : ∀ i : grid0.Coords, k0_cond3 i = 1#1 ↔ ¬ (i 0).val % 2 = 0 := by decide +kernel

/-- The two weight buffers at column `n` of the grid: one holds block `n` of the weight, the other the first
    `k` groups of the next block. -/
def wOwn (c : Dev nD) (w0 w1 : Memref sig .tc .vmem S768x2560 .bf16) (D : Ro F) (n : Nat) (hn : n < 9) (k : Nat) : sProp 𝕄 :=
  iprop(∃ Z, owns (c : Thread nD τ) (if n % 2 = 0 then w0 else w1) fullShare (wBlk D n hn)
    ∗ owns (c : Thread nD τ) (if n % 2 = 0 then w1 else w0) fullShare (part D (nxtN n) (nxtN_lt hn) k Z))

/-- From the last point of a column to the first of the next. -/
theorem wOwn_next (c : Dev nD) (w0 w1 : Memref sig .tc .vmem S768x2560 .bf16) (D : Ro F) (n : Nat) (hn : n < 9) (hn' : n + 1 < 9) :
    (wOwn c w0 w1 D n hn 24 : sProp 𝕄) ⊢ wOwn c w0 w1 D (n + 1) hn' 0 := by
  have key : ∀ N (hN : N < 9) (h : N = n + 1) X, part D N hN 24 X = wBlk D (n + 1) hn' := by
    intro N hN h X
    subst h
    exact part_all D _ _ X
  have e : nxtN n = n + 1 := by unfold nxtN; rw [if_neg (by omega)]
  unfold wOwn
  rcases Nat.mod_two_eq_zero_or_one n with h | h
  · rw [if_pos h, if_pos h, if_neg (by omega), if_neg (by omega)]
    iintro ⟨%Z, A, C⟩
    iexists (wBlk D n hn)
    rw [key _ _ e, part_zero]
    isplitl [C]; · iexact C
    iexact A
  · rw [if_neg (by omega), if_neg (by omega), if_pos (by omega), if_pos (by omega)]
    iintro ⟨%Z, A, C⟩
    iexists (wBlk D n hn)
    rw [key _ _ e, part_zero]
    isplitl [C]; · iexact C
    iexact A

theorem run_mid {α : Type} (c : Dev nD) (B : Bufs) (D : Ro F) (i : grid0.Coords)
    (x : S1024x2560.Idx → Elt F .bf16) (Y : S1024x768.Idx → Elt F .bf16) (k : Pg F α) (Q : α → sProp 𝕄) :
    (iprop(roOwn c B D ∗ owns (c : Thread nD τ) B.x fullShare x ∗ wOwn c B.w0 B.w1 D (i 0).val (coord0_lt i) (3 * (i 1).val)
      ∗ owns (c : Thread nD τ) B.y fullShare Y
      ∗ (roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Run c k Q)) : sProp 𝕄)
      ⊢ Run c (even B i (odd B i k)) Q := by
  unfold even odd wOwn
  by_cases h : (i 0).val % 2 = 0
  · rw [if_pos ((cond2_eq i).mpr h), if_neg (fun h' => (cond3_eq i).mp h' h), if_pos h, if_pos h]
    iintro ⟨R, HX, ⟨%Z, HC, HO⟩, HY, K⟩
    iapply (run_steps c B D i B.w0 B.w1 B.hw1 x _ Z Y _ Q)
    isplitl [R]; · iexact R
    isplitl [HX]; · iexact HX
    isplitl [HC]; · iexact HC
    isplitl [HO]; · iexact HO
    isplitl [HY]; · iexact HY
    iintro R HX HC HO HY
    iapply K $$ R HX [HC HO] HY
    iexists Z
    isplitl [HC]; · iexact HC
    iexact HO
  · rw [if_neg (fun h' => h ((cond2_eq i).mp h')), if_pos ((cond3_eq i).mpr h), if_neg h, if_neg h]
    iintro ⟨R, HX, ⟨%Z, HC, HO⟩, HY, K⟩
    iapply (run_steps c B D i B.w1 B.w0 B.hw0 x _ Z Y _ Q)
    isplitl [R]; · iexact R
    isplitl [HX]; · iexact HX
    isplitl [HC]; · iexact HC
    isplitl [HO]; · iexact HO
    isplitl [HY]; · iexact HY
    iintro R HX HC HO HY
    iapply K $$ R HX [HC HO] HY
    iexists Z
    isplitl [HC]; · iexact HC
    iexact HO

/-- The body at a grid point after the first. -/
theorem run_later (c : Dev nD) (B : Bufs) (D : Ro F) (i : grid0.Coords) (hi : ¬ ((i 0).val = 0 ∧ (i 1).val = 0))
    (x : S1024x2560.Idx → Elt F .bf16) (Y : S1024x768.Idx → Elt F .bf16) (Q : PUnit → sProp 𝕄) :
    (iprop(roOwn c B D ∗ owns (c : Thread nD τ) B.x fullShare x ∗ wOwn c B.w0 B.w1 D (i 0).val (coord0_lt i) (3 * (i 1).val)
      ∗ owns (c : Thread nD τ) B.y fullShare Y
      ∗ (roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Q ⟨⟩)) : sProp 𝕄)
      ⊢ Run c (body B i) Q := by
  unfold body first
  rw [dif_neg (fun h => hi ((cond1_eq i).mp h))]
  iintro ⟨R, HX, HW, HY, K⟩
  iapply (run_mid c B D i x Y _ Q)
  isplitl [R]; · iexact R
  isplitl [HX]; · iexact HX
  isplitl [HW]; · iexact HW
  isplitl [HY]; · iexact HY
  iintro R HX HW HY
  unfold Run
  rw [wp_ret]
  imodintro
  iapply K $$ R HX HW HY

/-- The body at the first grid point. -/
theorem run_first (c : Dev nD) (B : Bufs) (D : Ro F) (i : grid0.Coords) (hi : (i 0).val = 0 ∧ (i 1).val = 0)
    (s0 s1 s2 s3 : S432x160.Idx → Elt F .bf16) (h0 : D.p0 = widen s0) (h1 : D.p1 = widen s1) (h2 : D.p2 = widen s2) (h3 : D.p3 = widen s3)
    (x : S1024x2560.Idx → Elt F .bf16) (Y : S1024x768.Idx → Elt F .bf16) (Q : PUnit → sProp 𝕄) :
    (iprop(owns (c : Thread nD τ) B.q fullShare D.q ∗ owns (c : Thread nD τ) B.qs fullShare D.qs ∗ owns (c : Thread nD τ) B.qz fullShare D.qz ∗ owns (c : Thread nD τ) B.tb fullShare D.tb
      ∗ owns (c : Thread nD τ) B.s0 fullShare s0 ∗ owns (c : Thread nD τ) B.s1 fullShare s1 ∗ owns (c : Thread nD τ) B.s2 fullShare s2 ∗ owns (c : Thread nD τ) B.s3 fullShare s3
      ∗ (∃ X, owns (c : Thread nD τ) B.p0 fullShare X) ∗ (∃ X, owns (c : Thread nD τ) B.p1 fullShare X) ∗ (∃ X, owns (c : Thread nD τ) B.p2 fullShare X) ∗ (∃ X, owns (c : Thread nD τ) B.p3 fullShare X)
      ∗ (∃ X, owns (c : Thread nD τ) B.w0 fullShare X) ∗ (∃ X, owns (c : Thread nD τ) B.w1 fullShare X)
      ∗ owns (c : Thread nD τ) B.x fullShare x ∗ owns (c : Thread nD τ) B.y fullShare Y
      ∗ (owns (c : Thread nD τ) B.s0 fullShare s0 -∗ owns (c : Thread nD τ) B.s1 fullShare s1 -∗ owns (c : Thread nD τ) B.s2 fullShare s2 -∗ owns (c : Thread nD τ) B.s3 fullShare s3
        -∗ roOwn c B D -∗ owns (c : Thread nD τ) B.x fullShare x -∗ wOwn c B.w0 B.w1 D (i 0).val (coord0_lt i) (3 * (i 1).val + 3)
        -∗ owns (c : Thread nD τ) B.y fullShare (yBlk x (wBlk D (i 0).val (coord0_lt i))) -∗ Q ⟨⟩)) : sProp 𝕄)
      ⊢ Run c (body B i) Q := by
  have hc := (cond1_eq i).mpr hi
  unfold body first
  rw [dif_pos hc]
  unfold prologue
  iintro ⟨Hq, Hqs, Hqz, Htb, H0, H1, H2, H3, ⟨%X0, P0⟩, ⟨%X1, P1⟩, ⟨%X2, P2⟩, ⟨%X3, P3⟩, ⟨%W0, W0⟩, ⟨%W1, W1⟩, HX, HY, K⟩
  iapply (run_fill c B.s0 B.p0 s0 X0 _ Q)
  isplitl [H0]; · iexact H0
  isplitl [P0]; · iexact P0
  iintro H0 P0
  iapply (run_fill c B.s1 B.p1 s1 X1 _ Q)
  isplitl [H1]; · iexact H1
  isplitl [P1]; · iexact P1
  iintro H1 P1
  iapply (run_fill c B.s2 B.p2 s2 X2 _ Q)
  isplitl [H2]; · iexact H2
  isplitl [P2]; · iexact P2
  iintro H2 P2
  iapply (run_fill c B.s3 B.p3 s3 X3 _ Q)
  isplitl [H3]; · iexact H3
  isplitl [P3]; · iexact P3
  iintro H3 P3
  iapply (run_loop c B D i hc W0 _ Q)
  isplitl [Hq Hqs Hqz Htb P0 P1 P2 P3]
  · unfold roOwn
    rw [h0, h1, h2, h3]
    isplitl [Hq]; · iexact Hq
    isplitl [Hqs]; · iexact Hqs
    isplitl [Hqz]; · iexact Hqz
    isplitl [Htb]; · iexact Htb
    isplitl [P0]; · iexact P0
    isplitl [P1]; · iexact P1
    isplitl [P2]; · iexact P2
    iexact P3
  isplitl [W0]; · iexact W0
  iintro R W0
  iapply (run_mid c B D i x Y _ Q)
  isplitl [R]; · iexact R
  isplitl [HX]; · iexact HX
  isplitl [W0 W1]
  · have key : ∀ n (hn : n < 9) m, n = 0 → m = 0 → (iprop(owns (c : Thread nD τ) B.w0 fullShare (wBlk D 0 (by omega)) ∗ owns (c : Thread nD τ) B.w1 fullShare W1) : sProp 𝕄) ⊢ wOwn c B.w0 B.w1 D n hn (3 * m) := by
      intro n hn m e e'
      subst e e'
      unfold wOwn
      rw [if_pos rfl, if_pos rfl]
      iintro ⟨A, C⟩
      iexists W1
      isplitl [A]; · iexact A
      rw [show 3 * 0 = 0 from rfl, part_zero]
      iexact C
    iapply (key _ (coord0_lt i) _ hi.1 hi.2)
    isplitl [W0]; · iexact W0
    iexact W1
  isplitl [HY]; · iexact HY
  iintro R HX HW HY
  unfold Run
  rw [wp_ret]
  imodintro
  iapply K $$ H0 H1 H2 H3 R HX HW HY

end Cert.KernelIdeal.Hand

end
-- ==== Proof.KernelIdeal.Printed.lean ====
/-
  The printed kernel body is the compact program of `Body.lean`: the two unfold to the same sequence of loads
  and stores of the same values.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.SL.Sem
open Idealize.ShloMosaic.Tactic

variable {F : FTy → Type} [FloatOps F]

/-- The printed body's first part: the preparation and the step of the grid points where the first weight
    buffer is the one read. -/
theorem part_eq (B : Bufs) (i : grid0.Coords) :
    k0_part603 (F := F) i B.x B.hx B.q B.hq B.qs B.hqs B.qz B.hqz B.s0 B.hs0 B.s1 B.hs1 B.s2 B.hs2 B.s3 B.hs3 B.tb B.htb B.y B.hy B.w0 B.hw0 B.w1 B.hw1 B.p0 B.hp0 B.p1 B.hp1 B.p2 B.hp2 B.p3 B.hp3 =
      first B i (even B i (.ret ⟨BitVec.ofNat 32 (i 1).val, nxt i⟩)) := by
  sl_kernel_rfl

theorem fill_bind {α β : Type} (src : Memref sig .tc .vmem S432x160 .bf16) (dst : Memref sig .tc .vmem S2x432x128 .f32)
    (k : Pg F α) (f : α → Pg F β) : (fill src dst k).bind f = fill src dst (k.bind f) := by
  sl_kernel_rfl

theorem steps_bind {α β : Type} (B : Bufs) (i : grid0.Coords) (cur other : Memref sig .tc .vmem S768x2560 .bf16) (ho : other.IsWhole)
    (k : Pg F α) (f : α → Pg F β) : (steps B i cur other ho k).bind f = steps B i cur other ho (k.bind f) := by
  sl_kernel_rfl

theorem first_bind {α β : Type} (B : Bufs) (i : grid0.Coords) (k : Pg F α) (f : α → Pg F β) :
    (first B i k).bind f = first B i (k.bind f) := by
  unfold first
  split
  · unfold prologue
    rw [fill_bind, fill_bind, fill_bind, fill_bind]
    refine congrArg (fill B.s0 B.p0) (congrArg (fill B.s1 B.p1) (congrArg (fill B.s2 B.p2) (congrArg (fill B.s3 B.p3) ?_)))
    exact Prog.bind_assoc _ _ _
  · rfl

theorem even_bind {α β : Type} (B : Bufs) (i : grid0.Coords) (k : Pg F α) (f : α → Pg F β) :
    (even B i k).bind f = even B i (k.bind f) := by
  unfold even
  split
  · exact steps_bind B i B.w0 B.w1 B.hw1 k f
  · rfl

/-- The printed body is the compact program. -/
theorem body_eq (B : Bufs) (i : grid0.Coords) :
    cc0_dequant_matmul (F := F) i B.x B.hx B.q B.hq B.qs B.hqs B.qz B.hqz B.s0 B.hs0 B.s1 B.hs1 B.s2 B.hs2 B.s3 B.hs3 B.tb B.htb B.y B.hy B.w0 B.hw0 B.w1 B.hw1 B.p0 B.hp0 B.p1 B.hp1 B.p2 B.hp2 B.p3 B.hp3 = body B i := by
  refine (congrArg (fun p => Prog.bind p _) (part_eq B i)).trans ?_
  refine (first_bind B i _ _).trans (congrArg (first B i) ?_)
  refine (even_bind B i _ _).trans (congrArg (even B i) ?_)
  sl_kernel_rfl

end Cert.KernelIdeal.Hand

end
-- ==== Proof.KernelIdeal.Frame.lean ====
/-
  The run: what the two weight buffers and the widened scales hold between grid points, the obligation of the
  body at every point, and from them the run of the whole program: the arguments end as they began, every
  semaphore ends at zero, and the result array holds the blocks the body leaves.
-/
module

public import proofs.«01_k».proof.Proof.KernelIdeal.Steps
public import proofs.«01_k».proof.Proof.KernelIdeal.Printed
public import Idealize.ShloMosaic.Lib.Pipeline.ValueKit.Geometry
public import Idealize.ShloMosaic.Lib.Pointwise.Index
public import Idealize.ShloMosaic.Lib.Pointwise.Reshape

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays -/

/-- What the groups' values are made of, from the argument arrays. -/
def roOf (c : Dev nD) : Ro F where
  q := V m c main_arg1
  qs := V m c main_arg2
  qz := V m c main_arg3
  tb := V m c main_arg8
  p0 := widen (V m c main_arg4)
  p1 := widen (V m c main_arg5)
  p2 := widen (V m c main_arg6)
  p3 := widen (V m c main_arg7)

theorem idx1 : ∀ t : Fin cfg0.N, win0_1.index t = ![0, 0, 0] :=
  (by decide +kernel : ∀ t : Fin grid0.N, win0_1.index t = ![0, 0, 0])
theorem iblk1 (c : Dev nD) (t : Fin cfg0.N) : iblk m c 1 t = V m c main_arg1 := by
  funext x
  blk_ext [iblk, V, idx1 t]
theorem idx2 : ∀ t : Fin cfg0.N, win0_2.index t = ![0, 0, 0] :=
  (by decide +kernel : ∀ t : Fin grid0.N, win0_2.index t = ![0, 0, 0])
theorem iblk2 (c : Dev nD) (t : Fin cfg0.N) : iblk m c 2 t = V m c main_arg2 := by
  funext x
  blk_ext [iblk, V, idx2 t]
theorem idx3 : ∀ t : Fin cfg0.N, win0_3.index t = ![0, 0, 0] :=
  (by decide +kernel : ∀ t : Fin grid0.N, win0_3.index t = ![0, 0, 0])
theorem iblk3 (c : Dev nD) (t : Fin cfg0.N) : iblk m c 3 t = V m c main_arg3 := by
  funext x
  blk_ext [iblk, V, idx3 t]
theorem idx4 : ∀ t : Fin cfg0.N, win0_4.index t = ![0, 0] :=
  (by decide +kernel : ∀ t : Fin grid0.N, win0_4.index t = ![0, 0])
theorem iblk4 (c : Dev nD) (t : Fin cfg0.N) : iblk m c 4 t = V m c main_arg4 := by
  funext x
  blk_ext [iblk, V, idx4 t]
theorem idx5 : ∀ t : Fin cfg0.N, win0_5.index t = ![0, 0] :=
  (by decide +kernel : ∀ t : Fin grid0.N, win0_5.index t = ![0, 0])
theorem iblk5 (c : Dev nD) (t : Fin cfg0.N) : iblk m c 5 t = V m c main_arg5 := by
  funext x
  blk_ext [iblk, V, idx5 t]
theorem idx6 : ∀ t : Fin cfg0.N, win0_6.index t = ![0, 0] :=
  (by decide +kernel : ∀ t : Fin grid0.N, win0_6.index t = ![0, 0])
theorem iblk6 (c : Dev nD) (t : Fin cfg0.N) : iblk m c 6 t = V m c main_arg6 := by
  funext x
  blk_ext [iblk, V, idx6 t]
theorem idx7 : ∀ t : Fin cfg0.N, win0_7.index t = ![0, 0] :=
  (by decide +kernel : ∀ t : Fin grid0.N, win0_7.index t = ![0, 0])
theorem iblk7 (c : Dev nD) (t : Fin cfg0.N) : iblk m c 7 t = V m c main_arg7 := by
  funext x
  blk_ext [iblk, V, idx7 t]
theorem idx8 : ∀ t : Fin cfg0.N, win0_8.index t = ![0, 0, 0, 0] :=
  (by decide +kernel : ∀ t : Fin grid0.N, win0_8.index t = ![0, 0, 0, 0])
theorem iblk8 (c : Dev nD) (t : Fin cfg0.N) : iblk m c 8 t = V m c main_arg8 := by
  funext x
  blk_ext [iblk, V, idx8 t]

theorem coord0_eq : ∀ t : Fin grid0.N, (grid0.coords t 0).val = t.val / 8 := by decide +kernel
theorem coord1_eq : ∀ t : Fin grid0.N, (grid0.coords t 1).val = t.val % 8 := by decide +kernel

/-! ## The proof data -/

/-- The buffers at a grid point. -/
def bufs (t : Fin cfg0.N) : Bufs where
  x := win0_0.stage (cfg0.slots t 0)
  hx := hstage0_0 ((cfg0.slots t 0).cast nbuf0_0)
  q := win0_1.stage (cfg0.slots t 1)
  hq := hstage0_1 ((cfg0.slots t 1).cast nbuf0_1)
  qs := win0_2.stage (cfg0.slots t 2)
  hqs := hstage0_2 ((cfg0.slots t 2).cast nbuf0_2)
  qz := win0_3.stage (cfg0.slots t 3)
  hqz := hstage0_3 ((cfg0.slots t 3).cast nbuf0_3)
  s0 := win0_4.stage (cfg0.slots t 4)
  hs0 := hstage0_4 ((cfg0.slots t 4).cast nbuf0_4)
  s1 := win0_5.stage (cfg0.slots t 5)
  hs1 := hstage0_5 ((cfg0.slots t 5).cast nbuf0_5)
  s2 := win0_6.stage (cfg0.slots t 6)
  hs2 := hstage0_6 ((cfg0.slots t 6).cast nbuf0_6)
  s3 := win0_7.stage (cfg0.slots t 7)
  hs3 := hstage0_7 ((cfg0.slots t 7).cast nbuf0_7)
  tb := win0_8.stage (cfg0.slots t 8)
  htb := hstage0_8 ((cfg0.slots t 8).cast nbuf0_8)
  y := win0_9.stage (cfg0.slots t 9)
  hy := hstage0_9 ((cfg0.slots t 9).cast nbuf0_9)
  w0 := Memref.whole cc0_scratch0
  hw0 := Memref.isWhole_whole _
  w1 := Memref.whole cc0_scratch1
  hw1 := Memref.isWhole_whole _
  p0 := Memref.whole cc0_scratch2
  hp0 := Memref.isWhole_whole _
  p1 := Memref.whole cc0_scratch3
  hp1 := Memref.isWhole_whole _
  p2 := Memref.whole cc0_scratch4
  hp2 := Memref.isWhole_whole _
  p3 := Memref.whole cc0_scratch5
  hp3 := Memref.isWhole_whole _

/-- What the scratch buffers hold between grid points: anything before the first and after the last, else the
    widened scales, and the weight buffers of the point to come. -/
def Inv (c : Dev nD) (t : Nat) : sProp 𝕄 :=
  if h : t ≠ 0 ∧ t < 72 then
    iprop(owns (c : Thread nD τ) (Memref.whole cc0_scratch2 : Memref sig .tc .vmem S2x432x128 .f32) fullShare (roOf m c).p0
      ∗ owns (c : Thread nD τ) (Memref.whole cc0_scratch3 : Memref sig .tc .vmem S2x432x128 .f32) fullShare (roOf m c).p1
      ∗ owns (c : Thread nD τ) (Memref.whole cc0_scratch4 : Memref sig .tc .vmem S2x432x128 .f32) fullShare (roOf m c).p2
      ∗ owns (c : Thread nD τ) (Memref.whole cc0_scratch5 : Memref sig .tc .vmem S2x432x128 .f32) fullShare (roOf m c).p3
      ∗ wOwn c (Memref.whole cc0_scratch0) (Memref.whole cc0_scratch1) (roOf m c) (t / 8) (by omega) (3 * (t % 8))
      ∗ ∃ r, prngReg c r)
  else Pipeline.ΦA spec0 c

theorem Inv_out (c : Dev nD) (t : Nat) (h : ¬ (t ≠ 0 ∧ t < 72)) : Inv m c t = Pipeline.ΦA spec0 c := dif_neg h

/-- What the body leaves in the result's block at a grid point: the input's block times the weight's block. -/
def outAt (c : Dev nD) (t : Fin cfg0.N) : S1024x768.Idx → Elt F .bf16 :=
  yBlk (iblk m c 0 t) (wBlk (roOf m c) (grid0.coords t 0).val (coord0_lt _))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem bodyAt_eq (t : Fin cfg0.N) : bodyAt0 (F := F) t = body (bufs t) (grid0.coords t) :=
  body_eq (bufs t) (grid0.coords t)

/-- The scratch buffers, each at some contents. -/
theorem scratch_eq (c : Dev nD) :
    (Pipeline.scopedRest (Ix := Unit) (Name := ℕ) (U := UR sig nD τ) (Lvl := ℕ) (Val := Elt F) spec0 c : sProp 𝕄) = iprop((∃ X, owns (c : Thread nD τ) (Memref.whole cc0_scratch0 : Memref sig .tc .vmem S768x2560 .bf16) fullShare X)
      ∗ (∃ X, owns (c : Thread nD τ) (Memref.whole cc0_scratch1 : Memref sig .tc .vmem S768x2560 .bf16) fullShare X)
      ∗ (∃ X, owns (c : Thread nD τ) (Memref.whole cc0_scratch2 : Memref sig .tc .vmem S2x432x128 .f32) fullShare X)
      ∗ (∃ X, owns (c : Thread nD τ) (Memref.whole cc0_scratch3 : Memref sig .tc .vmem S2x432x128 .f32) fullShare X)
      ∗ (∃ X, owns (c : Thread nD τ) (Memref.whole cc0_scratch4 : Memref sig .tc .vmem S2x432x128 .f32) fullShare X)
      ∗ (∃ X, owns (c : Thread nD τ) (Memref.whole cc0_scratch5 : Memref sig .tc .vmem S2x432x128 .f32) fullShare X)) := by
  rw [scopedRest0_eq]
  simp only [owns_whole]

/-- The scratch buffers at anything, from the invariant's form. -/
theorem anyW (c : Dev nD) (D : Ro F) (n : Nat) (hn : n < 9) (k : Nat) :
    (wOwn c (Memref.whole cc0_scratch0) (Memref.whole cc0_scratch1) D n hn k : sProp 𝕄)
      ⊢ iprop((∃ X, owns (c : Thread nD τ) (Memref.whole cc0_scratch0 : Memref sig .tc .vmem S768x2560 .bf16) fullShare X) ∗ (∃ X, owns (c : Thread nD τ) (Memref.whole cc0_scratch1 : Memref sig .tc .vmem S768x2560 .bf16) fullShare X)) := by
  unfold wOwn
  by_cases h : n % 2 = 0
  · rw [if_pos h, if_pos h]
    iintro ⟨%Z, A, C⟩
    isplitl [A]; · iexists _; iexact A
    iexists _; iexact C
  · rw [if_neg h, if_neg h]
    iintro ⟨%Z, A, C⟩
    isplitl [C]; · iexists _; iexact C
    iexists _; iexact A

/-- The invariant after a point, from what the body leaves. -/
theorem inv_succ (c : Dev nD) (t : Fin cfg0.N) :
    (iprop(owns (c : Thread nD τ) (Memref.whole cc0_scratch2 : Memref sig .tc .vmem S2x432x128 .f32) fullShare (roOf m c).p0
      ∗ owns (c : Thread nD τ) (Memref.whole cc0_scratch3 : Memref sig .tc .vmem S2x432x128 .f32) fullShare (roOf m c).p1
      ∗ owns (c : Thread nD τ) (Memref.whole cc0_scratch4 : Memref sig .tc .vmem S2x432x128 .f32) fullShare (roOf m c).p2
      ∗ owns (c : Thread nD τ) (Memref.whole cc0_scratch5 : Memref sig .tc .vmem S2x432x128 .f32) fullShare (roOf m c).p3
      ∗ wOwn c (Memref.whole cc0_scratch0) (Memref.whole cc0_scratch1) (roOf m c) (grid0.coords t 0).val (coord0_lt _) (3 * (grid0.coords t 1).val + 3)
      ∗ ∃ r, prngReg c r) : sProp 𝕄) ⊢ Inv m c (t.val + 1) := by
  have e0 := coord0_eq t
  have e1 := coord1_eq t
  have ht : t.val < 72 := t.isLt
  have key : ∀ n (hn : n < 9) k n' (hn' : n' < 9) k', n = n' → k = k' →
      (wOwn c (Memref.whole cc0_scratch0) (Memref.whole cc0_scratch1) (roOf m c) n hn k : sProp 𝕄) ⊢ wOwn c (Memref.whole cc0_scratch0) (Memref.whole cc0_scratch1) (roOf m c) n' hn' k' := by
    intro n hn k n' hn' k' a b
    subst a b
    exact .rfl
  unfold Inv
  by_cases h : t.val + 1 < 72
  · rw [dif_pos ⟨by omega, h⟩]
    iintro ⟨P0, P1, P2, P3, W, R⟩
    isplitl [P0]; · iexact P0
    isplitl [P1]; · iexact P1
    isplitl [P2]; · iexact P2
    isplitl [P3]; · iexact P3
    isplitl [W]
    · by_cases h7 : t.val % 8 = 7
      · iapply (key (t.val / 8 + 1) (by omega) 0 ((t.val + 1) / 8) _ (3 * ((t.val + 1) % 8)) (by omega) (by omega))
        iapply (wOwn_next c _ _ (roOf m c) (t.val / 8) (by omega) _)
        iapply (key (grid0.coords t 0).val (coord0_lt _) (3 * (grid0.coords t 1).val + 3) (t.val / 8) _ 24 e0 (by omega))
        iexact W
      · iapply (key (grid0.coords t 0).val (coord0_lt _) (3 * (grid0.coords t 1).val + 3) ((t.val + 1) / 8) _ (3 * ((t.val + 1) % 8)) (by omega) (by omega))
        iexact W
    iexact R
  · rw [dif_neg (by omega)]
    unfold Pipeline.ΦA
    rw [scratch_eq]
    iintro ⟨P0, P1, P2, P3, W, R⟩
    ihave W := (anyW c (roOf m c) _ _ _) $$ W
    icases W with ⟨⟨%W0, W0⟩, ⟨%W1, W1⟩⟩
    isplitl [P0 P1 P2 P3 W0 W1]
    · isplitl [W0]; · iexists _; iexact W0
      isplitl [W1]; · iexists _; iexact W1
      isplitl [P0]; · iexists _; iexact P0
      isplitl [P1]; · iexists _; iexact P1
      isplitl [P2]; · iexists _; iexact P2
      iexists _; iexact P3
    iexact R

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  rw [show (dats m 0 c).Φ t.succ = Inv m c (t.val + 1) from rfl, show (dats m 0 c).Φ t.castSucc = Inv m c t.val from rfl]
  rw [show (dats m 0 c).owesAt () t.succ = (dats m 0 c).owesAt () t.castSucc from rfl]
  rw [after0_0, after0_1, after0_2, after0_3, after0_4, after0_5, after0_6, after0_7, after0_8, after0_9]
  simp only [before0_0, before0_1, before0_2, before0_3, before0_4, before0_5, before0_6, before0_7, before0_8]
  rw [iblk1, iblk2, iblk3, iblk4, iblk5, iblk6, iblk7, iblk8]
  unfold outAt
  by_cases h0 : t.val = 0
  · have hi : (grid0.coords t 0).val = 0 ∧ (grid0.coords t 1).val = 0 := by
      rw [coord0_eq, coord1_eq, h0]; exact ⟨rfl, rfl⟩
    rw [show Inv m c t.val = Pipeline.ΦA spec0 c from dif_neg (by omega)]
    unfold Pipeline.ΦA
    rw [scratch_eq]
    iintro ⟨⟨⟨S0, S1, S2, S3, S4, S5⟩, R⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (bufs t) (roOf m c) (grid0.coords t) hi (V m c main_arg4) (V m c main_arg5) (V m c main_arg6) (V m c main_arg7) rfl rfl rfl rfl (iblk m c 0 t) ((dats m 0 c).before 9 t d9) _)
    isplitl [H1]; · iexact H1
    isplitl [H2]; · iexact H2
    isplitl [H3]; · iexact H3
    isplitl [H8]; · iexact H8
    isplitl [H4]; · iexact H4
    isplitl [H5]; · iexact H5
    isplitl [H6]; · iexact H6
    isplitl [H7]; · iexact H7
    isplitl [S2]; · iexact S2
    isplitl [S3]; · iexact S3
    isplitl [S4]; · iexact S4
    isplitl [S5]; · iexact S5
    isplitl [S0]; · iexact S0
    isplitl [S1]; · iexact S1
    isplitl [H0]; · iexact H0
    isplitl [H9]; · iexact H9
    iintro H4 H5 H6 H7 RO H0 W H9
    unfold roOwn
    icases RO with ⟨H1, H2, H3, H8, P0, P1, P2, P3⟩
    isplitl [P0 P1 P2 P3 W R]
    · iapply (inv_succ m c t)
      isplitl [P0]; · iexact P0
      isplitl [P1]; · iexact P1
      isplitl [P2]; · iexact P2
      isplitl [P3]; · iexact P3
      isplitl [W]; · iexact W
      iexact R
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have ht : t.val < 72 := t.isLt
    have e0 := coord0_eq t
    have e1 := coord1_eq t
    have key : ∀ n (hn : n < 9) k n' (hn' : n' < 9) k', n = n' → k = k' →
        (wOwn c (Memref.whole cc0_scratch0) (Memref.whole cc0_scratch1) (roOf m c) n hn k : sProp 𝕄) ⊢ wOwn c (Memref.whole cc0_scratch0) (Memref.whole cc0_scratch1) (roOf m c) n' hn' k' := by
      intro n hn k n' hn' k' a b
      subst a b
      exact .rfl
    rw [show Inv m c t.val = _ from dif_pos ⟨h0, ht⟩]
    iintro ⟨⟨P0, P1, P2, P3, W, R⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (bufs t) (roOf m c) (grid0.coords t) (by omega) (iblk m c 0 t) ((dats m 0 c).before 9 t d9) _)
    isplitl [H1 H2 H3 H8 P0 P1 P2 P3]
    · unfold roOwn
      isplitl [H1]; · iexact H1
      isplitl [H2]; · iexact H2
      isplitl [H3]; · iexact H3
      isplitl [H8]; · iexact H8
      isplitl [P0]; · iexact P0
      isplitl [P1]; · iexact P1
      isplitl [P2]; · iexact P2
      iexact P3
    isplitl [H0]; · iexact H0
    isplitl [W]
    · iapply (key (t.val / 8) (by omega) (3 * (t.val % 8)) (grid0.coords t 0).val (coord0_lt _) (3 * (grid0.coords t 1).val) e0.symm (by omega))
      iexact W
    isplitl [H9]; · iexact H9
    iintro RO H0 W H9
    unfold roOwn
    icases RO with ⟨H1, H2, H3, H8, P0, P1, P2, P3⟩
    isplitl [P0 P1 P2 P3 W R]
    · iapply (inv_succ m c t)
      isplitl [P0]; · iexact P0
      isplitl [P1]; · iexact P1
      isplitl [P2]; · iexact P2
      isplitl [P3]; · iexact P3
      isplitl [W]; · iexact W
      iexact R
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem idle9 (t : Fin cfg0.N) : idle0 9 (grid0.coords t) = false :=
  (by decide +kernel : ∀ t : Fin grid0.N, idle0 9 (grid0.coords t) = false) t

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  simp only []
  rw [idle9 t]
  exact .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by change _ ⊢ Inv m c 0; rw [Inv_out m c 0 (by omega)])
    (hout := fun c => by change Inv m c 72 ⊢ _; rw [Inv_out m c 72 (by omega)])

/-- The run ends with every argument as it began and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4)),
    ((h.1 c).1 5).trans (((dats m 0 c).arrAt_in 5 rfl _).trans (A_eq m c 5)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8))⟩, h.2⟩) (run_main m ρ)

end Cert.KernelIdeal.Hand

end
-- ==== Proof.Value.Weight.lean ====
/-
  The weight, element by element over the extended reals: what both programs are shown to compute. A code is
  three bits of three bytes; the second level gives a scale and a zero per row and group of 16 columns; a word
  of the outlier table adds its high half where its low half is the column.
-/
module

public import Idealize.ShloMosaic.Lib.Pointwise

@[expose] public section

noncomputable section

namespace Cert.Weight

open Idealize.ShloMosaic

/-- The code in bit `f` of three bytes. -/
def code (a b c : BitVec 8) (f : Nat) : Nat := (a.getLsbD f).toNat + 2 * (b.getLsbD f).toNat + 4 * (c.getLsbD f).toNat

/-- The code of row `r` and column `c` in three planes of bytes: bit `r / 864` of the bytes of row `r % 864`. -/
def codeAt {C : Nat} (q : (⟨3, ![3, 864, C]⟩ : Shape).Idx → BitVec 8) (r : Fin 6912) (c : Fin C) : EReal :=
  ((code (q (ix3 0 ⟨r.val % 864, Nat.mod_lt _ (by omega)⟩ c)) (q (ix3 1 ⟨r.val % 864, Nat.mod_lt _ (by omega)⟩ c))
    (q (ix3 2 ⟨r.val % 864, Nat.mod_lt _ (by omega)⟩ c)) (r.val / 864) : ℝ) : EReal)

/-- The second level of row `r` and column group `g`: (code − zero) · scale of its cell of 16 rows. -/
def coarse (q : (⟨3, ![3, 864, 160]⟩ : Shape).Idx → BitVec 8) (zero scale : (⟨2, ![432, 160]⟩ : Shape).Idx → EReal)
    (r : Fin 6912) (g : Fin 160) : EReal :=
  (codeAt q r g - zero (ix2 ⟨r.val / 16, by omega⟩ g)) * scale (ix2 ⟨r.val / 16, by omega⟩ g)

/-- The stretch of 99 weights that column `c` of row `r` lies in, counted from the row's first. -/
def stretch (r c : Nat) : Nat := (2560 * r + c) / 99 - 2560 * r / 99

theorem stretch_lt (r c : Nat) (hc : c < 2560) : stretch r c < 32 := by
  unfold stretch
  omega

/-- The two tables' word for row `r` and column `c`, joined. -/
def word (tb : (⟨4, ![2, 216, 8, 128]⟩ : Shape).Idx → BitVec 32) (r : Fin 6912) (c : Fin 2560) : BitVec 32 :=
  tb (ix4 0 ⟨r.val / 32, by omega⟩ ⟨r.val % 8, by omega⟩ ⟨32 * (r.val % 32 / 8) + stretch r c, by have := stretch_lt r c c.isLt; omega⟩)
    ||| tb (ix4 1 ⟨r.val / 32, by omega⟩ ⟨r.val % 8, by omega⟩ ⟨32 * (r.val % 32 / 8) + stretch r c, by have := stretch_lt r c c.isLt; omega⟩)

/-- What a word adds at column `c`. -/
def outlier (w : BitVec 32) (c : Nat) : EReal :=
  if w &&& 65535#32 = BitVec.ofNat 32 c then Ideal.ofBits .f32 (w &&& 4294901760#32) else 0

/-- The weight's element. -/
def weight (q : (⟨3, ![3, 864, 2560]⟩ : Shape).Idx → BitVec 8) (qs qz : (⟨3, ![3, 864, 160]⟩ : Shape).Idx → BitVec 8)
    (ss zs sz zz : (⟨2, ![432, 160]⟩ : Shape).Idx → EReal) (tb : (⟨4, ![2, 216, 8, 128]⟩ : Shape).Idx → BitVec 32)
    (r : Fin 6912) (c : Fin 2560) : EReal :=
  (codeAt q r c - coarse qz zz sz r ⟨c.val / 16, by omega⟩) * coarse qs zs ss r ⟨c.val / 16, by omega⟩ + outlier (word tb r c) c

/-- The linear layer: `x` times the weight transposed. -/
def linear (x : (⟨2, ![8192, 2560]⟩ : Shape).Idx → EReal)
    (q : (⟨3, ![3, 864, 2560]⟩ : Shape).Idx → BitVec 8) (qs qz : (⟨3, ![3, 864, 160]⟩ : Shape).Idx → BitVec 8)
    (ss zs sz zz : (⟨2, ![432, 160]⟩ : Shape).Idx → EReal) (tb : (⟨4, ![2, 216, 8, 128]⟩ : Shape).Idx → BitVec 32)
    (i : Fin 8192) (j : Fin 6912) : EReal :=
  ∑ k : Fin 2560, x (ix2 i k) * weight q qs qz ss zs sz zz tb j k

end Cert.Weight

end
-- ==== Proof.Value.Codes.lean ====
/-
  The kernel's way to unpack codes, read at an element: four rows' bytes lie in one word, the word is shifted
  and masked, three words are joined, and the bytes are read back.
-/
module

public import proofs.«01_k».proof.Proof.KernelIdeal.Group
public import proofs.«01_k».proof.Proof.Value.Weight
public import Idealize.ShloMosaic.Lib.BitcastFour
public import Idealize.ShloMosaic.Lib.Pointwise.IndexBridge

@[expose] public section

set_option maxRecDepth 16384

noncomputable section

namespace Cert.Value

open Cert.KernelIdeal Cert.KernelIdeal.Gen Cert.KernelIdeal.Hand Cert.Weight
open Idealize.ShloMosaic Idealize.SL.Sem

/-- Three words' bit number `f` of each byte, put together byte by byte. -/
def joined (f a b c : BitVec 32) : BitVec 32 :=
  IntOp.ori (IntOp.ori (IntOp.andi (IntOp.shrui .vector a f) 16843009#32)
      (IntOp.shli .vector (IntOp.andi (IntOp.shrui .vector b f) 16843009#32) 1#32))
    (IntOp.shli .vector (IntOp.andi (IntOp.shrui .vector c f) 16843009#32) 2#32)

theorem codes_apply {S : Shape} (f : BitVec 32) (a b c : IVec S 32) (j : S.Idx) : codes f a b c j = joined f (a j) (b j) (c j) := rfl

theorem shrui_ofNat (a : BitVec 32) (f : Nat) (hf : f < 8) : IntOp.shrui .vector a (BitVec.ofNat 32 f) = a >>> f := by
  have e : (BitVec.ofNat 32 f).toNat = f := by rw [BitVec.toNat_ofNat]; omega
  unfold IntOp.shrui
  rw [if_pos (by omega), BitVec.ushiftRight_eq', e]

theorem ones_getLsbD : ∀ j < 4, ∀ q < 8, (16843009#32).getLsbD (8 * j + q) = decide (q = 0) := by decide

/-- A bit of the joined word: bit `f` of the byte, of the first word at place 0, of the second at 1, of the third at 2. -/
theorem joined_getLsbD (a b c : BitVec 32) (f : Nat) (hf : f < 8) (j : Nat) (hj : j < 4) (q : Nat) (hq : q < 8) :
    (joined (BitVec.ofNat 32 f) a b c).getLsbD (8 * j + q)
      = ((decide (q = 0) && a.getLsbD (8 * j + f)) || (decide (q = 1) && b.getLsbD (8 * j + f)) || (decide (q = 2) && c.getLsbD (8 * j + f))) := by
  unfold joined
  rw [shrui_ofNat _ _ hf, shrui_ofNat _ _ hf, shrui_ofNat _ _ hf]
  have s1 : ∀ x : BitVec 32, IntOp.shli .vector x 1#32 = x <<< 1 := fun x => rfl
  have s2 : ∀ x : BitVec 32, IntOp.shli .vector x 2#32 = x <<< 2 := fun x => rfl
  rw [s1, s2]
  simp only [IntOp.ori, IntOp.andi, BitVec.getLsbD_or, BitVec.getLsbD_and, BitVec.getLsbD_shiftLeft, BitVec.getLsbD_ushiftRight]
  rw [ones_getLsbD j hj q hq]
  have h1 : ¬ 8 * j + q < 1 → (16843009#32).getLsbD (8 * j + q - 1) = decide (q = 1) := by
    intro h
    by_cases h0 : q = 0
    · have := ones_getLsbD (j - 1) (by omega) 7 (by omega)
      rw [show 8 * j + q - 1 = 8 * (j - 1) + 7 by omega, this]
      subst h0; rfl
    · have := ones_getLsbD j hj (q - 1) (by omega)
      rw [show 8 * j + q - 1 = 8 * j + (q - 1) by omega, this]
      exact decide_eq_decide.mpr (by omega)
  have h2 : ¬ 8 * j + q < 2 → (16843009#32).getLsbD (8 * j + q - 2) = decide (q = 2) := by
    intro h
    by_cases h0 : q < 2
    · have := ones_getLsbD (j - 1) (by omega) (q + 6) (by omega)
      rw [show 8 * j + q - 2 = 8 * (j - 1) + (q + 6) by omega, this]
      exact decide_eq_decide.mpr (by omega)
    · have := ones_getLsbD j hj (q - 2) (by omega)
      rw [show 8 * j + q - 2 = 8 * j + (q - 2) by omega, this]
      exact decide_eq_decide.mpr (by omega)
  have w : 8 * j + q < 32 := by omega
  by_cases e0 : q = 0
  · subst e0
    by_cases j0 : j = 0
    · subst j0
      simp
    · rw [h1 (by omega), h2 (by omega)]
      simp
      rw [Nat.add_comm]
  by_cases e1 : q = 1
  · subst e1
    by_cases j0 : j = 0
    · subst j0
      simp [w]
    · rw [h1 (by omega), h2 (by omega)]
      simp [w]
      rw [Nat.add_comm]
  · rw [h1 (by omega), h2 (by omega)]
    by_cases e2 : q = 2
    · subst e2
      simp [w]
      rw [Nat.add_comm]
    · simp [e0, e1, e2]

/-- A bit of the number a code is, as a byte. -/
theorem code_getLsbD (x y z : Bool) : ∀ q < 8, (BitVec.ofNat 8 (x.toNat + 2 * y.toNat + 4 * z.toNat)).getLsbD q
    = ((decide (q = 0) && x) || (decide (q = 1) && y) || (decide (q = 2) && z)) := by
  cases x <;> cases y <;> cases z <;> decide

theorem code_toInt (x y z : Bool) : (BitVec.ofNat 8 (x.toNat + 2 * y.toNat + 4 * z.toNat)).toInt = ((x.toNat + 2 * y.toNat + 4 * z.toNat : Nat) : Int) := by
  cases x <;> cases y <;> cases z <;> decide

/-- Words read back as bytes, at rank 2: bit `q` of the byte in row `i`. -/
theorem bytes_getLsbD {n : Nat} (x : (⟨2, ![8, n]⟩ : Shape).Idx → BitVec 32) (h : (⟨2, ![8, n]⟩ : Shape).Bitcasts 32 ⟨2, ![32, n]⟩ 8)
    (i : Fin 32) (l : Fin n) (q : Nat) (hq : q < 8) :
    (bitcast ⟨2, ![32, n]⟩ 8 x h (ix2 i l)).getLsbD q = (x (ix2 ⟨i.val / 4, by omega⟩ l)).getLsbD (8 * (i.val % 4) + q) := by
  have hr : (⟨2, ![32, n]⟩ : Shape).row (ix2 i l) = i.val := rfl
  rw [bitcast_getLsbD x h (ix2 i l) q hq (by decide)]
  have e1 : ((⟨2, ![32, n]⟩ : Shape).row (ix2 i l) * 8 + q) / 32 = i.val / 4 := by rw [hr]; omega
  have e2 : ((⟨2, ![32, n]⟩ : Shape).row (ix2 i l) * 8 + q) % 32 = 8 * (i.val % 4) + q := by rw [hr]; omega
  rw [e2]
  congr 2
  funext a
  match a with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words, at rank 2. -/
theorem words_getLsbD {n : Nat} (x : (⟨2, ![32, n]⟩ : Shape).Idx → BitVec 8) (h : (⟨2, ![32, n]⟩ : Shape).Bitcasts 8 ⟨2, ![8, n]⟩ 32)
    (i : Fin 32) (l : Fin n) (q : Nat) (hq : q < 8) :
    (bitcast ⟨2, ![8, n]⟩ 32 x h (ix2 ⟨i.val / 4, by omega⟩ l)).getLsbD (8 * (i.val % 4) + q) = (x (ix2 i l)).getLsbD q := by
  rw [ix2_eq_valueIdx, bitcast_8_32_getLsbD_ix2 x h _ l (8 * (i.val % 4) + q) (by omega) i (by change i.val = 4 * (i.val / 4) + _; omega),
    ix2_eq_valueIdx, show (8 * (i.val % 4) + q) % 8 = q by omega]

/-- Codes unpacked through words are the codes of the bytes. -/
theorem unpack_apply {n : Nat} (a b c : (⟨2, ![32, n]⟩ : Shape).Idx → BitVec 8) (h : (⟨2, ![32, n]⟩ : Shape).Bitcasts 8 ⟨2, ![8, n]⟩ 32)
    (f : Nat) (hf : f < 8) (i : Fin 32) (l : Fin n) (W : BitVec 32)
    (hW : W = joined (BitVec.ofNat 32 f) (bitcast ⟨2, ![8, n]⟩ 32 a h (ix2 ⟨i.val / 4, by omega⟩ l))
      (bitcast ⟨2, ![8, n]⟩ 32 b h (ix2 ⟨i.val / 4, by omega⟩ l)) (bitcast ⟨2, ![8, n]⟩ 32 c h (ix2 ⟨i.val / 4, by omega⟩ l)))
    (B : BitVec 8) (hB : ∀ q < 8, B.getLsbD q = W.getLsbD (8 * (i.val % 4) + q)) :
    (B.toInt : ℝ) = (code (a (ix2 i l)) (b (ix2 i l)) (c (ix2 i l)) f : ℝ) := by
  have e : B = BitVec.ofNat 8 (code (a (ix2 i l)) (b (ix2 i l)) (c (ix2 i l)) f) := by
    apply BitVec.eq_of_getLsbD_eq
    intro q hq
    unfold code
    rw [hB q hq, hW, joined_getLsbD _ _ _ f hf _ (Nat.mod_lt _ (by omega)) q hq, code_getLsbD _ _ _ q hq,
      words_getLsbD a h i l f hf, words_getLsbD b h i l f hf, words_getLsbD c h i l f hf]
  rw [e]
  unfold code
  rw [code_toInt]
  norm_cast

/-- A tile of codes at an element. -/
theorem codeTile_apply (a b c : Vec Ideal S1x32x128 .i8) (f : Nat) (hf : f < 8) (i : Fin 32) (l : Fin 128) :
    codeTile (F := Ideal) (BitVec.ofNat 32 f) a b c (ix2 i l) = ((code (a (ix3 0 i l)) (b (ix3 0 i l)) (c (ix3 0 i l)) f : ℝ) : EReal) := by
  have sq : ∀ v : Vec Ideal S1x32x128 .i8, (shapeCast S32x128 v shapeCasts_S1x32x128_S32x128 : IVec S32x128 8) (ix2 i l) = v (ix3 0 i l) := by
    intro v
    pointwise
  have := unpack_apply (shapeCast S32x128 a shapeCasts_S1x32x128_S32x128 : IVec S32x128 8) (shapeCast S32x128 b shapeCasts_S1x32x128_S32x128 : IVec S32x128 8)
    (shapeCast S32x128 c shapeCasts_S1x32x128_S32x128 : IVec S32x128 8) bitcasts_S32x128_w8_S8x128_w32 f hf i l _ rfl
    (bitcast S32x128 8 (codes (BitVec.ofNat 32 f) (pack (F := Ideal) a) (pack (F := Ideal) b) (pack (F := Ideal) c)) bitcasts_S8x128_w32_S32x128_w8 (ix2 i l))
    (fun q hq => bytes_getLsbD _ _ i l q hq)
  rw [sq, sq, sq] at this
  exact congrArg (fun r : ℝ => (r : EReal)) this

/-- The short tile of codes at an element: the first 32 columns. -/
theorem codeTail_apply (a b c : Vec Ideal S1x32x32 .i8) (f : Nat) (hf : f < 8) (i : Fin 32) (l : Fin 32) :
    codeTail (F := Ideal) (BitVec.ofNat 32 f) a b c (ix2 i ⟨l.val, by omega⟩) = ((code (a (ix3 0 i l)) (b (ix3 0 i l)) (c (ix3 0 i l)) f : ℝ) : EReal) := by
  have sq : ∀ v : Vec Ideal S1x32x32 .i8, (shapeCast S32x32 v shapeCasts_S1x32x32_S32x32 : IVec S32x32 8) (ix2 i l) = v (ix3 0 i l) := by
    intro v
    pointwise
  have cc : ∀ (u : IVec S8x32 32) (r : Fin 8), (concatenate S8x128 1 [⟨S8x32, u⟩, ⟨S8x96, (broadcast S8x96 0#32 : IVec S8x96 32)⟩]
      concatenates_S8x32_S8x96_S8x128_d1 : IVec S8x128 32) (ix2 r ⟨l.val, by omega⟩) = u (ix2 r l) := by
    intro u r
    pointwise
  have := unpack_apply (shapeCast S32x32 a shapeCasts_S1x32x32_S32x32 : IVec S32x32 8) (shapeCast S32x32 b shapeCasts_S1x32x32_S32x32 : IVec S32x32 8)
    (shapeCast S32x32 c shapeCasts_S1x32x32_S32x32 : IVec S32x32 8) bitcasts_S32x32_w8_S8x32_w32 f hf i l _ rfl
    (bitcast S32x128 8 (concatenate S8x128 1 [⟨S8x32, codes (BitVec.ofNat 32 f) (pack32 (F := Ideal) a) (pack32 (F := Ideal) b) (pack32 (F := Ideal) c)⟩,
      ⟨S8x96, (broadcast S8x96 0#32 : IVec S8x96 32)⟩] concatenates_S8x32_S8x96_S8x128_d1 : IVec S8x128 32) bitcasts_S8x128_w32_S32x128_w8 (ix2 i ⟨l.val, by omega⟩))
    (fun q hq => by rw [bytes_getLsbD _ _ _ _ q hq, cc]; rfl)
  rw [sq, sq, sq] at this
  exact congrArg (fun r : ℝ => (r : EReal)) this

end Cert.Value

end
-- ==== Proof.Value.Slots.lean ====
/-
  The kernel finds the table's slot of a weight in floating point: it multiplies by 1/99 and rounds. Over the
  reals the result is the integer quotient, since one half over 99 is kept as a margin on both sides.
-/
module

public import proofs.«01_k».proof.Proof.KernelIdeal.Group
public import proofs.«01_k».proof.Proof.Value.Weight

@[expose] public section

set_option maxRecDepth 16384

noncomputable section

namespace Cert.Value

open Cert.KernelIdeal Cert.KernelIdeal.Gen Cert.KernelIdeal.Hand Cert.Weight
open Idealize.ShloMosaic Idealize.SL.Sem

/-- 1/99 in single precision. -/
def inv99 : ℝ := 10845877 / 2 ^ 30

theorem ofBits_inv99 : Ideal.ofBits .f32 0x3C257EB5#32 = ((inv99 : ℝ) : EReal) := by
  simp [Ideal.ofBits, Ideal.ieee, inv99, -EReal.coe_mul]; norm_num
theorem ofBits_half : Ideal.ofBits .f32 0x3F000000#32 = ((1 / 2 : ℝ) : EReal) := by
  simp [Ideal.ofBits, Ideal.ieee, -EReal.coe_mul]; norm_num

/-- A word of an f32 with exponent bits neither all zero nor all one, sign 0. -/
theorem ofBits_pos (b : BitVec 32) (e m : Nat) (hs : b.extractLsb' 31 1 = 0#1) (he : (b.extractLsb' 23 8).toNat = e)
    (hm : (b.extractLsb' 0 23).toNat = m) (h0 : e ≠ 0) (h1 : e ≠ 255) :
    Ideal.ofBits .f32 b = (((2 ^ 23 + m : Nat) * (2 : ℝ) ^ ((e : Int) - 150) : ℝ) : EReal) := by
  show Ideal.ieee 8 23 b = _
  unfold Ideal.ieee
  simp only [show (8 + 23 : Nat) = 31 from rfl, hs, he, hm]
  rw [if_neg (by omega), if_neg h0]
  congr 2
  · simp
  · congr 1
    norm_num
    ring

/-- The constants added to the slots are their values to within 1/1000. -/
theorem slotC_near : ∀ t < 20, ∀ a : Fin 4, ∃ s : ℝ, Ideal.ofBits .f32 (slotC t a) = ((s : ℝ) : EReal) ∧ |s - (128 * t / 99 + 32 * a.val)| ≤ 1 / 1000 := by
  intro t ht a
  by_cases h00 : t = 0 ∧ a = 0
  · obtain ⟨rfl, rfl⟩ := h00
    exact ⟨0, Ideal.ofBits_zero_f32, by norm_num⟩
  refine ⟨_, ofBits_pos _ _ _ ?_ rfl rfl ?_ ?_, ?_⟩
  all_goals (interval_cases t <;> fin_cases a)
  all_goals first
    | exact absurd ⟨rfl, rfl⟩ h00
    | decide
    | (rw [abs_le]; norm_num [slotC, Nat.shiftRight_eq_div_pow])

/-- Truncation of a real that lies in `[n, n+1)` to a word. -/
theorem fptosi_of_near (x : ℝ) (n : Nat) (hn : n < 2 ^ 31) (h1 : (n : ℝ) ≤ x) (h2 : x < n + 1) :
    Ideal.fptosi 32 ((x : ℝ) : EReal) = BitVec.ofNat 32 n := by
  have h0 : (0 : ℝ) ≤ x := le_trans (Nat.cast_nonneg n) h1
  have hf : ⌊x⌋ = (n : Int) := by
    rw [Int.floor_eq_iff]
    exact ⟨by exact_mod_cast h1, by exact_mod_cast h2⟩
  rw [Ideal.fptosi, Ideal.toIntClamped_coe, if_pos h0, hf]
  have e : max (-((2 ^ (32 - 1) : Nat) : Int)) (min (((2 ^ (32 - 1) : Nat) : Int) - 1) (n : Int)) = (n : Int) := by
    norm_num
    omega
  rw [e]
  exact BitVec.ofInt_natCast 32 n

/-- Rounding a real within one half of an integer. -/
theorem roundHalfEven_of_near (x : ℝ) (n : Int) (h1 : (n : ℝ) - 1 / 2 < x) (h2 : x < n + 1 / 2) : Ideal.roundHalfEven x = n := by
  unfold Ideal.roundHalfEven
  dsimp only
  by_cases h : (n : ℝ) ≤ x
  · have hf : ⌊x⌋ = n := by
      rw [Int.floor_eq_iff]
      exact ⟨h, by linarith⟩
    rw [hf, if_pos (by linarith)]
  · have hf : ⌊x⌋ = n - 1 := by
      rw [Int.floor_eq_iff]
      push_cast
      exact ⟨by linarith, by linarith⟩
    rw [hf]
    push_cast
    rw [if_neg (by linarith), if_pos (by linarith)]
    omega

/-- The quotient by 99 that the kernel takes of 85 times a row. -/
theorem quot99 (r : Nat) (hr : r < 6912) :
    Ideal.fptosi 32 ((((85 * r : Nat) : ℝ) + 1 / 2) * inv99 : ℝ) = BitVec.ofNat 32 (85 * r / 99) := by
  obtain ⟨p, φ, hp, hφ, e⟩ : ∃ p φ : Nat, 85 * r / 99 = p ∧ φ < 99 ∧ 85 * r = 99 * p + φ :=
    ⟨85 * r / 99, 85 * r % 99, rfl, Nat.mod_lt _ (by omega), (Nat.div_add_mod _ _).symm⟩
  rw [hp, e]
  have hp' : (p : ℝ) ≤ 6000 := by exact_mod_cast (show p ≤ 6000 by omega)
  have hφ' : (φ : ℝ) ≤ 98 := by exact_mod_cast (show φ ≤ 98 by omega)
  have h0 : (0 : ℝ) ≤ p := Nat.cast_nonneg p
  have h0' : (0 : ℝ) ≤ φ := Nat.cast_nonneg φ
  apply fptosi_of_near
  · omega
  · push_cast
    unfold inv99
    linarith
  · push_cast
    unfold inv99
    linarith

/-- The slot the kernel rounds to. -/
theorem slot_round (t l a : Nat) (φ : Nat) (hφ : φ < 99) (ht : t < 20) (hl : l < 128) (ha : a < 4) (s : ℝ)
    (hs : |s - (128 * t / 99 + 32 * a)| ≤ 1 / 1000) :
    Ideal.roundHalfEven ((((φ + l : Nat) : ℝ) + 1 / 2) * inv99 - 1 / 2 + s) = ((32 * a + (φ + (128 * t + l)) / 99 : Nat) : Int) := by
  obtain ⟨p, ψ, hp, hψ, e⟩ : ∃ p ψ : Nat, (φ + (128 * t + l)) / 99 = p ∧ ψ < 99 ∧ φ + (128 * t + l) = 99 * p + ψ :=
    ⟨(φ + (128 * t + l)) / 99, (φ + (128 * t + l)) % 99, rfl, Nat.mod_lt _ (by omega), (Nat.div_add_mod _ _).symm⟩
  rw [hp]
  have e' : (φ : ℝ) + (128 * t + l) = 99 * p + ψ := by exact_mod_cast e
  have hψ' : (ψ : ℝ) ≤ 98 := by exact_mod_cast (show ψ ≤ 98 by omega)
  have hψ0 : (0 : ℝ) ≤ ψ := Nat.cast_nonneg ψ
  have hφ' : (φ : ℝ) ≤ 98 := by exact_mod_cast (show φ ≤ 98 by omega)
  have hφ0 : (0 : ℝ) ≤ φ := Nat.cast_nonneg φ
  have hl' : (l : ℝ) ≤ 127 := by exact_mod_cast (show l ≤ 127 by omega)
  have hl0 : (0 : ℝ) ≤ l := Nat.cast_nonneg l
  obtain ⟨s1, s2⟩ := abs_le.mp hs
  apply roundHalfEven_of_near
  · push_cast
    unfold inv99
    linarith
  · push_cast
    unfold inv99
    linarith

end Cert.Value

end
-- ==== Proof.Value.Lanes.lean ====
/-
  The kernel's vectors of a block at an element: the outliers of eight rows, the second level and its gather,
  the halves of a tile of codes.
-/
module
public import proofs.«01_k».proof.Proof.Value.Slots
@[expose] public section
set_option maxRecDepth 16384
noncomputable section
namespace Cert.Value
open Cert.KernelIdeal Cert.KernelIdeal.Gen Cert.KernelIdeal.Hand Cert.Weight
open Idealize.ShloMosaic Idealize.SL.Sem

/-- 85 times the row number, at a lane. -/
theorem row85_apply (n a : Nat) (hn : n < 216) (ha : a < 4) (s : Fin 8) (l : Fin 128) :
    row85 (BitVec.ofNat 32 n) (BitVec.ofNat 32 (8 * a)) (ix2 s l) = BitVec.ofNat 32 (85 * (32 * n + 8 * a + s.val)) := by
  unfold row85 sub8
  pointwise
  show (BitVec.ofNat 32 s.val + (BitVec.ofNat 32 32 * BitVec.ofNat 32 n + BitVec.ofNat 32 (8 * a))) * BitVec.ofNat 32 85 = _
  rw [← BitVec.ofNat_mul, ← BitVec.ofNat_add, ← BitVec.ofNat_add, ← BitVec.ofNat_mul]
  congr 1
  ring

theorem sitofp_nat (n : Nat) (hn : n < 2 ^ 31) : (FloatOps.sitofp .f32 (BitVec.ofNat 32 n) : Ideal .f32) = (((n : ℝ)) : EReal) := by
  show (((BitVec.ofNat 32 n).toInt : ℝ) : EReal) = _
  rw [BitVec.toInt_ofNat', Int.bmod_eq_of_le (by omega) (by omega)]
  norm_cast

/-- A slot before the column tile's part is added. -/
theorem slotBase_apply (n a : Nat) (hn : n < 216) (ha : a < 4) (s : Fin 8) (l : Fin 128) :
    slotBase (F := Ideal) (BitVec.ofNat 32 n) (BitVec.ofNat 32 (8 * a)) (ix2 s l)
      = ((((((85 * (32 * n + 8 * a + s.val)) % 99 + l.val : Nat) : ℝ) + 1 / 2) * inv99 - 1 / 2 : ℝ) : EReal) := by
  have hs := s.isLt
  have hl := l.isLt
  unfold slotBase lane8
  pointwise
  rw [row85_apply n a hn ha]
  generalize hr : 32 * n + 8 * a + s.val = r
  have hr' : r < 6912 := by omega
  rw [sitofp_nat (85 * r) (by omega), ofBits_half, ofBits_inv99, ← EReal.coe_add, ← EReal.coe_mul]
  have q := quot99 r hr'
  have e : FloatOps.fptosi (F := Ideal) (φ := .f32) 32 ((((((85 * r : Nat) : ℝ) + 1 / 2) * inv99 : ℝ) : EReal) : Ideal .f32) = BitVec.ofNat 32 (85 * r / 99) := q
  rw [e]
  have e2 : IntOp.addi (IntOp.subi (BitVec.ofNat 32 (85 * r)) (IntOp.muli (BitVec.ofNat 32 (85 * r / 99)) 99#32)) (BitVec.ofNat 32 l.val)
      = BitVec.ofNat 32 (85 * r % 99 + l.val) := by
    have : 85 * r = 85 * r % 99 + 85 * r / 99 * 99 := by omega
    show BitVec.ofNat 32 (85 * r) - BitVec.ofNat 32 (85 * r / 99) * BitVec.ofNat 32 99 + BitVec.ofNat 32 l.val = _
    rw [← BitVec.ofNat_mul]
    conv_lhs => rw [this]
    rw [BitVec.ofNat_add, BitVec.ofNat_add, show (85 * r % 99 + 85 * r / 99 * 99) / 99 * 99 = 85 * r / 99 * 99 by omega, BitVec.add_sub_cancel]
  rw [e2, sitofp_nat _ (by omega), ← EReal.coe_add, ← EReal.coe_mul, ← EReal.coe_sub]

/-- The slot that the kernel reads, as a word. -/
theorem slot_word (t n a : Nat) (ht : t < 20) (hn : n < 216) (ha : a < 4) (s : Fin 8) (l : Fin 128) :
    FloatOps.fptosi (F := Ideal) (φ := .f32) 32 (Ideal.liftRound Ideal.roundHalfEven
      (slotBase (F := Ideal) (BitVec.ofNat 32 n) (BitVec.ofNat 32 (8 * a)) (ix2 s l) + Ideal.ofBits .f32 (slotC t ⟨a, ha⟩)))
      = BitVec.ofNat 32 (32 * a + stretch (32 * n + 8 * a + s.val) (128 * t + l.val)) := by
  have hs := s.isLt
  have hl := l.isLt
  obtain ⟨c, hc, hc'⟩ := slotC_near t ht ⟨a, ha⟩
  rw [slotBase_apply n a hn ha, hc, ← EReal.coe_add, Ideal.liftRound_coe,
    slot_round t l.val a _ (Nat.mod_lt _ (by omega)) ht hl ha c hc']
  have st : (85 * (32 * n + 8 * a + s.val) % 99 + (128 * t + l.val)) / 99 = stretch (32 * n + 8 * a + s.val) (128 * t + l.val) := by
    unfold stretch
    omega
  rw [st]
  have := stretch_lt (32 * n + 8 * a + s.val) (128 * t + l.val) (by omega)
  exact fptosi_of_near _ _ (by omega) (by push_cast; linarith) (by push_cast; linarith)

/-- A small word taken from the end when negative is itself. -/
theorem wrap_small (n : Nat) (hn : n < 128) :
    (Scalar.select (IntOp.cmpi .slt (BitVec.ofNat 32 n) 0#32) (IntOp.addi (BitVec.ofNat 32 n) 128#32) (BitVec.ofNat 32 n)).toNat % 128 = n := by
  have : ∀ n < 128, (Scalar.select (IntOp.cmpi .slt (BitVec.ofNat 32 n) 0#32) (IntOp.addi (BitVec.ofNat 32 n) 128#32) (BitVec.ofNat 32 n)).toNat % 128 = n := by
    decide +kernel
  exact this n hn

/-- A gather along the lanes whose index word is small. -/
theorem gather_lane {α : Type} {R : Nat} (v : (⟨2, ![R, 128]⟩ : Shape).Idx → α) (w : IVec ⟨2, ![R, 128]⟩ 32) (s : Fin R) (l : Fin 128) (n : Nat) (hn : n < 128)
    (h : (w (ix2 s l)).toNat % 128 = n) : dynamicGather 1 v w (ix2 s l) = v (ix2 s ⟨n, hn⟩) := by
  rw [dynamicGather_apply]
  refine congrArg v (funext fun b => ?_)
  match b with
  | ⟨0, _⟩ => exact if_neg (fun h => Nat.zero_ne_one (congrArg Fin.val h))
  | ⟨1, _⟩ => exact (if_pos rfl).trans (Fin.ext h)

/-- The outliers of eight rows in a column tile, at an element. -/
theorem outl_apply (t n a : Nat) (ht : t < 20) (hn : n < 216) (ha : a < 4) (table : IVec S8x128 32) (s : Fin 8) (l : Fin 128) :
    outl t ⟨a, ha⟩ table (slotBase (F := Ideal) (BitVec.ofNat 32 n) (BitVec.ofNat 32 (8 * a))) (ix2 s l)
      = outlier (table (ix2 s ⟨32 * a + stretch (32 * n + 8 * a + s.val) (128 * t + l.val), by
          have := stretch_lt (32 * n + 8 * a + s.val) (128 * t + l.val) (by omega)
          omega⟩)) (128 * t + l.val) := by
  have hst := stretch_lt (32 * n + 8 * a + s.val) (128 * t + l.val) (by omega)
  have hw : dynamicGather 1 table (wrap8 (fptosi 32 (roundeven (addf (slotBase (F := Ideal) (BitVec.ofNat 32 n) (BitVec.ofNat 32 (8 * a)))
      (broadcast S8x128 (Scalar.ofBits .f32 (slotC t ⟨a, ha⟩) : Ideal .f32)))))) (ix2 s l)
      = table (ix2 s ⟨32 * a + stretch (32 * n + 8 * a + s.val) (128 * t + l.val), by omega⟩) := by
    apply gather_lane
    unfold wrap8
    pointwise
    have := slot_word t n a ht hn ha s l
    simp only [this]
    exact wrap_small _ (by omega)
  unfold outl lane8
  generalize dynamicGather 1 table (wrap8 (fptosi 32 (roundeven (addf (slotBase (F := Ideal) (BitVec.ofNat 32 n) (BitVec.ofNat 32 (8 * a)))
      (broadcast S8x128 (Scalar.ofBits .f32 (slotC t ⟨a, ha⟩) : Ideal .f32)))))) = G at hw ⊢
  pointwise
  rw [hw]
  generalize table _ = w
  unfold outlier
  have e : IntOp.addi (BitVec.ofNat 32 l.val) (BitVec.ofNat 32 (128 * t)) = BitVec.ofNat 32 (128 * t + l.val) := by
    show BitVec.ofNat 32 l.val + BitVec.ofNat 32 (128 * t) = _
    rw [← BitVec.ofNat_add, Nat.add_comm]
  rw [e]
  by_cases h : w &&& 65535#32 = BitVec.ofNat 32 (128 * t + l.val)
  · rw [if_pos h]
    have : IntOp.cmpi .eq (IntOp.andi w 65535#32) (BitVec.ofNat 32 (128 * t + l.val)) = 1#1 := by
      simp [IntOp.cmpi, IntOp.andi, h]
    rw [this]
    rfl
  · rw [if_neg h]
    have : IntOp.cmpi .eq (IntOp.andi w 65535#32) (BitVec.ofNat 32 (128 * t + l.val)) = 0#1 := by
      simp only [IntOp.cmpi, IntOp.andi]
      rw [beq_false_of_ne h]
      rfl
    rw [this]
    exact Ideal.ofBits_zero_f32

/-- The second level's value of a lane's column group. -/
theorem gat_apply (t : Nat) (ht : t < 20) (v : FVec Ideal S16x128 .f32) (s : Fin 16) (l : Fin 128) :
    gat t v (ix2 s l) = v (ix2 s ⟨(8 * t + l.val / 16) % 128, Nat.mod_lt _ (by omega)⟩) := by
  have hl := l.isLt
  unfold gat
  rw [truncf_apply]
  apply gather_lane
  unfold wrap16 grp16
  pointwise
  have : ∀ t < 20, ∀ l < 128, IntOp.addi (IntOp.shrui ArithUnit.vector (BitVec.ofNat 32 l) 4#32) (BitVec.ofNat 32 (8 * t % 128)) = BitVec.ofNat 32 ((8 * t + l / 16) % 128) := by
    decide +kernel
  rw [this t ht l.val hl]
  exact wrap_small _ (Nat.mod_lt _ (by omega))

/-- A row of scales, at an element. -/
theorem rowBc_apply (v : Vec Ideal S1x1x128 .f32) (s : Fin 16) (l : Fin 128) : rowBc v (ix2 s l) = v (ix3 0 0 l) := by
  unfold rowBc
  pointwise

/-- A half of a tile, at an element. -/
theorem half16_apply (c : Nat) (hc : c < 2) (v : FVec Ideal S32x128 .bf16) (s : Fin 16) (l : Fin 128) :
    half16 c v (ix2 s l) = v (ix2 ⟨16 * c + s.val, by omega⟩ l) := by
  interval_cases c
  · unfold half16
    pointwise
  · unfold half16
    pointwise

/-- The joined table, at an element. -/
theorem tab_apply (a b : Vec Ideal S1x1x8x128 .i32) (s : Fin 8) (l : Fin 128) :
    tab (F := Ideal) a b (ix2 s l) = a (ix4 0 0 s l) ||| b (ix4 0 0 s l) := by
  unfold tab
  pointwise
  rfl

/-- The second level, at an element. -/
theorem lev_apply (c : Nat) (hc : c < 2) (code : FVec Ideal S32x128 .bf16) (zr sc : Vec Ideal S1x1x128 .f32) (s : Fin 16) (l : Fin 128) :
    lev c code zr sc (ix2 s l) = (code (ix2 ⟨16 * c + s.val, by omega⟩ l) - zr (ix3 0 0 l)) * sc (ix3 0 0 l) := by
  unfold lev
  pointwise
  rw [half16_apply c hc, rowBc_apply, rowBc_apply]

end Cert.Value
end
-- ==== Proof.Value.Block.lean ====
/-
  A block of the weight as the kernel computes it is the weight: its codes, its second level, its outliers.
-/
module

public import proofs.«01_k».proof.Proof.KernelIdeal.Steps
public import proofs.«01_k».proof.Proof.Value.Codes
public import proofs.«01_k».proof.Proof.Value.Lanes

@[expose] public section

set_option maxRecDepth 16384

noncomputable section

namespace Cert.Value

open Cert.KernelIdeal Cert.KernelIdeal.Gen Cert.KernelIdeal.Hand Cert.Weight
open Idealize.ShloMosaic Idealize.SL.Sem

theorem fieldOf_nat : ∀ n < 216, fieldOf (BitVec.ofNat 32 n) = BitVec.ofNat 32 (n / 27) := by decide +kernel

/-- A function of indices at an index with given coordinates. -/
theorem val2 {α : Type} {A B : Nat} (X : (⟨2, ![A, B]⟩ : Shape).Idx → α) (f : (⟨2, ![A, B]⟩ : Shape).Idx) (a : Fin A) (b : Fin B)
    (h0 : (f 0).val = a.val) (h1 : (f 1).val = b.val) : X f = X (ix2 a b) := by
  have e0 : f 0 = a := Fin.ext h0
  have e1 : f 1 = b := Fin.ext h1
  rw [← e0, ← e1]
  exact congrArg X (eq_ix2 f)
theorem val3 {α : Type} {A B C : Nat} (X : (⟨3, ![A, B, C]⟩ : Shape).Idx → α) (f : (⟨3, ![A, B, C]⟩ : Shape).Idx) (a : Fin A) (b : Fin B) (c : Fin C)
    (h0 : (f 0).val = a.val) (h1 : (f 1).val = b.val) (h2 : (f 2).val = c.val) : X f = X (ix3 a b c) := by
  have e0 : f 0 = a := Fin.ext h0
  have e1 : f 1 = b := Fin.ext h1
  have e2 : f 2 = c := Fin.ext h2
  rw [← e0, ← e1, ← e2]
  exact congrArg X (eq_ix3 f)
theorem val4 {α : Type} {A B C D : Nat} (X : (⟨4, ![A, B, C, D]⟩ : Shape).Idx → α) (f : (⟨4, ![A, B, C, D]⟩ : Shape).Idx) (a : Fin A) (b : Fin B) (c : Fin C) (d : Fin D)
    (h0 : (f 0).val = a.val) (h1 : (f 1).val = b.val) (h2 : (f 2).val = c.val) (h3 : (f 3).val = d.val) : X f = X (ix4 a b c d) := by
  have e0 : f 0 = a := Fin.ext h0
  have e1 : f 1 = b := Fin.ext h1
  have e2 : f 2 = c := Fin.ext h2
  have e3 : f 3 = d := Fin.ext h3
  rw [← e0, ← e1, ← e2, ← e3]
  exact congrArg X (eq_ix4 f)

/-- The planes' codes of a group, at an element. -/
theorem code_of_planes {C : Nat} (q : (⟨3, ![3, 864, C]⟩ : Shape).Idx → BitVec 8) (n : Nat) (hn : n < 216) (i : Fin 32) (c : Fin C)
    (a b d : BitVec 8) (ha : a = q (ix3 0 ⟨32 * (n % 27) + i.val, by omega⟩ c)) (hb : b = q (ix3 1 ⟨32 * (n % 27) + i.val, by omega⟩ c))
    (hd : d = q (ix3 2 ⟨32 * (n % 27) + i.val, by omega⟩ c)) :
    ((code a b d (n / 27) : ℝ) : EReal) = codeAt q ⟨32 * n + i.val, by omega⟩ c := by
  subst ha hb hd
  have e1 : 32 * (n % 27) + i.val = (32 * n + i.val) % 864 := by omega
  have e2 : n / 27 = (32 * n + i.val) / 864 := by omega
  unfold codeAt
  simp only [e1, e2]

/-- The codes of a tile of the weight. -/
theorem qTile_apply (D : Ro Ideal) (n : Nat) (hn : n < 216) (hg : GOK (BitVec.ofNat 32 n)) (t : Nat) (ht : t < 20) (i : Fin 32) (l : Fin 128) :
    qTile D (BitVec.ofNat 32 n) hg t ht (ix2 i l) = codeAt D.q ⟨32 * n + i.val, by omega⟩ ⟨128 * t + l.val, by omega⟩ := by
  have hr := rowOf_nat n hn
  unfold qTile
  rw [fieldOf_nat n hn, codeTile_apply _ _ _ _ (by omega)]
  apply code_of_planes D.q n hn
  all_goals
    refine val3 D.q _ _ _ _ ?_ ?_ ?_
    · rfl
    · show (Scalar.indexCast (rowOf (BitVec.ofNat 32 n))).toNat + 1 * i.val = _
      rw [hr, Nat.one_mul]
    · show 128 * t + 1 * l.val = _
      rw [Nat.one_mul]

/-- The codes of the first 128 columns of the second level. -/
theorem code0_apply (q : S3x864x160.Idx → BitVec 8) (n : Nat) (hn : n < 216) (hg : GOK (BitVec.ofNat 32 n)) (i : Fin 32) (l : Fin 128) :
    code0 (F := Ideal) q (BitVec.ofNat 32 n) hg (ix2 i l) = codeAt q ⟨32 * n + i.val, by omega⟩ ⟨l.val, by omega⟩ := by
  have hr := rowOf_nat n hn
  unfold code0
  rw [fieldOf_nat n hn, codeTile_apply _ _ _ _ (by omega)]
  apply code_of_planes q n hn
  all_goals
    refine val3 q _ _ _ _ ?_ ?_ ?_
    · rfl
    · show (Scalar.indexCast (rowOf (BitVec.ofNat 32 n))).toNat + 1 * i.val = _
      rw [hr, Nat.one_mul]
    · show 0 + 1 * l.val = _
      rw [Nat.one_mul, Nat.zero_add]

/-- The codes of its last 32 columns. -/
theorem code1_apply (q : S3x864x160.Idx → BitVec 8) (n : Nat) (hn : n < 216) (hg : GOK (BitVec.ofNat 32 n)) (i : Fin 32) (l : Fin 32) :
    code1 (F := Ideal) q (BitVec.ofNat 32 n) hg (ix2 i ⟨l.val, by omega⟩) = codeAt q ⟨32 * n + i.val, by omega⟩ ⟨128 + l.val, by omega⟩ := by
  have hr := rowOf_nat n hn
  unfold code1
  rw [fieldOf_nat n hn, codeTail_apply _ _ _ _ (by omega)]
  apply code_of_planes q n hn
  all_goals
    refine val3 q _ _ _ _ ?_ ?_ ?_
    · rfl
    · show (Scalar.indexCast (rowOf (BitVec.ofNat 32 n))).toNat + 1 * i.val = _
      rw [hr, Nat.one_mul]
    · show 128 + 1 * l.val = _
      rw [Nat.one_mul]

/-- The widened scales, first half. -/
theorem widen_lo (s : S432x160.Idx → EReal) (r : Fin 432) (l : Fin 128) :
    widen (F := Ideal) s (ix3 0 r l) = s (ix2 r ⟨l.val, by omega⟩) := by
  unfold widen widenOn upd
  have hn : ¬ ∀ a, ![1, 0, 0] a ≤ ((ix3 0 r l : S2x432x128.Idx) a).val ∧ ((ix3 0 r l : S2x432x128.Idx) a).val < ![1, 0, 0] a + S1x432x128.size a :=
    fun h => absurd (h 0).1 (by show ¬ 1 ≤ 0; omega)
  have hp : ∀ a, ![0, 0, 0] a ≤ ((ix3 0 r l : S2x432x128.Idx) a).val ∧ ((ix3 0 r l : S2x432x128.Idx) a).val < ![0, 0, 0] a + S1x432x128.size a := by
    intro a
    match a with
    | ⟨0, _⟩ => exact ⟨Nat.le_refl 0, (by show 0 < 0 + 1; omega)⟩
    | ⟨1, _⟩ => exact ⟨Nat.zero_le _, (by show r.val < 0 + 432; omega)⟩
    | ⟨2, _⟩ => exact ⟨Nat.zero_le _, (by show l.val < 0 + 128; omega)⟩
  refine (dif_neg hn).trans ((dif_pos hp).trans ?_)
  refine (val3 (α := EReal) (A := 1) (B := 432) (C := 128) _ _ 0 r l rfl rfl rfl).trans ?_
  pointwise
  exact val2 s _ r ⟨l.val, by omega⟩ (by show 0 + 1 * r.val = r.val; omega) (by show 0 + 1 * l.val = l.val; omega)

/-- The widened scales, second half's first 32 columns. -/
theorem widen_hi (s : S432x160.Idx → EReal) (r : Fin 432) (l : Fin 32) :
    widen (F := Ideal) s (ix3 1 r ⟨l.val, by omega⟩) = s (ix2 r ⟨128 + l.val, by omega⟩) := by
  unfold widen widenOn upd
  have hp : ∀ a, ![1, 0, 0] a ≤ ((ix3 1 r ⟨l.val, by omega⟩ : S2x432x128.Idx) a).val
      ∧ ((ix3 1 r ⟨l.val, by omega⟩ : S2x432x128.Idx) a).val < ![1, 0, 0] a + S1x432x128.size a := by
    intro a
    match a with
    | ⟨0, _⟩ => exact ⟨Nat.le_refl 1, (by show 1 < 1 + 1; omega)⟩
    | ⟨1, _⟩ => exact ⟨Nat.zero_le _, (by show r.val < 0 + 432; omega)⟩
    | ⟨2, _⟩ => exact ⟨Nat.zero_le _, (by show l.val < 0 + 128; omega)⟩
  refine (dif_pos hp).trans ?_
  refine (val3 (α := EReal) (A := 1) (B := 432) (C := 128) _ _ 0 r ⟨l.val, by omega⟩ rfl rfl rfl).trans ?_
  pointwise
  exact val2 s _ r ⟨128 + l.val, by omega⟩ (by show 0 + 1 * r.val = r.val; omega) (by show 128 + 1 * l.val = 128 + l.val; omega)

/-- A row of scales of a group, at an element. -/
theorem scale_row (p : S2x432x128.Idx → EReal) (n : Nat) (hn : n < 216) (h c : Nat) (hh : h < 2) (hc : c < 2)
    (inb : ∀ a, pOff (BitVec.ofNat 32 n) h c a + S1x1x128.size a ≤ S2x432x128.size a) (l : Fin 128) :
    rect (F := Ideal) (e := .f32) p (pOff (BitVec.ofNat 32 n) h c) S1x1x128.size inb (ix3 0 0 l) = p (ix3 ⟨h, hh⟩ ⟨2 * n + c, by omega⟩ l) := by
  have hr := cell_nat n hn c hc
  refine val3 p _ _ _ _ ?_ ?_ ?_
  · show h + 1 * 0 = h
    omega
  · show (Scalar.indexCast (Scalar.addi (Scalar.muli 2#32 (BitVec.ofNat 32 n)) (BitVec.ofNat 32 c))).toNat + 1 * 0 = 2 * n + c
    omega
  · show 0 + 1 * l.val = l.val
    omega

/-- The second level of one half and one cell, at an element. -/
theorem secH_apply (pz ps : S2x432x128.Idx → EReal) (n : Nat) (hn : n < 216) (hg : GOK (BitVec.ofNat 32 n)) (h c : Nat) (hh : h < 2) (hc : c < 2)
    (code : FVec Ideal S32x128 .bf16) (s : Fin 16) (l : Fin 128) :
    secH (F := Ideal) pz ps (BitVec.ofNat 32 n) hg h c hh hc code (ix2 s l)
      = (code (ix2 ⟨16 * c + s.val, by omega⟩ l) - pz (ix3 ⟨h, hh⟩ ⟨2 * n + c, by omega⟩ l)) * ps (ix3 ⟨h, hh⟩ ⟨2 * n + c, by omega⟩ l) := by
  unfold secH
  rw [lev_apply c hc]
  rw [scale_row pz n hn h c hh hc, scale_row ps n hn h c hh hc]

/-- The second level's value for a weight, of the first 128 column groups. -/
theorem sec_lo (q : S3x864x160.Idx → BitVec 8) (zs ss : S432x160.Idx → EReal) (n : Nat) (hn : n < 216) (hg : GOK (BitVec.ofNat 32 n)) (c : Nat) (hc : c < 2)
    (s : Fin 16) (l : Fin 128) :
    sec (F := Ideal) q (widen (F := Ideal) zs) (widen (F := Ideal) ss) (BitVec.ofNat 32 n) hg 0 c (ix2 s l)
      = coarse q zs ss ⟨32 * n + 16 * c + s.val, by omega⟩ ⟨l.val, by omega⟩ := by
  have e : sec (F := Ideal) q (widen (F := Ideal) zs) (widen (F := Ideal) ss) (BitVec.ofNat 32 n) hg 0 c
      = secH (F := Ideal) (widen (F := Ideal) zs) (widen (F := Ideal) ss) (BitVec.ofNat 32 n) hg 0 c (by omega) hc (code0 (F := Ideal) q (BitVec.ofNat 32 n) hg) := by
    interval_cases c <;> rfl
  rw [e, secH_apply _ _ n hn hg 0 c (by omega) hc, code0_apply q n hn]
  have w0 := widen_lo zs ⟨2 * n + c, by omega⟩ l
  have w1 := widen_lo ss ⟨2 * n + c, by omega⟩ l
  rw [show (⟨0, by omega⟩ : Fin 2) = 0 from rfl, w0, w1]
  unfold coarse
  have h1 : 32 * n + (16 * c + s.val) = 32 * n + 16 * c + s.val := by omega
  have h2 : (32 * n + 16 * c + s.val) / 16 = 2 * n + c := by omega
  simp only [h1, h2]

/-- The same of the last 32. -/
theorem sec_hi (q : S3x864x160.Idx → BitVec 8) (zs ss : S432x160.Idx → EReal) (n : Nat) (hn : n < 216) (hg : GOK (BitVec.ofNat 32 n)) (c : Nat) (hc : c < 2)
    (s : Fin 16) (l : Fin 32) :
    sec (F := Ideal) q (widen (F := Ideal) zs) (widen (F := Ideal) ss) (BitVec.ofNat 32 n) hg 1 c (ix2 s ⟨l.val, by omega⟩)
      = coarse q zs ss ⟨32 * n + 16 * c + s.val, by omega⟩ ⟨128 + l.val, by omega⟩ := by
  have e : sec (F := Ideal) q (widen (F := Ideal) zs) (widen (F := Ideal) ss) (BitVec.ofNat 32 n) hg 1 c
      = secH (F := Ideal) (widen (F := Ideal) zs) (widen (F := Ideal) ss) (BitVec.ofNat 32 n) hg 1 c (by omega) hc (code1 (F := Ideal) q (BitVec.ofNat 32 n) hg) := by
    interval_cases c <;> rfl
  rw [e, secH_apply _ _ n hn hg 1 c (by omega) hc, code1_apply q n hn]
  have w0 := widen_hi zs ⟨2 * n + c, by omega⟩ l
  have w1 := widen_hi ss ⟨2 * n + c, by omega⟩ l
  rw [show (⟨1, by omega⟩ : Fin 2) = 1 from rfl, w0, w1]
  unfold coarse
  have h1 : 32 * n + (16 * c + s.val) = 32 * n + 16 * c + s.val := by omega
  have h2 : (32 * n + 16 * c + s.val) / 16 = 2 * n + c := by omega
  simp only [h1, h2]

/-- The second level's value that a lane of column tile `t` reads. -/
theorem sec_gat (q : S3x864x160.Idx → BitVec 8) (zs ss : S432x160.Idx → EReal) (n : Nat) (hn : n < 216) (hg : GOK (BitVec.ofNat 32 n)) (c : Nat) (hc : c < 2)
    (t : Nat) (ht : t < 20) (s : Fin 16) (l : Fin 128) :
    gat t (sec (F := Ideal) q (widen (F := Ideal) zs) (widen (F := Ideal) ss) (BitVec.ofNat 32 n) hg (8 * t / 128) c) (ix2 s l)
      = coarse q zs ss ⟨32 * n + 16 * c + s.val, by omega⟩ ⟨(128 * t + l.val) / 16, by omega⟩ := by
  have hl := l.isLt
  rw [gat_apply t ht]
  by_cases h : t < 16
  · rw [show 8 * t / 128 = 0 by omega, sec_lo q zs ss n hn hg c hc]
    refine congrArg _ (Fin.ext ?_)
    change (8 * t + l.val / 16) % 128 = (128 * t + l.val) / 16
    omega
  · rw [show 8 * t / 128 = 1 by omega]
    have := sec_hi q zs ss n hn hg c hc s ⟨(8 * t + l.val / 16) % 128, by omega⟩
    rw [this]
    refine congrArg _ (Fin.ext ?_)
    change 128 + (8 * t + l.val / 16) % 128 = (128 * t + l.val) / 16
    omega

/-- A group's table, at an element. -/
theorem tabG_apply (D : Ro Ideal) (n : Nat) (hn : n < 216) (hg : GOK (BitVec.ofNat 32 n)) (s : Fin 8) (l : Fin 128) :
    tabG D (BitVec.ofNat 32 n) hg (ix2 s l) = D.tb (ix4 0 ⟨n, hn⟩ s l) ||| D.tb (ix4 1 ⟨n, hn⟩ s l) := by
  have hr := tab_nat n hn
  unfold tabG
  rw [tab_apply]
  congr 1
  all_goals
    refine val4 D.tb _ _ _ _ _ ?_ ?_ ?_ ?_
    · rfl
    · show (Scalar.indexCast (BitVec.ofNat 32 n)).toNat + 1 * 0 = n
      omega
    · show 0 + 1 * s.val = s.val
      omega
    · show 0 + 1 * l.val = l.val
      omega

/-- The outliers of eight rows of a group, at an element. -/
theorem outl_word (D : Ro Ideal) (n : Nat) (hn : n < 216) (hg : GOK (BitVec.ofNat 32 n)) (t : Nat) (ht : t < 20) (a : Nat) (ha : a < 4) (s : Fin 8) (l : Fin 128)
    (r : Fin 6912) (hr : r.val = 32 * n + 8 * a + s.val) (k : Fin 2560) (hk : k.val = 128 * t + l.val) :
    outl t ⟨a, ha⟩ (tabG D (BitVec.ofNat 32 n) hg) (slotBase (F := Ideal) (BitVec.ofNat 32 n) (BitVec.ofNat 32 (8 * a))) (ix2 s l)
      = outlier (word D.tb r k) k := by
  have hs := s.isLt
  rw [outl_apply t n a ht hn ha, tabG_apply D n hn, hk]
  congr 1
  unfold word
  have h1 : r.val / 32 = n := by omega
  have h2 : r.val % 8 = s.val := by omega
  have h3 : r.val % 32 / 8 = a := by omega
  rw [hr] at h1 h2 h3
  simp only [hr, hk, h1, h2, h3]

/-- A block's value, at an element. -/
theorem blockVal_apply (t c : Nat) (hc : c < 2) (a a' : Fin 4) (code : FVec Ideal S32x128 .bf16) (s z : FVec Ideal S16x128 .f32) (table : IVec S8x128 32)
    (b b' : FVec Ideal S8x128 .f32) (i : Fin 16) (l : Fin 128) :
    blockVal t c a a' code s z table b b' (ix2 i l)
      = (code (ix2 ⟨16 * c + i.val, by omega⟩ l) - gat t z (ix2 i l)) * gat t s (ix2 i l)
        + (if h : i.val < 8 then outl t a table b (ix2 ⟨i.val, h⟩ l) else outl t a' table b' (ix2 ⟨i.val - 8, by omega⟩ l)) := by
  unfold blockVal
  generalize gat t z = gz
  generalize gat t s = gs
  generalize outl t a table b = o
  generalize outl t a' table b' = o'
  pointwise
  rw [half16_apply c hc]

/-- A block of a group is the weight's rows and columns. -/
theorem blk_apply (D : Ro Ideal) (ss zs sz zz : S432x160.Idx → EReal) (h0 : D.p0 = widen (F := Ideal) ss) (h1 : D.p1 = widen (F := Ideal) zs)
    (h2 : D.p2 = widen (F := Ideal) sz) (h3 : D.p3 = widen (F := Ideal) zz)
    (n : Nat) (hn : n < 216) (hg : GOK (BitVec.ofNat 32 n)) (t : Nat) (ht : t < 20) (c : Nat) (hc : c < 2) (s : Fin 16) (l : Fin 128)
    (r : Fin 6912) (hr : r.val = 32 * n + 16 * c + s.val) (k : Fin 2560) (hk : k.val = 128 * t + l.val) :
    blk D (BitVec.ofNat 32 n) hg t ht c (ix2 s l) = weight D.q D.qs D.qz ss zs sz zz D.tb r k := by
  have hs := s.isLt
  have er : r = ⟨32 * n + 16 * c + s.val, by omega⟩ := Fin.ext hr
  have ek : k = ⟨128 * t + l.val, by omega⟩ := Fin.ext hk
  have go : ∀ a (ha : a < 4) a' (ha' : a' < 4), a = 2 * c → a' = 2 * c + 1 →
      blockVal t c ⟨a, ha⟩ ⟨a', ha'⟩ (qTile D (BitVec.ofNat 32 n) hg t ht)
        (sec D.qs D.p1 D.p0 (BitVec.ofNat 32 n) hg (8 * t / 128) c) (sec D.qz D.p3 D.p2 (BitVec.ofNat 32 n) hg (8 * t / 128) c) (tabG D (BitVec.ofNat 32 n) hg)
        (slotBase (F := Ideal) (BitVec.ofNat 32 n) (BitVec.ofNat 32 (8 * a))) (slotBase (F := Ideal) (BitVec.ofNat 32 n) (BitVec.ofNat 32 (8 * a'))) (ix2 s l)
      = weight D.q D.qs D.qz ss zs sz zz D.tb r k := by
    intro a ha a' ha' ea ea'
    rw [blockVal_apply t c hc, qTile_apply D n hn hg t ht, h0, h1, h2, h3, sec_gat D.qs zs ss n hn hg c hc t ht, sec_gat D.qz zz sz n hn hg c hc t ht]
    unfold weight
    congr 1
    · rw [er, ek]
      have e1 : 32 * n + (16 * c + s.val) = 32 * n + 16 * c + s.val := by omega
      simp only [e1]
    · by_cases h : s.val < 8
      · rw [dif_pos h]
        exact outl_word D n hn hg t ht a ha ⟨s.val, h⟩ l r (by change r.val = _ + s.val; omega) k hk
      · rw [dif_neg h]
        exact outl_word D n hn hg t ht a' ha' ⟨s.val - 8, by omega⟩ l r (by change r.val = _ + (s.val - 8); omega) k hk
  unfold blk blkOf
  interval_cases c
  · exact go 0 (by omega) 1 (by omega) rfl rfl
  · exact go 2 (by omega) 3 (by omega) rfl rfl

/-- A weight block is the weight's rows. -/
theorem wBlk_apply (D : Ro Ideal) (ss zs sz zz : S432x160.Idx → EReal) (h0 : D.p0 = widen (F := Ideal) ss) (h1 : D.p1 = widen (F := Ideal) zs)
    (h2 : D.p2 = widen (F := Ideal) sz) (h3 : D.p3 = widen (F := Ideal) zz) (N : Nat) (hN : N < 9) (i : Fin 768) (k : Fin 2560) :
    wBlk D N hN (ix2 i k) = weight D.q D.qs D.qz ss zs sz zz D.tb ⟨768 * N + i.val, by omega⟩ k := by
  unfold wBlk
  have hk := k.isLt
  exact blk_apply D ss zs sz zz h0 h1 h2 h3 (24 * N + i.val / 32) (by omega) _ (k.val / 128) (by omega) (i.val % 32 / 16) (by omega) ⟨i.val % 16, by omega⟩ ⟨k.val % 128, by omega⟩
    _ (by change 768 * N + i.val = 32 * (24 * N + i.val / 32) + 16 * (i.val % 32 / 16) + i.val % 16; omega) k (by change k.val = 128 * (k.val / 128) + k.val % 128; omega)

end Cert.Value

end
-- ==== Proof.Value.Array.lean ====
/-
  The kernel's result array: the block of a grid point is the input's block times the weight's block, and the
  blocks of all grid points make up the whole product.
-/
module

public import proofs.«01_k».proof.Proof.KernelIdeal.Frame
public import proofs.«01_k».proof.Proof.Value.Block

@[expose] public section

set_option maxRecDepth 16384

noncomputable section

namespace Cert.Value

open Cert.KernelIdeal Cert.KernelIdeal.Gen Cert.KernelIdeal.Hand Cert.Weight
open Idealize.ShloMosaic Idealize.ShloMosaic.TcCoe Idealize.ShloMosaic.Tactic Idealize.SL.Sem

/-- A product of an input block and 256 rows of weight, at an element. -/
theorem mmVal_apply (a : S1024x2560.Idx → EReal) (b : S256x2560.Idx → EReal) (i : Fin 1024) (j : Fin 256) :
    (mmVal (F := Ideal) a b : S1024x256.Idx → EReal) (ix2 i j) = ∑ k : Fin 2560, a (ix2 i k) * b (ix2 j k) := by
  unfold mmVal
  pointwise

/-- One step's product, at an element of its 256 columns. -/
theorem part_apply (x : S1024x2560.Idx → EReal) (w : S768x2560.Idx → EReal) (s : Fin 3) (f : S1024x256.Idx) (i : Fin 1024) (j : Fin 768)
    (h0 : (f 0).val = i.val) (h1 : (f 1).val + 256 * s.val = j.val) :
    (mmVal (F := Ideal) (rect (F := Ideal) (e := .bf16) x ![0, 0] S1024x2560.size inb_S1024x2560_S1024x2560_0_0)
      (rect (F := Ideal) (e := .bf16) w ![256 * s.val, 0] S256x2560.size (cOff_inb s)) : S1024x256.Idx → EReal) f
      = ∑ k : Fin 2560, x (ix2 i k) * w (ix2 j k) := by
  have hb : (f 1).val < 256 := (f 1).isLt
  refine (val2 _ f i ⟨(f 1).val, hb⟩ h0 rfl).trans ?_
  refine (mmVal_apply _ _ i ⟨(f 1).val, hb⟩).trans ?_
  refine Finset.sum_congr rfl fun k _ => ?_
  refine congrArg₂ (· * ·) ?_ ?_
  · refine val2 x _ i k ?_ ?_
    · show 0 + 1 * i.val = i.val; omega
    · show 0 + 1 * k.val = k.val; omega
  · refine val2 w _ j k ?_ ?_
    · show 256 * s.val + 1 * (f 1).val = j.val; omega
    · show 0 + 1 * k.val = k.val; omega

/-- A grid point's result block, at an element. -/
theorem yBlk_apply (x : S1024x2560.Idx → EReal) (w : S768x2560.Idx → EReal) (i : Fin 1024) (j : Fin 768) :
    (yBlk (F := Ideal) x w : S1024x768.Idx → EReal) (ix2 i j) = ∑ k : Fin 2560, x (ix2 i k) * w (ix2 j k) := by
  unfold yBlk yStep upd
  split
  · next h2 =>
    refine part_apply x w 2 _ i j ?_ ?_
    · show i.val - 0 = i.val; omega
    · have := h2 1
      change 512 ≤ j.val ∧ j.val < 512 + 256 at this
      show j.val - 512 + 512 = j.val; omega
  · next h2 =>
    split
    · next h1 =>
      refine part_apply x w 1 _ i j ?_ ?_
      · show i.val - 0 = i.val; omega
      · have := h1 1
        change 256 ≤ j.val ∧ j.val < 256 + 256 at this
        show j.val - 256 + 256 = j.val; omega
    · next h1 =>
      split
      · next h0 =>
        refine part_apply x w 0 _ i j ?_ ?_
        · show i.val - 0 = i.val; omega
        · show j.val - 0 + 0 = j.val; omega
      · next h0 =>
        exfalso
        have y0 : i.val < 1024 := i.isLt
        have y1 : j.val < 768 := j.isLt
        rcases (by omega : j.val < 256 ∨ (256 ≤ j.val ∧ j.val < 512) ∨ (512 ≤ j.val ∧ j.val < 768)) with e | e | e
        · refine h0 fun a => ?_
          match a with
          | ⟨0, _⟩ => change 0 ≤ i.val ∧ i.val < 0 + 1024; omega
          | ⟨1, _⟩ => change 0 ≤ j.val ∧ j.val < 0 + 256; omega
        · refine h1 fun a => ?_
          match a with
          | ⟨0, _⟩ => change 0 ≤ i.val ∧ i.val < 0 + 1024; omega
          | ⟨1, _⟩ => change 256 ≤ j.val ∧ j.val < 256 + 256; omega
        · refine h2 fun a => ?_
          match a with
          | ⟨0, _⟩ => change 0 ≤ i.val ∧ i.val < 0 + 1024; omega
          | ⟨1, _⟩ => change 512 ≤ j.val ∧ j.val < 512 + 256; omega

/-- The whole product, as an array. -/
def linearArr (x : S8192x2560.Idx → EReal) (q : S3x864x2560.Idx → BitVec 8) (qs qz : S3x864x160.Idx → BitVec 8)
    (ss zs sz zz : S432x160.Idx → EReal) (tb : S2x216x8x128.Idx → BitVec 32) : S8192x6912.Idx → EReal :=
  fun y => linear x q qs qz ss zs sz zz tb (y 0) (y 1)

variable (m : (ℓ : Loc nD τ sig) → Buf (Elt Ideal) ℓ)

/-- The input's block index at a grid point. -/
theorem index0 : ∀ t : Fin cfg0.N, win0_0.index t = ![t.val % 8, 0] :=
  (by decide +kernel : ∀ t : Fin grid0.N, win0_0.index t = ![t.val % 8, 0])
/-- The result's block index at a grid point. -/
theorem index9 : ∀ t : Fin cfg0.N, win0_9.index t = ![t.val % 8, t.val / 8] :=
  (by decide +kernel : ∀ t : Fin grid0.N, win0_9.index t = ![t.val % 8, t.val / 8])

/-- The input's block at a grid point, at an element. -/
theorem iblk0_apply (c : Dev nD) (t : Fin cfg0.N) (i : Fin 1024) (k : Fin 2560) (h : 1024 * (t.val % 8) + i.val < 8192) :
    (iblk m c 0 t : S1024x2560.Idx → EReal) (ix2 i k) = (V m c main_arg0 : S8192x2560.Idx → EReal) (ix2 ⟨1024 * (t.val % 8) + i.val, h⟩ k) := by
  unfold iblk
  refine val2 (V m c main_arg0 : S8192x2560.Idx → EReal) _ _ _ ?_ ?_
  · blk_simp [index0]
    show t.val % 8 * 1024 + i.val = 1024 * (t.val % 8) + i.val
    omega
  · blk_simp [index0]
    try (show 0 + k.val = k.val; omega)

/-- The kernel's result array after the run is the product of the input and the weight. -/
theorem arr9 (c : Dev nD) :
    (dats (F := Ideal) m 0 c).arrAt 9 cfg0.N = linearArr (V m c main_arg0) (V m c main_arg1) (V m c main_arg2) (V m c main_arg3)
      (V m c main_arg4) (V m c main_arg5) (V m c main_arg6) (V m c main_arg7) (V m c main_arg8) := by
  refine (dats (F := Ideal) m 0 c).arrAt_eq_of_covers 9 _ (by decide +kernel) fun t hf y => ?_
  rw [after0_9]
  blk_simp
  have e0 : ((win0_9.blk t).view.emb y 0).val = 1024 * (t.val % 8) + (y 0).val := by
    blk_simp [index9]
    omega
  have e1 : ((win0_9.blk t).view.emb y 1).val = 768 * (t.val / 8) + (y 1).val := by
    blk_simp [index9]
    omega
  have hy0 : (y 0).val < 1024 := (y 0).isLt
  have hy1 : (y 1).val < 768 := (y 1).isLt
  have ht : t.val < 72 := t.isLt
  unfold linearArr outAt
  generalize (win0_9.blk t).view.emb y = z at e0 e1 ⊢
  have z0 : z 0 = ⟨1024 * (t.val % 8) + (y 0).val, by omega⟩ := Fin.ext e0
  have z1 : z 1 = ⟨768 * (t.val / 8) + (y 1).val, by omega⟩ := Fin.ext e1
  rw [z0, z1]
  refine (val2 _ y ⟨(y 0).val, hy0⟩ ⟨(y 1).val, hy1⟩ rfl rfl).trans ?_
  refine (yBlk_apply _ _ _ _).trans ?_
  unfold linear
  refine Finset.sum_congr rfl fun k _ => congrArg₂ (· * ·) (iblk0_apply m c t ⟨(y 0).val, hy0⟩ k (by show 1024 * (t.val % 8) + (y 0).val < 8192; omega)) ?_
  refine (wBlk_apply (roOf m c) _ _ _ _ rfl rfl rfl rfl _ _ ⟨(y 1).val, hy1⟩ k).trans ?_
  simp only [coord0_eq]
  rfl

/-- The run ends with the product in the result array and every argument as it began. -/
theorem run_value (ρ : Dev nD → PrngReg) : θ_run (defs (F := Ideal)) (onTc (τ := τ) (main (F := Ideal))) ⟨m, fun _ => 0, ρ⟩ (fun r =>
    (∀ c : Dev nD, r.2.mem ((c.tc : Thread nD τ).loc main_v0) = linearArr (V m c main_arg0) (V m c main_arg1) (V m c main_arg2) (V m c main_arg3)
      (V m c main_arg4) (V m c main_arg5) (V m c main_arg6) (V m c main_arg7) (V m c main_arg8))
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h => ⟨fun c => ((h.1 c).1 9).trans (arr9 m c), fun c => ⟨((h.1 c).1 0).trans (((dats m 0 c).arrAt_in 0 rfl _).trans (A_eq m c 0)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 4).trans (((dats m 0 c).arrAt_in 4 rfl _).trans (A_eq m c 4)),
    ((h.1 c).1 5).trans (((dats m 0 c).arrAt_in 5 rfl _).trans (A_eq m c 5)),
    ((h.1 c).1 6).trans (((dats m 0 c).arrAt_in 6 rfl _).trans (A_eq m c 6)),
    ((h.1 c).1 7).trans (((dats m 0 c).arrAt_in 7 rfl _).trans (A_eq m c 7)),
    ((h.1 c).1 8).trans (((dats m 0 c).arrAt_in 8 rfl _).trans (A_eq m c 8))⟩⟩) (run_main m ρ)

end Cert.Value

end
-- ==== Proof.Value.RefCodes.lean ====
/-
  The reference's codes, second level and indices at an element.
-/
module

public import proofs.«01_k».proof.Proof.Gen.ReferenceIdeal.Run
public import proofs.«01_k».proof.Proof.Value.Weight

@[expose] public section

set_option maxRecDepth 16384

noncomputable section

namespace Cert.RefValue

open Cert.ReferenceIdeal Cert.ReferenceIdeal.Gen Cert.ReferenceIdeal.Value Cert.Weight
open Idealize.ShloMosaic Idealize.ShloMosaic.StableHlo Idealize.SL.Sem

/-- A bit of a byte, as the reference takes it: the byte widened, shifted, and its lowest bit kept. -/
def bitOf (b : BitVec 8) (f : Nat) : BitVec 32 := IntOp.andi (IntOp.shrsi .host (BitVec.setWidth 32 b) (BitVec.ofNat 32 f)) 1#32

theorem bitOf_eq : ∀ b : BitVec 8, ∀ f < 8, bitOf b f = BitVec.ofNat 32 (b.getLsbD f).toNat := by decide +kernel

/-- The reference's code word is the code. -/
theorem codeWord_eq (a b c : BitVec 8) (f : Nat) (hf : f < 8) :
    (IntOp.addi (IntOp.addi (bitOf a f) (IntOp.muli 2#32 (bitOf b f))) (IntOp.muli 4#32 (bitOf c f))).toInt = (code a b c f : Int) := by
  rw [bitOf_eq a f hf, bitOf_eq b f hf, bitOf_eq c f hf]
  unfold code
  cases a.getLsbD f <;> cases b.getLsbD f <;> cases c.getLsbD f <;> decide

theorem toInt_nat (n : Nat) (hn : n < 2 ^ 31) : (BitVec.ofNat 32 n).toInt = (n : Int) := by
  rw [BitVec.toInt_ofNat', Int.bmod_eq_of_le (by omega) (by omega)]

/-- The reference's code of three bytes, as a float. -/
theorem code_of_words (a b c : BitVec 8) (f : Nat) (hf : f < 8) (A B C G : BitVec 32) (hA : A = BitVec.setWidth 32 a) (hB : B = BitVec.setWidth 32 b)
    (hC : C = BitVec.setWidth 32 c) (hG : G = BitVec.ofNat 32 f) :
    FloatOps.sitofp (F := Ideal) .bf16 (IntOp.addi (IntOp.addi (IntOp.andi (IntOp.shrsi .host A G) 1#32) (IntOp.muli 2#32 (IntOp.andi (IntOp.shrsi .host B G) 1#32)))
      (IntOp.muli 4#32 (IntOp.andi (IntOp.shrsi .host C G) 1#32))) = ((code a b c f : ℝ) : EReal) := by
  subst hA hB hC hG
  have h := codeWord_eq a b c f hf
  unfold bitOf at h
  show (((BitVec.toInt _ : Int) : ℝ) : EReal) = _
  rw [h]
  norm_cast

/-- The field numbers. -/
theorem field_apply (V0 : Valuation τ sig (Elt Ideal)) (f : Fin 8) : (res_main_v87 V0 : S8x1x1.Idx → BitVec 32) (ix3 f 0 0) = BitVec.ofNat 32 f.val := by
  unfold res_main_v87
  pointwise
theorem field_apply' (V0 : Valuation τ sig (Elt Ideal)) (f : Fin 8) : (res_main_v44 V0 : S8x1x1.Idx → BitVec 32) (ix3 f 0 0) = BitVec.ofNat 32 f.val := by
  unfold res_main_v44
  pointwise
theorem field_apply'' (V0 : Valuation τ sig (Elt Ideal)) (f : Fin 8) : (res_main_v1 V0 : S8x1x1.Idx → BitVec 32) (ix3 f 0 0) = BitVec.ofNat 32 f.val := by
  unfold res_main_v1
  pointwise

/-- The planes widened. -/
theorem plane_apply (V0 : Valuation τ sig (Elt Ideal)) (q : S3x864x2560.Idx → BitVec 8) (hq : V0 (Proc.devRef .tc main_arg1) = q) (i : S3x864x2560.Idx) :
    (res_main_v88 V0 : S3x864x2560.Idx → BitVec 32) i = BitVec.setWidth 32 (q i) := by
  unfold res_main_v88
  rw [hq]
  rfl
theorem plane_apply' (V0 : Valuation τ sig (Elt Ideal)) (q : S3x864x160.Idx → BitVec 8) (hq : V0 (Proc.devRef .tc main_arg3) = q) (i : S3x864x160.Idx) :
    (res_main_v45 V0 : S3x864x160.Idx → BitVec 32) i = BitVec.setWidth 32 (q i) := by
  unfold res_main_v45
  rw [hq]
  rfl
theorem plane_apply'' (V0 : Valuation τ sig (Elt Ideal)) (q : S3x864x160.Idx → BitVec 8) (hq : V0 (Proc.devRef .tc main_arg2) = q) (i : S3x864x160.Idx) :
    (res_main_v2 V0 : S3x864x160.Idx → BitVec 32) i = BitVec.setWidth 32 (q i) := by
  unfold res_main_v2
  rw [hq]
  rfl

/-- The dequantised weight before its outliers, at an element. -/
theorem dense_apply (V0 : Valuation τ sig (Elt Ideal)) (q : S3x864x2560.Idx → BitVec 8) (qs qz : S3x864x160.Idx → BitVec 8) (ss zs sz zz : S432x160.Idx → EReal)
    (hq : V0 (Proc.devRef .tc main_arg1) = q) (hqs : V0 (Proc.devRef .tc main_arg2) = qs) (hqz : V0 (Proc.devRef .tc main_arg3) = qz)
    (hss : V0 (Proc.devRef .tc main_arg4) = ss) (hzs : V0 (Proc.devRef .tc main_arg5) = zs) (hsz : V0 (Proc.devRef .tc main_arg6) = sz)
    (hzz : V0 (Proc.devRef .tc main_arg7) = zz) (r : Fin 6912) (g : Fin 160) (c : Fin 16) :
    (res_main_v127 V0 : S6912x160x16.Idx → EReal) (ix3 r g c)
      = (codeAt q r ⟨g.val * 16 + c.val, by omega⟩ - coarse qz zz sz r g) * coarse qs zs ss r g := by
  have hr := r.isLt
  have hf : r.val / 864 < 8 := by omega
  have e1 : r.val / 16 % 54 * 16 + r.val % 16 = r.val % 864 := by omega
  have e2 : r.val / 16 / 54 = r.val / 864 := by omega
  have p := plane_apply V0 q hq
  have p' := plane_apply' V0 qz hqz
  have p'' := plane_apply'' V0 qs hqs
  have f := field_apply V0 ⟨r.val / 864, hf⟩
  have f' := field_apply' V0 ⟨r.val / 864, hf⟩
  have f'' := field_apply'' V0 ⟨r.val / 864, hf⟩
  unfold res_main_v127
  generalize (res_main_v88 V0 : S3x864x2560.Idx → BitVec 32) = A at p ⊢
  generalize (res_main_v45 V0 : S3x864x160.Idx → BitVec 32) = A' at p' ⊢
  generalize (res_main_v2 V0 : S3x864x160.Idx → BitVec 32) = A'' at p'' ⊢
  generalize (res_main_v87 V0 : S8x1x1.Idx → BitVec 32) = G at f ⊢
  generalize (res_main_v44 V0 : S8x1x1.Idx → BitVec 32) = G' at f' ⊢
  generalize (res_main_v1 V0 : S8x1x1.Idx → BitVec 32) = G'' at f'' ⊢
  rw [hss, hzs, hsz, hzz]
  pointwise
  unfold coarse
  refine congrArg₂ (· * ·) (congrArg₂ (· - ·) ?_ (congrArg₂ (· * ·) (congrArg₂ (· - ·) ?_ rfl) rfl)) (congrArg₂ (· * ·) (congrArg₂ (· - ·) ?_ rfl) rfl)
  · exact code_of_words _ _ _ (r.val / 864) hf _ _ _ _ (p _) (p _) (p _) f
  · simp only [e1, e2]
    exact code_of_words _ _ _ (r.val / 864) hf _ _ _ _ (p' _) (p' _) (p' _) f'
  · simp only [e1, e2]
    exact code_of_words _ _ _ (r.val / 864) hf _ _ _ _ (p'' _) (p'' _) (p'' _) f''

theorem divsi_nat (a : Nat) (ha : a < 2 ^ 31) : IntOp.divsi .host (BitVec.ofNat 32 a) 99#32 = BitVec.ofNat 32 (a / 99) := by
  unfold IntOp.divsi
  rw [if_neg (by unfold IntOp.SDivCorner; rintro (h | ⟨_, h⟩) <;> exact absurd h (by decide)), BitVec.sdiv_eq]
  have m : (BitVec.ofNat 32 a).msb = false := by
    rw [BitVec.msb_eq_decide, BitVec.toNat_ofNat]
    exact decide_eq_false (by omega)
  rw [m]
  show (BitVec.ofNat 32 a) / 99#32 = _
  apply BitVec.eq_of_toNat_eq
  rw [BitVec.toNat_udiv, BitVec.toNat_ofNat, BitVec.toNat_ofNat, BitVec.toNat_ofNat, Nat.mod_eq_of_lt (a := a) (by omega), Nat.mod_eq_of_lt (a := 99) (by omega),
    Nat.mod_eq_of_lt (a := a / 99) (by omega)]

/-- The stretch that the reference computes. -/
theorem stretch_apply (V0 : Valuation τ sig (Elt Ideal)) (r : Fin 6912) (c : Fin 2560) :
    (res_main_v146 V0 : S6912x2560.Idx → BitVec 32) (ix2 r c) = BitVec.ofNat 32 (stretch r c) := by
  have hr := r.isLt
  have hc := c.isLt
  unfold res_main_v146 res_main_v139 res_main_v140
  pointwise
  have e : IntOp.muli (BitVec.ofNat 32 r.val) 2560#32 = BitVec.ofNat 32 (2560 * r.val) := by
    show BitVec.ofNat 32 r.val * BitVec.ofNat 32 2560 = _
    rw [← BitVec.ofNat_mul, Nat.mul_comm]
  have e' : IntOp.addi (BitVec.ofNat 32 (2560 * r.val)) (BitVec.ofNat 32 c.val) = BitVec.ofNat 32 (2560 * r.val + c.val) := (BitVec.ofNat_add _ _).symm
  rw [e, e', divsi_nat _ (by omega), divsi_nat _ (by omega)]
  show BitVec.ofNat 32 _ - BitVec.ofNat 32 _ = _
  have hle : 2560 * r.val / 99 ≤ (2560 * r.val + c.val) / 99 := by omega
  unfold stretch
  generalize 2560 * r.val / 99 = x at *
  generalize (2560 * r.val + c.val) / 99 = y at *
  rw [show y = (y - x) + x by omega, BitVec.ofNat_add, BitVec.add_sub_cancel, Nat.add_sub_cancel]

/-- The reference's table of 32 words a row, at an element. -/
theorem table_apply (tb : S2x216x8x128.Idx → BitVec 32) (r : Fin 6912) (c : Fin 32) :
    (shapeCast S6912x32 (transpose S216x4x8x32 [0, 2, 1, 3] (shapeCast S216x8x4x32 (ori (shapeCast S216x8x128 (extractStridedSlice S1x216x8x128 ![0, 0, 0, 0] tb slices_S2x216x8x128_S1x216x8x128_0_0_0_0) shapeCasts_S1x216x8x128_S216x8x128) (shapeCast S216x8x128 (extractStridedSlice S1x216x8x128 ![1, 0, 0, 0] tb slices_S2x216x8x128_S1x216x8x128_1_0_0_0) shapeCasts_S1x216x8x128_S216x8x128)) shapeCasts_S216x8x128_S216x8x4x32) transposes_S216x8x4x32_S216x4x8x32_0_2_1_3) shapeCasts_S216x4x8x32_S6912x32 : IVec S6912x32 32) (ix2 r c)
      = tb (ix4 0 ⟨r.val / 32, by omega⟩ ⟨r.val % 8, by omega⟩ ⟨32 * (r.val % 32 / 8) + c.val, by omega⟩)
        ||| tb (ix4 1 ⟨r.val / 32, by omega⟩ ⟨r.val % 8, by omega⟩ ⟨32 * (r.val % 32 / 8) + c.val, by omega⟩) := by
  have e : r.val / 8 % 4 * 32 + c.val = 32 * (r.val % 32 / 8) + c.val := by omega
  pointwise
  simp only [e]
  rfl

/-- The gather along a row's 32 words, at an element. -/
theorem gather_apply {α : Type} (x : S6912x32.Idx → α) (idx : IVec S6912x2560x1 32) (r : Fin 6912) (c : Fin 2560) :
    Host.gather gather_S6912x32_S6912x2560x1_S6912x2560_n_1_0_0_1_2_11 x idx (ix2 r c)
      = x (ix2 r ⟨min (idx (ix3 r c 0)).toInt.toNat 31, by omega⟩) := by
  unfold Host.gather
  congr 1
  funext a
  refine Fin.ext ?_
  show gather_S6912x32_S6912x2560x1_S6912x2560_n_1_0_0_1_2_11.start (ix2 r c) idx a + gather_S6912x32_S6912x2560x1_S6912x2560_n_1_0_0_1_2_11.batchCoord (ix2 r c) a
      + gather_S6912x32_S6912x2560x1_S6912x2560_n_1_0_0_1_2_11.offCoord (ix2 r c) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S6912x32_S6912x2560x1_S6912x2560_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S6912x32_S6912x2560x1_S6912x2560_n_1_0_0_1_2_11.startIndexMap from List.mem_singleton.mpr rfl)]
    have hsi : gather_S6912x32_S6912x2560x1_S6912x2560_n_1_0_0_1_2_11.siIdx (ix2 r c)
        ⟨List.idxOf (1 : Fin 2) gather_S6912x32_S6912x2560x1_S6912x2560_n_1_0_0_1_2_11.startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl

/-- The word that the reference reads, at an element. -/
theorem word_apply (V0 : Valuation τ sig (Elt Ideal)) (tb : S2x216x8x128.Idx → BitVec 32) (ht : V0 (Proc.devRef .tc main_arg8) = tb) (r : Fin 6912) (c : Fin 2560) :
    (res_main_v147 V0 : S6912x2560.Idx → BitVec 32) (ix2 r c) = word tb r c := by
  have hst := stretch_lt r.val c.val c.isLt
  have hs := stretch_apply V0 r c
  unfold res_main_v147
  generalize (res_main_v146 V0 : S6912x2560.Idx → BitVec 32) = v at hs ⊢
  rw [ht]
  have hi : (shapeCast S6912x2560x1 (select (cmpi .slt v (broadcastInDim S6912x2560 ![] bcast_S_S6912x2560 (constantI S_ 32 0#32)))
      (addi v (broadcastInDim S6912x2560 ![] bcast_S_S6912x2560 (constantI S_ 32 32#32))) v) shapeCasts_S6912x2560_S6912x2560x1
      : IVec S6912x2560x1 32) (ix3 r c 0) = BitVec.ofNat 32 (stretch r c) := by
    pointwise
    rw [hs]
    have : ∀ n < 32, Scalar.select (IntOp.cmpi .slt (BitVec.ofNat 32 n) 0#32) (IntOp.addi (BitVec.ofNat 32 n) 32#32) (BitVec.ofNat 32 n) = BitVec.ofNat 32 n := by
      decide +kernel
    exact this _ hst
  refine (gather_apply _ _ r c).trans ((table_apply tb r _).trans ?_)
  have e : min (BitVec.ofNat 32 (stretch r c)).toInt.toNat 31 = stretch r c := by
    rw [toInt_nat _ (by omega), Int.toNat_natCast]
    omega
  unfold word
  simp only [hi, e]

end Cert.RefValue
end
-- ==== Proof.Value.RefValue.lean ====
/-
  The reference's result at an element: the sum over the columns of the input times the weight.
-/
module

public import proofs.«01_k».proof.Proof.Value.RefCodes

@[expose] public section

set_option maxRecDepth 16384

noncomputable section

namespace Cert.RefValue

open Cert.ReferenceIdeal Cert.ReferenceIdeal.Gen Cert.ReferenceIdeal.Value Cert.Weight
open Idealize.ShloMosaic Idealize.ShloMosaic.StableHlo Idealize.SL.Sem

/-- The reference's outliers, at an element. -/
theorem outlier_apply (w v : S6912x2560.Idx → BitVec 32) (r : Fin 6912) (c : Fin 2560) (x : BitVec 32) (hw : w (ix2 r c) = x) (hv : v (ix2 r c) = BitVec.ofNat 32 c.val) :
    (select (cmpi .eq (andi w (broadcastInDim S6912x2560 ![] bcast_S_S6912x2560 (constantI S_ 32 65535#32))) v)
      (truncf .bf16 (bitcastToFloat (F := Ideal) .f32 (andi w (broadcastInDim S6912x2560 ![] bcast_S_S6912x2560 (constantI S_ 32 4294901760#32)))) bitsLt_bf16_f32)
      (broadcastInDim S6912x2560 ![] bcast_S_S6912x2560 (constant (F := Ideal) S_ .bf16 0x0000#16)) : FVec Ideal S6912x2560 .bf16) (ix2 r c) = outlier x c := by
  pointwise
  rw [hw, hv]
  unfold outlier
  by_cases h : x &&& 65535#32 = BitVec.ofNat 32 c.val
  · rw [if_pos h]
    have : IntOp.cmpi .eq (IntOp.andi x 65535#32) (BitVec.ofNat 32 c.val) = 1#1 := by
      simp [IntOp.cmpi, IntOp.andi, h]
    rw [this]
    rfl
  · rw [if_neg h]
    have : IntOp.cmpi .eq (IntOp.andi x 65535#32) (BitVec.ofNat 32 c.val) = 0#1 := by
      simp only [IntOp.cmpi, IntOp.andi]
      rw [beq_false_of_ne h]
      rfl
    rw [this]
    simp [Scalar.select]

/-- The reference's result, at an element. -/
theorem ref_apply (V0 : Valuation τ sig (Elt Ideal)) (x : S8192x2560.Idx → EReal) (q : S3x864x2560.Idx → BitVec 8) (qs qz : S3x864x160.Idx → BitVec 8)
    (ss zs sz zz : S432x160.Idx → EReal) (tb : S2x216x8x128.Idx → BitVec 32) (hx : V0 (Proc.devRef .tc main_arg0) = x)
    (hq : V0 (Proc.devRef .tc main_arg1) = q) (hqs : V0 (Proc.devRef .tc main_arg2) = qs) (hqz : V0 (Proc.devRef .tc main_arg3) = qz)
    (hss : V0 (Proc.devRef .tc main_arg4) = ss) (hzs : V0 (Proc.devRef .tc main_arg5) = zs) (hsz : V0 (Proc.devRef .tc main_arg6) = sz)
    (hzz : V0 (Proc.devRef .tc main_arg7) = zz) (ht : V0 (Proc.devRef .tc main_arg8) = tb) (i : Fin 8192) (j : Fin 6912) :
    (truncf .bf16 (Host.dotGeneral (F := Ideal) (φ₁ := .bf16) (φ₂ := .bf16) dot_S8192x2560_S6912x2560_S8192x6912_1_1_0_0_n_n none ((V0) (Proc.devRef .tc main_arg0)) (addf (shapeCast _ (res_main_v127 (V0)) shapeCasts_S6912x160x16_S6912x2560) (select (cmpi .eq (andi (res_main_v147 (V0)) (broadcastInDim S6912x2560 ![] bcast_S_S6912x2560 (constantI S_ 32 65535#32))) (res_main_v140 (V0))) (truncf .bf16 (bitcastToFloat (F := Ideal) .f32 (andi (res_main_v147 (V0)) (broadcastInDim S6912x2560 ![] bcast_S_S6912x2560 (constantI S_ 32 4294901760#32)))) bitsLt_bf16_f32) (broadcastInDim S6912x2560 ![] bcast_S_S6912x2560 (constant (F := Ideal) S_ .bf16 0x0000#16))))) bitsLt_bf16_f32 : FVec Ideal S8192x6912 .bf16) (ix2 i j)
      = linear x q qs qz ss zs sz zz tb i j := by
  have hd := dense_apply V0 q qs qz ss zs sz zz hq hqs hqz hss hzs hsz hzz
  have hw := word_apply V0 tb ht
  have hv : ∀ (r : Fin 6912) (c : Fin 2560), (res_main_v140 V0 : S6912x2560.Idx → BitVec 32) (ix2 r c) = BitVec.ofNat 32 c.val := by
    intro r c
    unfold res_main_v140
    pointwise
  rw [hx]
  generalize (res_main_v127 V0 : S6912x160x16.Idx → EReal) = D at hd ⊢
  generalize (res_main_v147 V0 : S6912x2560.Idx → BitVec 32) = W at hw ⊢
  generalize (res_main_v140 V0 : S6912x2560.Idx → BitVec 32) = C at hv ⊢
  have ho := fun (r : Fin 6912) (c : Fin 2560) => outlier_apply W C r c _ (hw r c) (hv r c)
  generalize (select (cmpi .eq (andi W (broadcastInDim S6912x2560 ![] bcast_S_S6912x2560 (constantI S_ 32 65535#32))) C)
      (truncf .bf16 (bitcastToFloat (F := Ideal) .f32 (andi W (broadcastInDim S6912x2560 ![] bcast_S_S6912x2560 (constantI S_ 32 4294901760#32)))) bitsLt_bf16_f32)
      (broadcastInDim S6912x2560 ![] bcast_S_S6912x2560 (constant (F := Ideal) S_ .bf16 0x0000#16)) : FVec Ideal S6912x2560 .bf16) = O at ho ⊢
  unfold linear
  pointwise
  refine Finset.sum_congr rfl fun k _ => ?_
  rw [hd, ho]
  unfold weight
  have e : ∀ h, (⟨k.val / 16 * 16 + k.val % 16, h⟩ : Fin 2560) = k := fun h => Fin.ext (by show k.val / 16 * 16 + k.val % 16 = k.val; omega)
  simp only [e]

end Cert.RefValue

end
-- ==== Proof.lean ====
/- The certificate's proof: the kernel, read at the machine's floats (`Kernel`) and over the extended reals
   (`KernelIdeal`), and the reference over the extended reals (`ReferenceIdeal`) run to the end, leave their nine
   arguments as they were and every semaphore at zero; and over the extended reals kernel and reference end with
   the same result. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Kernel.Frame
public import proofs.«01_k».proof.Proof.KernelIdeal.Frame
public import proofs.«01_k».proof.Proof.Value.Array
public import proofs.«01_k».proof.Proof.Value.RefValue

@[expose] public section

noncomputable section

namespace Cert.Proof

open Idealize.ShloMosaic Idealize.SL.Sem

/-- The reference runs to the end, leaves its arguments as they were and has no semaphore to leave raised. -/
theorem quiescent_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- Kernel and reference, over the extended reals and from the same arguments, end with the same result: the product
    of the input and the weight that the codes, the second level and the table of outliers stand for. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Value.linearArr (Cert.KernelIdeal.Gen.V m c Cert.KernelIdeal.main_arg0) (Cert.KernelIdeal.Gen.V m c Cert.KernelIdeal.main_arg1)
    (Cert.KernelIdeal.Gen.V m c Cert.KernelIdeal.main_arg2) (Cert.KernelIdeal.Gen.V m c Cert.KernelIdeal.main_arg3)
    (Cert.KernelIdeal.Gen.V m c Cert.KernelIdeal.main_arg4) (Cert.KernelIdeal.Gen.V m c Cert.KernelIdeal.main_arg5)
    (Cert.KernelIdeal.Gen.V m c Cert.KernelIdeal.main_arg6) (Cert.KernelIdeal.Gen.V m c Cert.KernelIdeal.main_arg7)
    (Cert.KernelIdeal.Gen.V m c Cert.KernelIdeal.main_arg8), ?_, ?_⟩
  · exact (θ_run Cert.KernelIdeal.defs _ _).mono (fun r h c => ⟨h.1 c, h.2 c⟩) (Cert.Value.run_value m g)
  · refine (θ_run Cert.ReferenceIdeal.defs _ _).mono (fun r h c => ⟨(h c).1.trans ?_, (h c).2⟩) (Cert.ReferenceIdeal.Value.run m' g')
    obtain ⟨h0, h1, h2, h3, h4, h5, h6, h7, h8⟩ := hargs c
    refine funext fun (y : Cert.ReferenceIdeal.S8192x6912.Idx) => ?_
    rw [eq_ix2 y]
    exact Cert.RefValue.ref_apply _ _ _ _ _ _ _ _ _ _ h0 h1 h2 h3 h4 h5 h6 h7 h8 (y 0) (y 1)

/-- Everything the certificate claims. -/
theorem claim : Cert.Claim :=
  ⟨Cert.Kernel.Gen.facts, Cert.KernelIdeal.Gen.facts, Cert.ReferenceIdeal.Gen.facts, fun m g _ => Cert.Kernel.Hand.frame m g,
    fun m g _ => Cert.KernelIdeal.Hand.frame m g, quiescent_reference, trivial, algebraic⟩

end Cert.Proof

end
